-- ==== Defs.lean ====
def Pre_Kernel [hPre_slots_in_range : Cert.Pre_slots_in_range.Facts] (m : (ℓ : Loc Cert.Kernel.nD Cert.Kernel.τ Cert.Kernel.sig) → Buf (Elt Bits) ℓ) : Prop :=
  ∀ c : Dev Cert.Kernel.nD,
    (Cert.Pre_slots_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_slots_in_range : Cert.Pre_slots_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_slots_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_in_range [hPre_slots_in_range : Cert.Pre_slots_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference [hPre_slots_in_range : Cert.Pre_slots_in_range.Facts] (m : (ℓ : Loc Cert.Reference.nD Cert.Reference.τ Cert.Reference.sig) → Buf (Elt Bits) ℓ) : Prop :=
  ∀ c : Dev Cert.Reference.nD,
    (Cert.Pre_slots_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_inputs [hPre_finite_inputs : Cert.Pre_finite_inputs.Facts] (m : (ℓ : Loc Cert.RouterIdeal.nD Cert.RouterIdeal.τ Cert.RouterIdeal.sig) → Buf (Elt Ideal) ℓ) : Prop :=
  ∀ c : Dev Cert.RouterIdeal.nD,
    (Cert.Pre_finite_inputs.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite_inputs [hPre_finite_inputs : Cert.Pre_finite_inputs.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite_inputs.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2))) = (fun _ => 1#1)

def Pre_Experts [hPre_table_of_tiles : Cert.Pre_table_of_tiles.Facts] (m : (ℓ : Loc Cert.Experts.nD Cert.Experts.τ Cert.Experts.sig) → Buf (Elt Bits) ℓ) : Prop :=
  ∀ c : Dev Cert.Experts.nD,
    (Cert.Pre_table_of_tiles.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_table_of_tiles : Cert.Pre_table_of_tiles.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_table_of_tiles.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_table_of_tiles [hPre_table_of_tiles : Cert.Pre_table_of_tiles.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_table_of_tiles.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))) = (fun _ => 1#1)

def quiescent_Kernel [hKernel : Cert.Kernel.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_slots_in_range [hReferenceIdeal : Cert.ReferenceIdeal.Facts] [hPre_slots_in_range : Cert.Pre_slots_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_slots_in_range : Cert.Pre_slots_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_finite_inputs [hRouterIdeal : Cert.RouterIdeal.Facts] [hPre_finite_inputs : Cert.Pre_finite_inputs.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_inputs m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_RouterReferenceIdeal_pre_finite_inputs [hRouterReferenceIdeal : Cert.RouterReferenceIdeal.Facts] [hPre_finite_inputs : Cert.Pre_finite_inputs.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite_inputs m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_Experts [hExperts : Cert.Experts.Facts] [hPre_table_of_tiles : Cert.Pre_table_of_tiles.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_table_of_tiles : Cert.Pre_table_of_tiles.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_table_of_tiles [hExpertsReferenceIdeal : Cert.ExpertsReferenceIdeal.Facts] [hPre_table_of_tiles : Cert.Pre_table_of_tiles.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_table_of_tiles m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_in_range : Cert.Pre_slots_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] [hPre_slots_in_range : Cert.Pre_slots_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v20) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def preserves_Router_RouterIdeal : Prop :=
  True

def algebraic_RouterIdeal_RouterReferenceIdeal_pre_finite_inputs [hRouterIdeal : Cert.RouterIdeal.Facts] [hRouterReferenceIdeal : Cert.RouterReferenceIdeal.Facts] [hPre_finite_inputs : Cert.Pre_finite_inputs.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite_inputs m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v1_5)) (v1 : (c : Dev Cert.RouterIdeal.nD) → Buf (Elt Ideal) ((c.tc : Thread Cert.RouterIdeal.nD Cert.RouterIdeal.τ).loc Cert.RouterIdeal.main_v1_2)) (v2 : (c : Dev Cert.RouterIdeal.nD) → Buf (Elt Ideal) ((c.tc : Thread Cert.RouterIdeal.nD Cert.RouterIdeal.τ).loc Cert.RouterIdeal.main_v1_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1_5) = v0 c
          ∧ r.2.mem ((c.tc : Thread Cert.RouterIdeal.nD Cert.RouterIdeal.τ).loc Cert.RouterIdeal.main_v1_2) = v1 c
          ∧ r.2.mem ((c.tc : Thread Cert.RouterIdeal.nD Cert.RouterIdeal.τ).loc Cert.RouterIdeal.main_v1_3) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v22) = v0 c
          ∧ r.2.mem ((c.tc : Thread Cert.RouterReferenceIdeal.nD Cert.RouterReferenceIdeal.τ).loc Cert.RouterReferenceIdeal.main_v23) = v1 c
          ∧ r.2.mem ((c.tc : Thread Cert.RouterReferenceIdeal.nD Cert.RouterReferenceIdeal.τ).loc Cert.RouterReferenceIdeal.main_v24) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2))

def preserves_Experts_ExpertsIdeal : Prop :=
  True

def algebraic_ExpertsIdeal_ExpertsReferenceIdeal_on_rows_used [hExpertsIdeal : Cert.ExpertsIdeal.Facts] [hExpertsReferenceIdeal : Cert.ExpertsReferenceIdeal.Facts] [hPre_table_of_tiles : Cert.Pre_table_of_tiles.Facts] [hOn_rows_used : Cert.On_rows_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![6144, 1024]⟩ : Shape).Idx, (Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsIdeal.nD Cert.ExpertsIdeal.τ).loc Cert.ExpertsIdeal.main_v2) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![6144, 1024]⟩ : Shape).Idx, (Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) i = 1#1 → r.2.mem ((c.tc : Thread Cert.ExpertsReferenceIdeal.nD Cert.ExpertsReferenceIdeal.τ).loc Cert.ExpertsReferenceIdeal.main_v21) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hRouter : Cert.Router.Facts) (hRouterIdeal : Cert.RouterIdeal.Facts) (hRouterReferenceIdeal : Cert.RouterReferenceIdeal.Facts) (hExperts : Cert.Experts.Facts) (hExpertsIdeal : Cert.ExpertsIdeal.Facts) (hExpertsReferenceIdeal : Cert.ExpertsReferenceIdeal.Facts) (hPre_slots_in_range : Cert.Pre_slots_in_range.Facts) (hPre_finite_inputs : Cert.Pre_finite_inputs.Facts) (hPre_table_of_tiles : Cert.Pre_table_of_tiles.Facts) (hOn_rows_used : Cert.On_rows_used.Facts),
    quiescent_Kernel (hKernel := hKernel) (hPre_slots_in_range := hPre_slots_in_range)
    ∧ quiescent_KernelIdeal (hKernelIdeal := hKernelIdeal) (hPre_slots_in_range := hPre_slots_in_range)
    ∧ quiescent_ReferenceIdeal (hReferenceIdeal := hReferenceIdeal)
    ∧ quiescent_ReferenceIdeal_pre_slots_in_range (hReferenceIdeal := hReferenceIdeal) (hPre_slots_in_range := hPre_slots_in_range)
    ∧ quiescent_Reference (hReference := hReference) (hPre_slots_in_range := hPre_slots_in_range)
    ∧ quiescent_Router (hRouter := hRouter)
    ∧ quiescent_RouterIdeal (hRouterIdeal := hRouterIdeal)
    ∧ quiescent_RouterIdeal_pre_finite_inputs (hRouterIdeal := hRouterIdeal) (hPre_finite_inputs := hPre_finite_inputs)
    ∧ quiescent_RouterReferenceIdeal (hRouterReferenceIdeal := hRouterReferenceIdeal)
    ∧ quiescent_RouterReferenceIdeal_pre_finite_inputs (hRouterReferenceIdeal := hRouterReferenceIdeal) (hPre_finite_inputs := hPre_finite_inputs)
    ∧ quiescent_Experts (hExperts := hExperts) (hPre_table_of_tiles := hPre_table_of_tiles)
    ∧ quiescent_ExpertsIdeal (hExpertsIdeal := hExpertsIdeal) (hPre_table_of_tiles := hPre_table_of_tiles)
    ∧ quiescent_ExpertsReferenceIdeal (hExpertsReferenceIdeal := hExpertsReferenceIdeal)
    ∧ quiescent_ExpertsReferenceIdeal_pre_table_of_tiles (hExpertsReferenceIdeal := hExpertsReferenceIdeal) (hPre_table_of_tiles := hPre_table_of_tiles)
    ∧ preserves_Kernel_KernelIdeal
    ∧ algebraic_KernelIdeal_ReferenceIdeal (hKernelIdeal := hKernelIdeal) (hReferenceIdeal := hReferenceIdeal) (hPre_slots_in_range := hPre_slots_in_range)
    ∧ bitexact_Kernel_Reference (hKernel := hKernel) (hReference := hReference) (hPre_slots_in_range := hPre_slots_in_range)
    ∧ preserves_Router_RouterIdeal
    ∧ algebraic_RouterIdeal_RouterReferenceIdeal_pre_finite_inputs (hRouterIdeal := hRouterIdeal) (hRouterReferenceIdeal := hRouterReferenceIdeal) (hPre_finite_inputs := hPre_finite_inputs)
    ∧ preserves_Experts_ExpertsIdeal
    ∧ algebraic_ExpertsIdeal_ExpertsReferenceIdeal_on_rows_used (hExpertsIdeal := hExpertsIdeal) (hExpertsReferenceIdeal := hExpertsReferenceIdeal) (hPre_table_of_tiles := hPre_table_of_tiles) (hOn_rows_used := hOn_rows_used)
-- ==== On_rows_used.lean ====
abbrev S97 : Shape := ⟨1, ![97]⟩
abbrev S6144x1024 : Shape := ⟨2, ![6144, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S24 : Shape := ⟨1, ![24]⟩
abbrev S_ : Shape := ⟨0, ![]⟩
abbrev S1 : Shape := ⟨1, ![1]⟩
abbrev S24x1x1 : Shape := ⟨3, ![24, 1, 1]⟩
abbrev S24x256x1024 : Shape := ⟨3, ![24, 256, 1024]⟩

class Facts : Prop where
  bcast_S_S24 : S_.BroadcastsInDim S24 (![] : Fin 0 → Fin S24.rank)
  slices_S97_S1_96 : S97.Slices ![96] S1
  shapeCasts_S1_S_ : S1.ShapeCasts S_
  bcast_S24_S24x1x1_0 : S24.BroadcastsInDim S24x1x1 (![0] : Fin 1 → Fin S24x1x1.rank)
  bcast_S24x1x1_S24x256x1024_0_1_2 : S24x1x1.BroadcastsInDim S24x256x1024 (![0, 1, 2] : Fin 3 → Fin S24x256x1024.rank)
  shapeCasts_S24x256x1024_S6144x1024 : S24x256x1024.ShapeCasts S6144x1024

variable [Facts]

def fn {F : FTy → Type} [FloatOps F] (main_arg0 : IVec S97 32) (main_arg1 : FVec F S6144x1024 .f32) (main_arg2 : FVec F S8x1024x2048 .f32) (main_arg3 : FVec F S8x2048 .f32) (main_arg4 : FVec F S8x2048x1024 .f32) (main_arg5 : FVec F S8x1024 .f32) : IVec S6144x1024 1 :=
  let main_v0 : IVec S24 32 := iotaInDim S24 32 0
  let main_c : IVec S_ 32 := constantI S_ 32 256#32
  let main_v1 : IVec S24 32 := broadcastInDim S24 ![] bcast_S_S24 main_c
  let main_v2 : IVec S24 32 := muli main_v0 main_v1
  let main_v3 : IVec S1 32 := (extractStridedSlice S1 ![96] · slices_S97_S1_96) main_arg0
  let main_v4 : IVec S_ 32 := shapeCast S_ main_v3 shapeCasts_S1_S_
  let main_v5 : IVec S24 32 := broadcastInDim S24 ![] bcast_S_S24 main_v4
  let main_v6 : IVec S24 1 := cmpi .slt main_v2 main_v5
  let main_v7 : IVec S24x1x1 1 := broadcastInDim S24x1x1 ![0] bcast_S24_S24x1x1_0 main_v6
  let main_v8 : IVec S24x256x1024 1 := broadcastInDim S24x256x1024 ![0, 1, 2] bcast_S24x1x1_S24x256x1024_0_1_2 main_v7
  let main_v9 : IVec S6144x1024 1 := shapeCast S6144x1024 main_v8 shapeCasts_S24x256x1024_S6144x1024
  main_v9
-- ==== Pre_finite_inputs.lean ====
abbrev S2048x1024 : Shape := ⟨2, ![2048, 1024]⟩
abbrev S1024x8 : Shape := ⟨2, ![1024, 8]⟩
abbrev S8 : Shape := ⟨1, ![8]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2048x1024 .f32) (main_arg1 : FVec F S1024x8 .f32) (main_arg2 : FVec F S8 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_slots_in_range.lean ====
abbrev S6144x1024 : Shape := ⟨2, ![6144, 1024]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S6144x1024 .f32) (main_arg1 : IVec S2048 32) (main_arg2 : IVec S2048 32) (main_arg3 : FVec F S2048 .f32) (main_arg4 : FVec F S2048 .f32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 1 := constantI S_ 1 1#1
  let main_v2 : IVec S_ 1 := (fun x v => Host.reduce IntOp.andi x v reducesTo_S2048_S_d0 h_S_) main_v1 main_c_0
  let main_c_1 : IVec S_ 32 := constantI S_ 32 6144#32
  let main_v3 : IVec S2048 32 := broadcastInDim S2048 ![] bcast_S_S2048 main_c_1
  let main_v4 : IVec S2048 1 := cmpi .slt main_arg1 main_v3
  let main_c_2 : IVec S_ 1 := constantI S_ 1 1#1
  let main_v5 : IVec S_ 1 := (fun x v => Host.reduce IntOp.andi x v reducesTo_S2048_S_d0 h_S_) main_v4 main_c_2
  let main_v6 : IVec S_ 1 := andi main_v2 main_v5
  let main_c_3 : IVec S_ 32 := constantI S_ 32 0#32
  let main_v7 : IVec S2048 32 := broadcastInDim S2048 ![] bcast_S_S2048 main_c_3
  let main_v8 : IVec S2048 1 := cmpi .sge main_arg2 main_v7
  let main_c_4 : IVec S_ 1 := constantI S_ 1 1#1
  let main_v9 : IVec S_ 1 := (fun x v => Host.reduce IntOp.andi x v reducesTo_S2048_S_d0 h_S_) main_v8 main_c_4
  let main_v10 : IVec S_ 1 := andi main_v6 main_v9
  let main_c_5 : IVec S_ 32 := constantI S_ 32 6144#32
  let main_v11 : IVec S2048 32 := broadcastInDim S2048 ![] bcast_S_S2048 main_c_5
  let main_v12 : IVec S2048 1 := cmpi .slt main_arg2 main_v11
  let main_c_6 : IVec S_ 1 := constantI S_ 1 1#1
  let main_v13 : IVec S_ 1 := (fun x v => Host.reduce IntOp.andi x v reducesTo_S2048_S_d0 h_S_) main_v12 main_c_6
  let main_v14 : IVec S_ 1 := andi main_v10 main_v13
  main_v14
-- ==== Pre_table_of_tiles.lean ====
abbrev S97 : Shape := ⟨1, ![97]⟩
abbrev S6144x1024 : Shape := ⟨2, ![6144, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S96 : Shape := ⟨1, ![96]⟩
abbrev S4x24 : Shape := ⟨2, ![4, 24]⟩
abbrev S1x24 : Shape := ⟨2, ![1, 24]⟩
abbrev S24 : Shape := ⟨1, ![24]⟩
abbrev S_ : Shape := ⟨0, ![]⟩
abbrev S1 : Shape := ⟨1, ![1]⟩
abbrev S23 : Shape := ⟨1, ![23]⟩

class Facts : Prop where
  slices_S97_S96_0 : S97.Slices ![0] S96
  shapeCasts_S96_S4x24 : S96.ShapeCasts S4x24
  slices_S4x24_S1x24_0_0 : S4x24.Slices ![0, 0] S1x24
  shapeCasts_S1x24_S24 : S1x24.ShapeCasts S24
  slices_S4x24_S1x24_1_0 : S4x24.Slices ![1, 0] S1x24
  slices_S4x24_S1x24_2_0 : S4x24.Slices ![2, 0] S1x24
  slices_S4x24_S1x24_3_0 : S4x24.Slices ![3, 0] S1x24
  bcast_S_S24 : S_.BroadcastsInDim S24 (![] : Fin 0 → Fin S24.rank)
  slices_S97_S1_96 : S97.Slices ![96] S1
  shapeCasts_S1_S_ : S1.ShapeCasts S_
  slices_S24_S23_1 : S24.Slices ![1] S23
  bcast_S_S23 : S_.BroadcastsInDim S23 (![] : Fin 0 → Fin S23.rank)
  slices_S24_S23_0 : S24.Slices ![0] S23
  reducesTo_S24_S_d0 : S24.ReducesTo [0] S_
  h_S_ : 0 < S_.numel
  slices_S24_S1_0 : S24.Slices ![0] S1
  reducesTo_S23_S_d0 : S23.ReducesTo [0] S_
  slices_S24_S1_23 : S24.Slices ![23] S1

variable [Facts]

def fn_where {F : FTy → Type} [FloatOps F] (arg0 : IVec S23 1) (arg1 : IVec S23 1) (arg2 : IVec S23 1) : IVec S23 1 :=
  let v0 : IVec S23 1 := select arg0 arg1 arg2
  v0

def fn_part4 {F : FTy → Type} [FloatOps F] (main_v16 : IVec S24 1) (main_v49 : IVec S24 1) (main_v76 : IVec S_ 1) (main_v77 : IVec S23 1) (main_v78 : IVec S23 1) (main_v82 : IVec S23 1) : IVec S_ 1 :=
  let main_v83 : IVec S23 1 := fn_where (F := F) main_v77 main_v78 main_v82
  let main_c_12 : IVec S_ 1 := constantI S_ 1 1#1
  let main_v84 : IVec S_ 1 := (fun x v => Host.reduce IntOp.andi x v reducesTo_S23_S_d0 h_S_) main_v83 main_c_12
  let main_v85 : IVec S_ 1 := andi main_v76 main_v84
  let main_v86 : IVec S1 1 := (extractStridedSlice S1 ![23] · slices_S24_S1_23) main_v16
  let main_v87 : IVec S_ 1 := shapeCast S_ main_v86 shapeCasts_S1_S_
  let main_v88 : IVec S_ 1 := noti main_v87
  let main_v89 : IVec S1 1 := (extractStridedSlice S1 ![23] · slices_S24_S1_23) main_v49
  let main_v90 : IVec S_ 1 := shapeCast S_ main_v89 shapeCasts_S1_S_
  let main_v91 : IVec S_ 1 := ori main_v88 main_v90
  let main_v92 : IVec S_ 1 := andi main_v85 main_v91
  main_v92

def fn_part3 {F : FTy → Type} [FloatOps F] (main_v5 : IVec S24 32) (main_v7 : IVec S24 32) (main_v16 : IVec S24 1) (main_v31 : IVec S23 1) (main_v48 : IVec S23 1) (main_v49 : IVec S24 1) (main_v61 : IVec S_ 1) (main_c_8 : IVec S_ 32) : IVec S_ 1 :=
  let main_v62 : IVec S24 32 := broadcastInDim S24 ![] bcast_S_S24 main_c_8
  let main_v63 : IVec S24 1 := cmpi .eq main_v5 main_v62
  let main_c_9 : IVec S_ 32 := constantI S_ 32 1#32
  let main_v64 : IVec S24 32 := broadcastInDim S24 ![] bcast_S_S24 main_c_9
  let main_v65 : IVec S24 1 := cmpi .eq main_v5 main_v64
  let main_v66 : IVec S24 1 := ori main_v63 main_v65
  let main_c_10 : IVec S_ 1 := constantI S_ 1 1#1
  let main_v67 : IVec S_ 1 := (fun x v => Host.reduce IntOp.andi x v reducesTo_S24_S_d0 h_S_) main_v66 main_c_10
  let main_v68 : IVec S_ 1 := andi main_v61 main_v67
  let main_v69 : IVec S1 1 := (extractStridedSlice S1 ![0] · slices_S24_S1_0) main_v16
  let main_v70 : IVec S_ 1 := shapeCast S_ main_v69 shapeCasts_S1_S_
  let main_v71 : IVec S_ 1 := noti main_v70
  let main_v72 : IVec S1 32 := (extractStridedSlice S1 ![0] · slices_S24_S1_0) main_v7
  let main_v73 : IVec S_ 32 := shapeCast S_ main_v72 shapeCasts_S1_S_
  let main_c_11 : IVec S_ 32 := constantI S_ 32 1#32
  let main_v74 : IVec S_ 1 := cmpi .eq main_v73 main_c_11
  let main_v75 : IVec S_ 1 := ori main_v71 main_v74
  let main_v76 : IVec S_ 1 := andi main_v68 main_v75
  let main_v77 : IVec S23 1 := (extractStridedSlice S23 ![1] · slices_S24_S23_1) main_v16
  let main_v78 : IVec S23 1 := ori main_v31 main_v48
  let main_v79 : IVec S23 1 := (extractStridedSlice S23 ![0] · slices_S24_S23_0) main_v16
  let main_v80 : IVec S23 1 := noti main_v79
  let main_v81 : IVec S23 1 := (extractStridedSlice S23 ![0] · slices_S24_S23_0) main_v49
  let main_v82 : IVec S23 1 := ori main_v80 main_v81
  fn_part4 (F := F) main_v16 main_v49 main_v76 main_v77 main_v78 main_v82

def fn_part2 {F : FTy → Type} [FloatOps F] (main_v3 : IVec S24 32) (main_v5 : IVec S24 32) (main_v7 : IVec S24 32) (main_v9 : IVec S24 32) (main_v16 : IVec S24 1) (main_v31 : IVec S23 1) (main_v38 : IVec S23 1) (main_v43 : IVec S23 1) : IVec S_ 1 :=
  let main_v44 : IVec S23 1 := andi main_v38 main_v43
  let main_v45 : IVec S23 32 := (extractStridedSlice S23 ![0] · slices_S24_S23_0) main_v9
  let main_v46 : IVec S23 32 := (extractStridedSlice S23 ![0] · slices_S24_S23_0) main_v3
  let main_v47 : IVec S23 1 := cmpi .ne main_v45 main_v46
  let main_v48 : IVec S23 1 := andi main_v44 main_v47
  let main_v49 : IVec S24 1 := cmpi .eq main_v9 main_v3
  let main_c_3 : IVec S_ 32 := constantI S_ 32 0#32
  let main_v50 : IVec S24 32 := broadcastInDim S24 ![] bcast_S_S24 main_c_3
  let main_v51 : IVec S24 1 := cmpi .sge main_v3 main_v50
  let main_c_4 : IVec S_ 32 := constantI S_ 32 8#32
  let main_v52 : IVec S24 32 := broadcastInDim S24 ![] bcast_S_S24 main_c_4
  let main_v53 : IVec S24 1 := cmpi .slt main_v3 main_v52
  let main_v54 : IVec S24 1 := andi main_v51 main_v53
  let main_c_5 : IVec S_ 32 := constantI S_ 32 0#32
  let main_v55 : IVec S24 32 := broadcastInDim S24 ![] bcast_S_S24 main_c_5
  let main_v56 : IVec S24 1 := cmpi .sge main_v9 main_v55
  let main_v57 : IVec S24 1 := andi main_v54 main_v56
  let main_c_6 : IVec S_ 32 := constantI S_ 32 8#32
  let main_v58 : IVec S24 32 := broadcastInDim S24 ![] bcast_S_S24 main_c_6
  let main_v59 : IVec S24 1 := cmpi .slt main_v9 main_v58
  let main_v60 : IVec S24 1 := andi main_v57 main_v59
  let main_c_7 : IVec S_ 1 := constantI S_ 1 1#1
  let main_v61 : IVec S_ 1 := (fun x v => Host.reduce IntOp.andi x v reducesTo_S24_S_d0 h_S_) main_v60 main_c_7
  let main_c_8 : IVec S_ 32 := constantI S_ 32 0#32
  fn_part3 (F := F) main_v5 main_v7 main_v16 main_v31 main_v48 main_v49 main_v61 main_c_8

def fn_part1 {F : FTy → Type} [FloatOps F] (main_v3 : IVec S24 32) (main_v5 : IVec S24 32) (main_v7 : IVec S24 32) (main_v9 : IVec S24 32) (main_v16 : IVec S24 1) (main_v19 : IVec S23 1) (main_v20 : IVec S23 32) (main_v21 : IVec S23 32) : IVec S_ 1 :=
  let main_v22 : IVec S23 1 := cmpi .eq main_v20 main_v21
  let main_v23 : IVec S23 1 := andi main_v19 main_v22
  let main_v24 : IVec S23 32 := (extractStridedSlice S23 ![1] · slices_S24_S23_1) main_v5
  let main_v25 : IVec S23 32 := (extractStridedSlice S23 ![0] · slices_S24_S23_0) main_v5
  let main_v26 : IVec S23 1 := cmpi .eq main_v24 main_v25
  let main_v27 : IVec S23 1 := andi main_v23 main_v26
  let main_v28 : IVec S23 32 := (extractStridedSlice S23 ![1] · slices_S24_S23_1) main_v9
  let main_v29 : IVec S23 32 := (extractStridedSlice S23 ![0] · slices_S24_S23_0) main_v9
  let main_v30 : IVec S23 1 := cmpi .eq main_v28 main_v29
  let main_v31 : IVec S23 1 := andi main_v27 main_v30
  let main_v32 : IVec S23 32 := (extractStridedSlice S23 ![1] · slices_S24_S23_1) main_v7
  let main_c_1 : IVec S_ 32 := constantI S_ 32 1#32
  let main_v33 : IVec S23 32 := broadcastInDim S23 ![] bcast_S_S23 main_c_1
  let main_v34 : IVec S23 1 := cmpi .eq main_v32 main_v33
  let main_v35 : IVec S23 32 := (extractStridedSlice S23 ![1] · slices_S24_S23_1) main_v3
  let main_v36 : IVec S23 32 := (extractStridedSlice S23 ![0] · slices_S24_S23_0) main_v9
  let main_v37 : IVec S23 1 := cmpi .eq main_v35 main_v36
  let main_v38 : IVec S23 1 := andi main_v34 main_v37
  let main_v39 : IVec S23 32 := (extractStridedSlice S23 ![1] · slices_S24_S23_1) main_v5
  let main_v40 : IVec S23 32 := (extractStridedSlice S23 ![0] · slices_S24_S23_0) main_v5
  let main_c_2 : IVec S_ 32 := constantI S_ 32 1#32
  let main_v41 : IVec S23 32 := broadcastInDim S23 ![] bcast_S_S23 main_c_2
  let main_v42 : IVec S23 32 := subi main_v41 main_v40
  let main_v43 : IVec S23 1 := cmpi .eq main_v39 main_v42
  fn_part2 (F := F) main_v3 main_v5 main_v7 main_v9 main_v16 main_v31 main_v38 main_v43

def fn {F : FTy → Type} [FloatOps F] (main_arg0 : IVec S97 32) (main_arg1 : FVec F S6144x1024 .f32) (main_arg2 : FVec F S8x1024x2048 .f32) (main_arg3 : FVec F S8x2048 .f32) (main_arg4 : FVec F S8x2048x1024 .f32) (main_arg5 : FVec F S8x1024 .f32) : IVec S_ 1 :=
  let main_v0 : IVec S96 32 := (extractStridedSlice S96 ![0] · slices_S97_S96_0) main_arg0
  let main_v1 : IVec S4x24 32 := shapeCast S4x24 main_v0 shapeCasts_S96_S4x24
  let main_v2 : IVec S1x24 32 := (extractStridedSlice S1x24 ![0, 0] · slices_S4x24_S1x24_0_0) main_v1
  let main_v3 : IVec S24 32 := shapeCast S24 main_v2 shapeCasts_S1x24_S24
  let main_v4 : IVec S1x24 32 := (extractStridedSlice S1x24 ![1, 0] · slices_S4x24_S1x24_1_0) main_v1
  let main_v5 : IVec S24 32 := shapeCast S24 main_v4 shapeCasts_S1x24_S24
  let main_v6 : IVec S1x24 32 := (extractStridedSlice S1x24 ![2, 0] · slices_S4x24_S1x24_2_0) main_v1
  let main_v7 : IVec S24 32 := shapeCast S24 main_v6 shapeCasts_S1x24_S24
  let main_v8 : IVec S1x24 32 := (extractStridedSlice S1x24 ![3, 0] · slices_S4x24_S1x24_3_0) main_v1
  let main_v9 : IVec S24 32 := shapeCast S24 main_v8 shapeCasts_S1x24_S24
  let main_v10 : IVec S24 32 := iotaInDim S24 32 0
  let main_c : IVec S_ 32 := constantI S_ 32 256#32
  let main_v11 : IVec S24 32 := broadcastInDim S24 ![] bcast_S_S24 main_c
  let main_v12 : IVec S24 32 := muli main_v10 main_v11
  let main_v13 : IVec S1 32 := (extractStridedSlice S1 ![96] · slices_S97_S1_96) main_arg0
  let main_v14 : IVec S_ 32 := shapeCast S_ main_v13 shapeCasts_S1_S_
  let main_v15 : IVec S24 32 := broadcastInDim S24 ![] bcast_S_S24 main_v14
  let main_v16 : IVec S24 1 := cmpi .slt main_v12 main_v15
  let main_v17 : IVec S23 32 := (extractStridedSlice S23 ![1] · slices_S24_S23_1) main_v7
  let main_c_0 : IVec S_ 32 := constantI S_ 32 1#32
  let main_v18 : IVec S23 32 := broadcastInDim S23 ![] bcast_S_S23 main_c_0
  let main_v19 : IVec S23 1 := cmpi .ne main_v17 main_v18
  let main_v20 : IVec S23 32 := (extractStridedSlice S23 ![1] · slices_S24_S23_1) main_v3
  let main_v21 : IVec S23 32 := (extractStridedSlice S23 ![0] · slices_S24_S23_0) main_v3
  fn_part1 (F := F) main_v3 main_v5 main_v7 main_v9 main_v16 main_v19 main_v20 main_v21
-- ==== Kernel.lean ====
abbrev S6144x1024 : Shape := ⟨2, ![6144, 1024]⟩
abbrev S2048 : Shape := ⟨1, ![2048]⟩
abbrev S2048x1024 : Shape := ⟨2, ![2048, 1024]⟩
abbrev S32x1024 : Shape := ⟨2, ![32, 1024]⟩
abbrev S32 : Shape := ⟨1, ![32]⟩
abbrev S_ : Shape := ⟨0, ![]⟩
abbrev S32x128 : Shape := ⟨2, ![32, 128]⟩
abbrev S6144x128 : Shape := ⟨2, ![6144, 128]⟩
abbrev S16 : Shape := ⟨1, ![16]⟩
abbrev S1x16 : Shape := ⟨2, ![1, 16]⟩

abbrev nBuf : Table → Nat
  | .hbm => 6
  | .local .scVector .vmem => 6
  | _ => 0

abbrev bufTy : (tb : Table) → Fin (nBuf tb) → BufTy
  | .hbm, ⟨0, _⟩ => ⟨S6144x1024, .f32⟩
  | .hbm, ⟨1, _⟩ => ⟨S2048, .i32⟩
  | .hbm, ⟨2, _⟩ => ⟨S2048, .i32⟩
  | .hbm, ⟨3, _⟩ => ⟨S2048, .f32⟩
  | .hbm, ⟨4, _⟩ => ⟨S2048, .f32⟩
  | .hbm, ⟨5, _⟩ => ⟨S2048x1024, .f32⟩
  | .local .scVector .vmem, ⟨0, _⟩ => ⟨S32x1024, .f32⟩
  | .local .scVector .vmem, ⟨1, _⟩ => ⟨S32x1024, .f32⟩
  | .local .scVector .vmem, ⟨2, _⟩ => ⟨S32, .i32⟩
  | .local .scVector .vmem, ⟨3, _⟩ => ⟨S32, .i32⟩
  | .local .scVector .vmem, ⟨4, _⟩ => ⟨S32, .f32⟩
  | .local .scVector .vmem, ⟨5, _⟩ => ⟨S32, .f32⟩
  | _, _ => ⟨S6144x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  ![v3.toNat]
@[reducible] def k0_t1_loop : Scf.Loop 32 :=
  let c0_i32_122 : BitVec 32 := 0#32
  let c32_i32 : BitVec 32 := 32#32
  let v68 : BitVec 32 := Scalar.addi c0_i32_122 c32_i32
  let c1_i32 : BitVec 32 := 1#32
  ⟨c0_i32_122, v68, c1_i32⟩

def k0_chk1 (v137 : IVec S16 32) : Prop :=
  (∀ a x, ((![v137] : Fin 1 → IVec S16 32) a x).toNat < S32.size a) ∧
  (∀ a x, ((![v137] : Fin 1 → IVec S16 32) a x).toNat < S32.size a)
theorem k0_idx1_inb : ∀ (v137 : IVec S16 32) (k0_hw1 : k0_chk1 v137), ∀ a x, ((![v137] : Fin 1 → IVec S16 32) a x).toNat < S32.size a := fun v137 k0_hw1 => k0_hw1.1
theorem k0_idx2_inb : ∀ (v137 : IVec S16 32) (k0_hw1 : k0_chk1 v137), ∀ a x, ((![v137] : Fin 1 → IVec S16 32) a x).toNat < S32.size a := fun v137 k0_hw1 => k0_hw1.2
def k0_off2 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v140 : Index := Scalar.indexCast arg15
  let c0 : Index := 0#32
  ![v140.toNat, 0]
def k0_off3 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v153 : Index := Scalar.indexCast arg15
  let c16 : Index := 16#32
  ![v153.toNat, 16]
def k0_off4 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v166 : Index := Scalar.indexCast arg15
  let c32 : Index := 32#32
  ![v166.toNat, 32]
def k0_off5 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v179 : Index := Scalar.indexCast arg15
  let c48 : Index := 48#32
  ![v179.toNat, 48]
def k0_off6 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v192 : Index := Scalar.indexCast arg15
  let c64 : Index := 64#32
  ![v192.toNat, 64]
def k0_off7 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v205 : Index := Scalar.indexCast arg15
  let c80 : Index := 80#32
  ![v205.toNat, 80]
def k0_off8 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v218 : Index := Scalar.indexCast arg15
  let c96 : Index := 96#32
  ![v218.toNat, 96]
def k0_off9 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v231 : Index := Scalar.indexCast arg15
  let c112 : Index := 112#32
  ![v231.toNat, 112]
def k0_off10 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v244 : Index := Scalar.indexCast arg15
  let c128 : Index := 128#32
  ![v244.toNat, 128]
def k0_off11 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v257 : Index := Scalar.indexCast arg15
  let c144 : Index := 144#32
  ![v257.toNat, 144]
def k0_off12 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v270 : Index := Scalar.indexCast arg15
  let c160 : Index := 160#32
  ![v270.toNat, 160]
def k0_off13 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v283 : Index := Scalar.indexCast arg15
  let c176 : Index := 176#32
  ![v283.toNat, 176]
def k0_off14 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v296 : Index := Scalar.indexCast arg15
  let c192 : Index := 192#32
  ![v296.toNat, 192]
def k0_off15 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v309 : Index := Scalar.indexCast arg15
  let c208 : Index := 208#32
  ![v309.toNat, 208]
def k0_off16 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v322 : Index := Scalar.indexCast arg15
  let c224 : Index := 224#32
  ![v322.toNat, 224]
def k0_off17 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v335 : Index := Scalar.indexCast arg15
  let c240 : Index := 240#32
  ![v335.toNat, 240]
def k0_off18 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v348 : Index := Scalar.indexCast arg15
  let c256 : Index := 256#32
  ![v348.toNat, 256]
def k0_off19 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v361 : Index := Scalar.indexCast arg15
  let c272 : Index := 272#32
  ![v361.toNat, 272]
def k0_off20 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v374 : Index := Scalar.indexCast arg15
  let c288 : Index := 288#32
  ![v374.toNat, 288]
def k0_off21 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v387 : Index := Scalar.indexCast arg15
  let c304 : Index := 304#32
  ![v387.toNat, 304]
def k0_off22 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v400 : Index := Scalar.indexCast arg15
  let c320 : Index := 320#32
  ![v400.toNat, 320]
def k0_off23 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v413 : Index := Scalar.indexCast arg15
  let c336 : Index := 336#32
  ![v413.toNat, 336]
def k0_off24 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v426 : Index := Scalar.indexCast arg15
  let c352 : Index := 352#32
  ![v426.toNat, 352]
def k0_off25 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v439 : Index := Scalar.indexCast arg15
  let c368 : Index := 368#32
  ![v439.toNat, 368]
def k0_off26 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v452 : Index := Scalar.indexCast arg15
  let c384 : Index := 384#32
  ![v452.toNat, 384]
def k0_off27 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v465 : Index := Scalar.indexCast arg15
  let c400 : Index := 400#32
  ![v465.toNat, 400]
def k0_off28 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v478 : Index := Scalar.indexCast arg15
  let c416 : Index := 416#32
  ![v478.toNat, 416]
def k0_off29 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v491 : Index := Scalar.indexCast arg15
  let c432 : Index := 432#32
  ![v491.toNat, 432]
def k0_off30 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v504 : Index := Scalar.indexCast arg15
  let c448 : Index := 448#32
  ![v504.toNat, 448]
def k0_off31 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v517 : Index := Scalar.indexCast arg15
  let c464 : Index := 464#32
  ![v517.toNat, 464]
def k0_off32 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v530 : Index := Scalar.indexCast arg15
  let c480 : Index := 480#32
  ![v530.toNat, 480]
def k0_off33 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v543 : Index := Scalar.indexCast arg15
  let c496 : Index := 496#32
  ![v543.toNat, 496]
def k0_off34 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v556 : Index := Scalar.indexCast arg15
  let c512 : Index := 512#32
  ![v556.toNat, 512]
def k0_off35 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v569 : Index := Scalar.indexCast arg15
  let c528 : Index := 528#32
  ![v569.toNat, 528]
def k0_off36 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v582 : Index := Scalar.indexCast arg15
  let c544 : Index := 544#32
  ![v582.toNat, 544]
def k0_off37 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v595 : Index := Scalar.indexCast arg15
  let c560 : Index := 560#32
  ![v595.toNat, 560]
def k0_off38 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v608 : Index := Scalar.indexCast arg15
  let c576 : Index := 576#32
  ![v608.toNat, 576]
def k0_off39 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v621 : Index := Scalar.indexCast arg15
  let c592 : Index := 592#32
  ![v621.toNat, 592]
def k0_off40 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v634 : Index := Scalar.indexCast arg15
  let c608 : Index := 608#32
  ![v634.toNat, 608]
def k0_off41 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v647 : Index := Scalar.indexCast arg15
  let c624 : Index := 624#32
  ![v647.toNat, 624]
def k0_off42 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v660 : Index := Scalar.indexCast arg15
  let c640 : Index := 640#32
  ![v660.toNat, 640]
def k0_off43 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v673 : Index := Scalar.indexCast arg15
  let c656 : Index := 656#32
  ![v673.toNat, 656]
def k0_off44 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v686 : Index := Scalar.indexCast arg15
  let c672 : Index := 672#32
  ![v686.toNat, 672]
def k0_off45 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v699 : Index := Scalar.indexCast arg15
  let c688 : Index := 688#32
  ![v699.toNat, 688]
def k0_off46 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v712 : Index := Scalar.indexCast arg15
  let c704 : Index := 704#32
  ![v712.toNat, 704]
def k0_off47 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v725 : Index := Scalar.indexCast arg15
  let c720 : Index := 720#32
  ![v725.toNat, 720]
def k0_off48 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v738 : Index := Scalar.indexCast arg15
  let c736 : Index := 736#32
  ![v738.toNat, 736]
def k0_off49 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v751 : Index := Scalar.indexCast arg15
  let c752 : Index := 752#32
  ![v751.toNat, 752]
def k0_off50 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v764 : Index := Scalar.indexCast arg15
  let c768 : Index := 768#32
  ![v764.toNat, 768]
def k0_off51 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v777 : Index := Scalar.indexCast arg15
  let c784 : Index := 784#32
  ![v777.toNat, 784]
def k0_off52 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v790 : Index := Scalar.indexCast arg15
  let c800 : Index := 800#32
  ![v790.toNat, 800]
def k0_off53 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v803 : Index := Scalar.indexCast arg15
  let c816 : Index := 816#32
  ![v803.toNat, 816]
def k0_off54 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v816 : Index := Scalar.indexCast arg15
  let c832 : Index := 832#32
  ![v816.toNat, 832]
def k0_off55 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v829 : Index := Scalar.indexCast arg15
  let c848 : Index := 848#32
  ![v829.toNat, 848]
def k0_off56 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v842 : Index := Scalar.indexCast arg15
  let c864 : Index := 864#32
  ![v842.toNat, 864]
def k0_off57 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v855 : Index := Scalar.indexCast arg15
  let c880 : Index := 880#32
  ![v855.toNat, 880]
def k0_off58 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v868 : Index := Scalar.indexCast arg15
  let c896 : Index := 896#32
  ![v868.toNat, 896]
def k0_off59 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v881 : Index := Scalar.indexCast arg15
  let c912 : Index := 912#32
  ![v881.toNat, 912]
def k0_off60 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v894 : Index := Scalar.indexCast arg15
  let c928 : Index := 928#32
  ![v894.toNat, 928]
def k0_off61 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v907 : Index := Scalar.indexCast arg15
  let c944 : Index := 944#32
  ![v907.toNat, 944]
def k0_off62 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v920 : Index := Scalar.indexCast arg15
  let c960 : Index := 960#32
  ![v920.toNat, 960]
def k0_off63 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v933 : Index := Scalar.indexCast arg15
  let c976 : Index := 976#32
  ![v933.toNat, 976]
def k0_off64 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v946 : Index := Scalar.indexCast arg15
  let c992 : Index := 992#32
  ![v946.toNat, 992]
def k0_off65 (k0_t1 : Fin k0_t1_loop.trips) : Fin 2 → Nat :=
  let c0_i32_122 : BitVec 32 := 0#32
  let c1_i32 : BitVec 32 := 1#32
  let arg15 : BitVec 32 := Scf.iv c0_i32_122 c1_i32 k0_t1
  let v959 : Index := Scalar.indexCast arg15
  let c1008 : Index := 1008#32
  ![v959.toNat, 1008]
def k0_off66 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_258_r4 : BitVec 32 := 0#32
  ![v3.toNat, 0]
@[reducible] def k0_t2_loop : Scf.Loop 32 :=
  let c0_i32_254 : BitVec 32 := 0#32
  let c32_i32_255 : BitVec 32 := 32#32
  let v135 : BitVec 32 := Scalar.addi c0_i32_254 c32_i32_255
  let c1_i32_256 : BitVec 32 := 1#32
  ⟨c0_i32_254, v135, c1_i32_256⟩

def k0_chk2 (v137 : IVec S16 32) : Prop :=
  (∀ a x, ((![v137] : Fin 1 → IVec S16 32) a x).toNat < S32.size a) ∧
  (∀ a x, ((![v137] : Fin 1 → IVec S16 32) a x).toNat < S32.size a)
theorem k0_idx3_inb : ∀ (v137 : IVec S16 32) (k0_hw2 : k0_chk2 v137), ∀ a x, ((![v137] : Fin 1 → IVec S16 32) a x).toNat < S32.size a := fun v137 k0_hw2 => k0_hw2.1
theorem k0_idx4_inb : ∀ (v137 : IVec S16 32) (k0_hw2 : k0_chk2 v137), ∀ a x, ((![v137] : Fin 1 → IVec S16 32) a x).toNat < S32.size a := fun v137 k0_hw2 => k0_hw2.2
def k0_off67 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v140 : Index := Scalar.indexCast arg15
  let c0 : Index := 0#32
  ![v140.toNat, 0]
def k0_off68 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v153 : Index := Scalar.indexCast arg15
  let c16 : Index := 16#32
  ![v153.toNat, 16]
def k0_off69 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v166 : Index := Scalar.indexCast arg15
  let c32 : Index := 32#32
  ![v166.toNat, 32]
def k0_off70 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v179 : Index := Scalar.indexCast arg15
  let c48 : Index := 48#32
  ![v179.toNat, 48]
def k0_off71 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v192 : Index := Scalar.indexCast arg15
  let c64 : Index := 64#32
  ![v192.toNat, 64]
def k0_off72 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v205 : Index := Scalar.indexCast arg15
  let c80 : Index := 80#32
  ![v205.toNat, 80]
def k0_off73 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v218 : Index := Scalar.indexCast arg15
  let c96 : Index := 96#32
  ![v218.toNat, 96]
def k0_off74 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v231 : Index := Scalar.indexCast arg15
  let c112 : Index := 112#32
  ![v231.toNat, 112]
def k0_off75 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v244 : Index := Scalar.indexCast arg15
  let c128 : Index := 128#32
  ![v244.toNat, 128]
def k0_off76 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v257 : Index := Scalar.indexCast arg15
  let c144 : Index := 144#32
  ![v257.toNat, 144]
def k0_off77 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v270 : Index := Scalar.indexCast arg15
  let c160 : Index := 160#32
  ![v270.toNat, 160]
def k0_off78 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v283 : Index := Scalar.indexCast arg15
  let c176 : Index := 176#32
  ![v283.toNat, 176]
def k0_off79 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v296 : Index := Scalar.indexCast arg15
  let c192 : Index := 192#32
  ![v296.toNat, 192]
def k0_off80 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v309 : Index := Scalar.indexCast arg15
  let c208 : Index := 208#32
  ![v309.toNat, 208]
def k0_off81 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v322 : Index := Scalar.indexCast arg15
  let c224 : Index := 224#32
  ![v322.toNat, 224]
def k0_off82 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v335 : Index := Scalar.indexCast arg15
  let c240 : Index := 240#32
  ![v335.toNat, 240]
def k0_off83 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v348 : Index := Scalar.indexCast arg15
  let c256 : Index := 256#32
  ![v348.toNat, 256]
def k0_off84 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v361 : Index := Scalar.indexCast arg15
  let c272 : Index := 272#32
  ![v361.toNat, 272]
def k0_off85 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v374 : Index := Scalar.indexCast arg15
  let c288 : Index := 288#32
  ![v374.toNat, 288]
def k0_off86 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v387 : Index := Scalar.indexCast arg15
  let c304 : Index := 304#32
  ![v387.toNat, 304]
def k0_off87 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v400 : Index := Scalar.indexCast arg15
  let c320 : Index := 320#32
  ![v400.toNat, 320]
def k0_off88 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v413 : Index := Scalar.indexCast arg15
  let c336 : Index := 336#32
  ![v413.toNat, 336]
def k0_off89 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v426 : Index := Scalar.indexCast arg15
  let c352 : Index := 352#32
  ![v426.toNat, 352]
def k0_off90 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v439 : Index := Scalar.indexCast arg15
  let c368 : Index := 368#32
  ![v439.toNat, 368]
def k0_off91 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v452 : Index := Scalar.indexCast arg15
  let c384 : Index := 384#32
  ![v452.toNat, 384]
def k0_off92 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v465 : Index := Scalar.indexCast arg15
  let c400 : Index := 400#32
  ![v465.toNat, 400]
def k0_off93 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v478 : Index := Scalar.indexCast arg15
  let c416 : Index := 416#32
  ![v478.toNat, 416]
def k0_off94 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v491 : Index := Scalar.indexCast arg15
  let c432 : Index := 432#32
  ![v491.toNat, 432]
def k0_off95 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v504 : Index := Scalar.indexCast arg15
  let c448 : Index := 448#32
  ![v504.toNat, 448]
def k0_off96 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v517 : Index := Scalar.indexCast arg15
  let c464 : Index := 464#32
  ![v517.toNat, 464]
def k0_off97 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v530 : Index := Scalar.indexCast arg15
  let c480 : Index := 480#32
  ![v530.toNat, 480]
def k0_off98 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v543 : Index := Scalar.indexCast arg15
  let c496 : Index := 496#32
  ![v543.toNat, 496]
def k0_off99 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v556 : Index := Scalar.indexCast arg15
  let c512 : Index := 512#32
  ![v556.toNat, 512]
def k0_off100 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v569 : Index := Scalar.indexCast arg15
  let c528 : Index := 528#32
  ![v569.toNat, 528]
def k0_off101 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v582 : Index := Scalar.indexCast arg15
  let c544 : Index := 544#32
  ![v582.toNat, 544]
def k0_off102 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v595 : Index := Scalar.indexCast arg15
  let c560 : Index := 560#32
  ![v595.toNat, 560]
def k0_off103 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v608 : Index := Scalar.indexCast arg15
  let c576 : Index := 576#32
  ![v608.toNat, 576]
def k0_off104 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v621 : Index := Scalar.indexCast arg15
  let c592 : Index := 592#32
  ![v621.toNat, 592]
def k0_off105 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v634 : Index := Scalar.indexCast arg15
  let c608 : Index := 608#32
  ![v634.toNat, 608]
def k0_off106 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v647 : Index := Scalar.indexCast arg15
  let c624 : Index := 624#32
  ![v647.toNat, 624]
def k0_off107 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v660 : Index := Scalar.indexCast arg15
  let c640 : Index := 640#32
  ![v660.toNat, 640]
def k0_off108 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v673 : Index := Scalar.indexCast arg15
  let c656 : Index := 656#32
  ![v673.toNat, 656]
def k0_off109 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v686 : Index := Scalar.indexCast arg15
  let c672 : Index := 672#32
  ![v686.toNat, 672]
def k0_off110 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v699 : Index := Scalar.indexCast arg15
  let c688 : Index := 688#32
  ![v699.toNat, 688]
def k0_off111 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v712 : Index := Scalar.indexCast arg15
  let c704 : Index := 704#32
  ![v712.toNat, 704]
def k0_off112 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v725 : Index := Scalar.indexCast arg15
  let c720 : Index := 720#32
  ![v725.toNat, 720]
def k0_off113 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v738 : Index := Scalar.indexCast arg15
  let c736 : Index := 736#32
  ![v738.toNat, 736]
def k0_off114 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v751 : Index := Scalar.indexCast arg15
  let c752 : Index := 752#32
  ![v751.toNat, 752]
def k0_off115 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v764 : Index := Scalar.indexCast arg15
  let c768 : Index := 768#32
  ![v764.toNat, 768]
def k0_off116 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v777 : Index := Scalar.indexCast arg15
  let c784 : Index := 784#32
  ![v777.toNat, 784]
def k0_off117 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v790 : Index := Scalar.indexCast arg15
  let c800 : Index := 800#32
  ![v790.toNat, 800]
def k0_off118 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v803 : Index := Scalar.indexCast arg15
  let c816 : Index := 816#32
  ![v803.toNat, 816]
def k0_off119 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v816 : Index := Scalar.indexCast arg15
  let c832 : Index := 832#32
  ![v816.toNat, 832]
def k0_off120 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v829 : Index := Scalar.indexCast arg15
  let c848 : Index := 848#32
  ![v829.toNat, 848]
def k0_off121 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v842 : Index := Scalar.indexCast arg15
  let c864 : Index := 864#32
  ![v842.toNat, 864]
def k0_off122 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v855 : Index := Scalar.indexCast arg15
  let c880 : Index := 880#32
  ![v855.toNat, 880]
def k0_off123 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v868 : Index := Scalar.indexCast arg15
  let c896 : Index := 896#32
  ![v868.toNat, 896]
def k0_off124 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v881 : Index := Scalar.indexCast arg15
  let c912 : Index := 912#32
  ![v881.toNat, 912]
def k0_off125 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v894 : Index := Scalar.indexCast arg15
  let c928 : Index := 928#32
  ![v894.toNat, 928]
def k0_off126 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v907 : Index := Scalar.indexCast arg15
  let c944 : Index := 944#32
  ![v907.toNat, 944]
def k0_off127 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v920 : Index := Scalar.indexCast arg15
  let c960 : Index := 960#32
  ![v920.toNat, 960]
def k0_off128 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v933 : Index := Scalar.indexCast arg15
  let c976 : Index := 976#32
  ![v933.toNat, 976]
def k0_off129 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v946 : Index := Scalar.indexCast arg15
  let c992 : Index := 992#32
  ![v946.toNat, 992]
def k0_off130 (k0_t2 : Fin k0_t2_loop.trips) : Fin 2 → Nat :=
  let c0_i32_254 : BitVec 32 := 0#32
  let c1_i32_256 : BitVec 32 := 1#32
  let arg15 : BitVec 32 := Scf.iv c0_i32_254 c1_i32_256 k0_t2
  let v959 : Index := Scalar.indexCast arg15
  let c1008 : Index := 1008#32
  ![v959.toNat, 1008]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S6144x1024 : Shape := ⟨2, ![6144, 1024]⟩
abbrev S2048 : Shape := ⟨1, ![2048]⟩
abbrev S_ : Shape := ⟨0, ![]⟩
abbrev S2048x1 : Shape := ⟨2, ![2048, 1]⟩
abbrev S2048x1024 : Shape := ⟨2, ![2048, 1024]⟩

abbrev nBuf : Space → Nat
  | .hbm => 30
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S2048, .i32⟩
  | .hbm, ⟨2, _⟩ => ⟨S2048, .i32⟩
  | .hbm, ⟨3, _⟩ => ⟨S2048, .f32⟩
  | .hbm, ⟨4, _⟩ => ⟨S2048, .f32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x1024, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S2048x1, .i32⟩
  | .hbm, ⟨25, _⟩ => ⟨S2048x1024, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Router.lean ====
abbrev S2048x1024 : Shape := ⟨2, ![2048, 1024]⟩
abbrev S1024x8 : Shape := ⟨2, ![1024, 8]⟩
abbrev S8 : Shape := ⟨1, ![8]⟩
abbrev S1x8 : Shape := ⟨2, ![1, 8]⟩
abbrev S2048x1 : Shape := ⟨2, ![2048, 1]⟩
abbrev S97x1 : Shape := ⟨2, ![97, 1]⟩
abbrev S1x1 : Shape := ⟨2, ![1, 1]⟩
abbrev S2048x8 : Shape := ⟨2, ![2048, 8]⟩
abbrev S2048 : Shape := ⟨1, ![2048]⟩
abbrev S1x2048x1 : Shape := ⟨3, ![1, 2048, 1]⟩
abbrev S1 : Shape := ⟨1, ![1]⟩
abbrev S1x1x1 : Shape := ⟨3, ![1, 1, 1]⟩
abbrev S256x256 : Shape := ⟨2, ![256, 256]⟩
abbrev S2048x16 : Shape := ⟨2, ![2048, 16]⟩
abbrev S1x16 : Shape := ⟨2, ![1, 16]⟩
abbrev S256x16 : Shape := ⟨2, ![256, 16]⟩
abbrev S16 : Shape := ⟨1, ![16]⟩
abbrev S8x8 : Shape := ⟨2, ![8, 8]⟩
abbrev S24x8 : Shape := ⟨2, ![24, 8]⟩
abbrev S24 : Shape := ⟨1, ![24]⟩
abbrev S24x1 : Shape := ⟨2, ![24, 1]⟩
abbrev S23x1 : Shape := ⟨2, ![23, 1]⟩
abbrev S24x24 : Shape := ⟨2, ![24, 24]⟩
abbrev S8x1 : Shape := ⟨2, ![8, 1]⟩
abbrev S1x1x8 : Shape := ⟨3, ![1, 1, 8]⟩

abbrev nBuf : Space → Nat
  | .hbm => 10
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S1x8, .f32⟩
  | .hbm, ⟨4, _⟩ => ⟨S2048x1, .i32⟩
  | .hbm, ⟨5, _⟩ => ⟨S2048x1, .i32⟩
  | .hbm, ⟨6, _⟩ => ⟨S2048x1, .f32⟩
  | .hbm, ⟨7, _⟩ => ⟨S2048x1, .f32⟩
  | .hbm, ⟨8, _⟩ => ⟨S97x1, .i32⟩
  | .hbm, ⟨9, _⟩ => ⟨S1x1, .f32⟩
  | .local _ .vmem, ⟨0, _⟩ => ⟨S2048x1024, .f32⟩
  | .local _ .vmem, ⟨1, _⟩ => ⟨S1024x8, .f32⟩
  | .local _ .vmem, ⟨2, _⟩ => ⟨S1x8, .f32⟩
  | .local _ .vmem, ⟨3, _⟩ => ⟨S2048x1, .i32⟩
  | .local _ .vmem, ⟨4, _⟩ => ⟨S2048x1, .i32⟩
  | .local _ .vmem, ⟨5, _⟩ => ⟨S2048x1, .f32⟩
  | .local _ .vmem, ⟨6, _⟩ => ⟨S2048x1, .f32⟩
  | .local _ .vmem, ⟨7, _⟩ => ⟨S97x1, .i32⟩
  | .local _ .vmem, ⟨8, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S97x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== RouterReferenceIdeal.lean ====
abbrev S2048x1024 : Shape := ⟨2, ![2048, 1024]⟩
abbrev S1024x8 : Shape := ⟨2, ![1024, 8]⟩
abbrev S8 : Shape := ⟨1, ![8]⟩
abbrev S2048x8 : Shape := ⟨2, ![2048, 8]⟩
abbrev S1x8 : Shape := ⟨2, ![1, 8]⟩
abbrev S2048x2 : Shape := ⟨2, ![2048, 2]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 39
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x8, .f32⟩
  | .hbm, ⟨2, _⟩ => ⟨S8, .f32⟩
  | .hbm, ⟨3, _⟩ => ⟨S2048x8, .f32⟩
  | .hbm, ⟨4, _⟩ => ⟨S1x8, .f32⟩
  | .hbm, ⟨5, _⟩ => ⟨S2048x8, .f32⟩
  | .hbm, ⟨6, _⟩ => ⟨S2048x8, .f32⟩
  | .hbm, ⟨7, _⟩ => ⟨S2048x2, .f32⟩
  | .hbm, ⟨8, _⟩ => ⟨S2048x2, .i32⟩
  | .hbm, ⟨9, _⟩ => ⟨S_, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048x1, .f32⟩
  | .hbm, ⟨15, _⟩ => ⟨S2048x2, .f32⟩
  | .hbm, ⟨16, _⟩ => ⟨S2048x2, .f32⟩
  | .hbm, ⟨17, _⟩ => ⟨S2048x2, .f32⟩
  | .hbm, ⟨18, _⟩ => ⟨S_, .f32⟩
  | .hbm, ⟨19, _⟩ => ⟨S2048, .f32⟩
  | .hbm, ⟨20, _⟩ => ⟨S2048x1, .f32⟩
  | .hbm, ⟨21, _⟩ => ⟨S2048x2, .f32⟩
  | .hbm, ⟨22, _⟩ => ⟨S2048x2, .f32⟩
  | .hbm, ⟨23, _⟩ => ⟨S_, .f32⟩
  | .hbm, ⟨24, _⟩ => ⟨S_, .f32⟩
  | .hbm, ⟨25, _⟩ => ⟨S2048x2, .f32⟩
  | .hbm, ⟨26, _⟩ => ⟨S2048x2, .f32⟩
  | .hbm, ⟨27, _⟩ => ⟨S2048x2, .f32⟩
  | .hbm, ⟨28, _⟩ => ⟨S2048x2, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x1, .f32⟩
  | .hbm, ⟨37, _⟩ => ⟨S2048x1, .f32⟩
  | .hbm, ⟨38, _⟩ => ⟨S2048x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Experts.lean ====
abbrev S97 : Shape := ⟨1, ![97]⟩
abbrev S6144x1024 : Shape := ⟨2, ![6144, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S8x1x2048 : Shape := ⟨3, ![8, 1, 2048]⟩
abbrev S8x1x1024 : Shape := ⟨3, ![8, 1, 1024]⟩
abbrev S256x1024 : Shape := ⟨2, ![256, 1024]⟩
abbrev S1x1x2048 : Shape := ⟨3, ![1, 1, 2048]⟩
abbrev S1 : Shape := ⟨1, ![1]⟩
abbrev S1x1x1024 : Shape := ⟨3, ![1, 1, 1024]⟩
abbrev S2x1024x2048 : Shape := ⟨3, ![2, 1024, 2048]⟩
abbrev S2x2048x1024 : Shape := ⟨3, ![2, 2048, 1024]⟩
abbrev S_ : Shape := ⟨0, ![]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 8
  | .vmem => 10
  | .smem => 1
  | _ => 0

abbrev bufTy : (tb : Table) → Fin (tcTables nBuf tb) → BufTy
  | .hbm, ⟨0, _⟩ => ⟨S6144x1024, .f32⟩
  | .hbm, ⟨1, _⟩ => ⟨S8x1024x2048, .f32⟩
  | .hbm, ⟨2, _⟩ => ⟨S8x2048, .f32⟩
  | .hbm, ⟨3, _⟩ => ⟨S8x2048x1024, .f32⟩
  | .hbm, ⟨4, _⟩ => ⟨S8x1024, .f32⟩
  | .hbm, ⟨5, _⟩ => ⟨S8x1x2048, .f32⟩
  | .hbm, ⟨6, _⟩ => ⟨S8x1x1024, .f32⟩
  | .hbm, ⟨7, _⟩ => ⟨S6144x1024, .f32⟩
  | .local _ .vmem, ⟨0, _⟩ => ⟨S256x1024, .f32⟩
  | .local _ .vmem, ⟨1, _⟩ => ⟨S256x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .vmem, ⟨8, _⟩ => ⟨S2x1024x2048, .f32⟩
  | .local _ .vmem, ⟨9, _⟩ => ⟨S2x2048x1024, .f32⟩
  | .local _ .smem, ⟨0, _⟩ => ⟨S97, .i32⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![24], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (c24_i32 : BitVec 32) : Fin 1 → Nat :=
  let arg0 : BitVec 32 := BitVec.ofNat 32 (i 0).val
  let v2 : BitVec 32 := Scalar.addi c24_i32 arg0
  let v3 : Index := Scalar.indexCast v2
  ![v3.toNat]
def k0_off3 (v4 : BitVec 32) : Fin 3 → Nat :=
  let c0_i32_5 : BitVec 32 := 0#32
  let c0_i32_6 : BitVec 32 := 0#32
  ![v4.toNat, 0, 0]
def k0_cond1 (i : grid0.Coords) (v12 : BitVec 32) : BitVec 1 :=
  let arg0 : BitVec 32 := BitVec.ofNat 32 (i 0).val
  let c256_i32 : BitVec 32 := 256#32
  let v11 : BitVec 32 := Scalar.muli arg0 c256_i32
  let v13 : BitVec 1 := Scalar.cmpi .slt v11 v12
  let c0_i32 : BitVec 32 := 0#32
  let v14 : BitVec 1 := Scalar.cmpi .eq arg0 c0_i32
  let v15 : BitVec 1 := Scalar.andi v13 v14
  let v16 : BitVec 32 := Scalar.extui v15
  let c0_i32_0 : BitVec 32 := 0#32
  let v17 : BitVec 1 := Scalar.cmpi .ne v16 c0_i32_0
  v17

def k0_off4 (v1 : BitVec 32) : Fin 3 → Nat :=
  let c0_i32_7 : BitVec 32 := 0#32
  let c0_i32_8 : BitVec 32 := 0#32
  ![v1.toNat, 0, 0]
def k0_off5 (v4 : BitVec 32) : Fin 3 → Nat :=
  let c0_i32_9 : BitVec 32 := 0#32
  let c0_i32_10 : BitVec 32 := 0#32
  ![v4.toNat, 0, 0]
def k0_off6 (v1 : BitVec 32) : Fin 3 → Nat :=
  let c0_i32_11 : BitVec 32 := 0#32
  let c0_i32_12 : BitVec 32 := 0#32
  ![v1.toNat, 0, 0]
def k0_off7 (v4 : BitVec 32) : Fin 3 → Nat :=
  let c0_i32_5 : BitVec 32 := 0#32
  let c0_i32_6 : BitVec 32 := 0#32
  ![v4.toNat, 0, 0]
def k0_cond2 (i : grid0.Coords) (v7 : BitVec 32) (v12 : BitVec 32) : BitVec 1 :=
  let arg0 : BitVec 32 := BitVec.ofNat 32 (i 0).val
  let c256_i32 : BitVec 32 := 256#32
  let v11 : BitVec 32 := Scalar.muli arg0 c256_i32
  let v13 : BitVec 1 := Scalar.cmpi .slt v11 v12
  let c1_i32 : BitVec 32 := 1#32
  let v18 : BitVec 1 := Scalar.cmpi .eq v7 c1_i32
  let v19 : BitVec 1 := Scalar.andi v13 v18
  let v20 : BitVec 32 := Scalar.extui v19
  let c0_i32_1 : BitVec 32 := 0#32
  let v21 : BitVec 1 := Scalar.cmpi .ne v20 c0_i32_1
  v21

def k0_off8 (v1 : BitVec 32) : Fin 3 → Nat :=
  let c0_i32_7 : BitVec 32 := 0#32
  let c0_i32_8 : BitVec 32 := 0#32
  ![v1.toNat, 0, 0]
def k0_off9 (v4 : BitVec 32) : Fin 3 → Nat :=
  let c0_i32_9 : BitVec 32 := 0#32
  let c0_i32_10 : BitVec 32 := 0#32
  ![v4.toNat, 0, 0]
def k0_off10 (v1 : BitVec 32) : Fin 3 → Nat :=
  let c0_i32_11 : BitVec 32 := 0#32
  let c0_i32_12 : BitVec 32 := 0#32
  ![v1.toNat, 0, 0]
def k0_off11 (v4 : BitVec 32) : Fin 3 → Nat :=
  let c1_i32_5 : BitVec 32 := 1#32
  let v30 : BitVec 32 := Scalar.subi c1_i32_5 v4
  let c0_i32_6 : BitVec 32 := 0#32
  let c0_i32_7 : BitVec 32 := 0#32
  ![v30.toNat, 0, 0]
def k0_cond3 (i : grid0.Coords) (v1 : BitVec 32) (v7 : BitVec 32) (v10 : BitVec 32) (v12 : BitVec 32) : BitVec 1 :=
  let arg0 : BitVec 32 := BitVec.ofNat 32 (i 0).val
  let c256_i32 : BitVec 32 := 256#32
  let v11 : BitVec 32 := Scalar.muli arg0 c256_i32
  let v13 : BitVec 1 := Scalar.cmpi .slt v11 v12
  let c1_i32_2 : BitVec 32 := 1#32
  let v22 : BitVec 1 := Scalar.cmpi .eq v7 c1_i32_2
  let v23 : BitVec 1 := Scalar.andi v13 v22
  let v24 : BitVec 1 := Scalar.cmpi .ne v10 v1
  let v25 : BitVec 1 := Scalar.andi v23 v24
  let v26 : BitVec 32 := Scalar.extui v25
  let c0_i32_3 : BitVec 32 := 0#32
  let v27 : BitVec 1 := Scalar.cmpi .ne v26 c0_i32_3
  v27

def k0_off12 (v10 : BitVec 32) : Fin 3 → Nat :=
  let c0_i32_8 : BitVec 32 := 0#32
  let c0_i32_9 : BitVec 32 := 0#32
  ![v10.toNat, 0, 0]
def k0_off13 (v4 : BitVec 32) : Fin 3 → Nat :=
  let c1_i32_10 : BitVec 32 := 1#32
  let v35 : BitVec 32 := Scalar.subi c1_i32_10 v4
  let c0_i32_11 : BitVec 32 := 0#32
  let c0_i32_12 : BitVec 32 := 0#32
  ![v35.toNat, 0, 0]
def k0_off14 (v10 : BitVec 32) : Fin 3 → Nat :=
  let c0_i32_13 : BitVec 32 := 0#32
  let c0_i32_14 : BitVec 32 := 0#32
  ![v10.toNat, 0, 0]
def k0_off15 (v4 : BitVec 32) : Fin 3 → Nat :=
  let v31 : Index := Scalar.indexCast v4
  let c0_6 : Index := 0#32
  let c0_7 : Index := 0#32
  ![v31.toNat, 0, 0]
def k0_cond4 (i : grid0.Coords) (v12 : BitVec 32) : BitVec 1 :=
  let arg0 : BitVec 32 := BitVec.ofNat 32 (i 0).val
  let c256_i32 : BitVec 32 := 256#32
  let v11 : BitVec 32 := Scalar.muli arg0 c256_i32
  let v13 : BitVec 1 := Scalar.cmpi .slt v11 v12
  let v28 : BitVec 32 := Scalar.extui v13
  let c0_i32_4 : BitVec 32 := 0#32
  let v29 : BitVec 1 := Scalar.cmpi .ne v28 c0_i32_4
  v29

def k0_off16 (v4 : BitVec 32) : Fin 3 → Nat :=
  let v41 : Index := Scalar.indexCast v4
  let c0_12 : Index := 0#32
  let c0_13 : Index := 0#32
  ![v41.toNat, 0, 0]

def k0_chk1 (i : grid0.Coords) (v1 : BitVec 32) (v4 : BitVec 32) (v7 : BitVec 32) (v10 : BitVec 32) (v12 : BitVec 32) : Prop :=
  (∀ (k0_h1 : k0_cond1 i v12 = 1#1), ∀ a, (k0_off3 v4) a + S1x1024x2048.size a ≤ S2x1024x2048.size a) ∧
  (∀ (k0_h1 : k0_cond1 i v12 = 1#1), ∀ a, (k0_off4 v1) a + S1x1024x2048.size a ≤ S8x1024x2048.size a) ∧
  (∀ (k0_h1 : k0_cond1 i v12 = 1#1), ∀ a, (k0_off5 v4) a + S1x2048x1024.size a ≤ S2x2048x1024.size a) ∧
  (∀ (k0_h1 : k0_cond1 i v12 = 1#1), ∀ a, (k0_off6 v1) a + S1x2048x1024.size a ≤ S8x2048x1024.size a) ∧
  (∀ (k0_h2 : k0_cond2 i v7 v12 = 1#1), ∀ a, (k0_off7 v4) a + S1x1024x2048.size a ≤ S2x1024x2048.size a) ∧
  (∀ (k0_h2 : k0_cond2 i v7 v12 = 1#1), ∀ a, (k0_off8 v1) a + S1x1024x2048.size a ≤ S8x1024x2048.size a) ∧
  (∀ (k0_h2 : k0_cond2 i v7 v12 = 1#1), ∀ a, (k0_off9 v4) a + S1x2048x1024.size a ≤ S2x2048x1024.size a) ∧
  (∀ (k0_h2 : k0_cond2 i v7 v12 = 1#1), ∀ a, (k0_off10 v1) a + S1x2048x1024.size a ≤ S8x2048x1024.size a) ∧
  (∀ (k0_h3 : k0_cond3 i v1 v7 v10 v12 = 1#1), ∀ a, (k0_off11 v4) a + S1x1024x2048.size a ≤ S2x1024x2048.size a) ∧
  (∀ (k0_h3 : k0_cond3 i v1 v7 v10 v12 = 1#1), ∀ a, (k0_off12 v10) a + S1x1024x2048.size a ≤ S8x1024x2048.size a) ∧
  (∀ (k0_h3 : k0_cond3 i v1 v7 v10 v12 = 1#1), ∀ a, (k0_off13 v4) a + S1x2048x1024.size a ≤ S2x2048x1024.size a) ∧
  (∀ (k0_h3 : k0_cond3 i v1 v7 v10 v12 = 1#1), ∀ a, (k0_off14 v10) a + S1x2048x1024.size a ≤ S8x2048x1024.size a) ∧
  (∀ (k0_h4 : k0_cond4 i v12 = 1#1), ∀ a, (k0_off15 v4) a + S1x1024x2048.size a ≤ S2x1024x2048.size a) ∧
  (∀ (k0_h4 : k0_cond4 i v12 = 1#1), ∀ a, (k0_off16 v4) a + S1x2048x1024.size a ≤ S2x2048x1024.size a)
theorem k0_off3_inb : ∀ (i : grid0.Coords) (v1 : BitVec 32) (v4 : BitVec 32) (v7 : BitVec 32) (v10 : BitVec 32) (v12 : BitVec 32) (k0_hw1 : k0_chk1 i v1 v4 v7 v10 v12), ∀ (k0_h1 : k0_cond1 i v12 = 1#1), ∀ a, (k0_off3 v4) a + S1x1024x2048.size a ≤ S2x1024x2048.size a := fun i v1 v4 v7 v10 v12 k0_hw1 k0_h1 => k0_hw1.1 k0_h1
theorem k0_off4_inb : ∀ (i : grid0.Coords) (v1 : BitVec 32) (v4 : BitVec 32) (v7 : BitVec 32) (v10 : BitVec 32) (v12 : BitVec 32) (k0_hw1 : k0_chk1 i v1 v4 v7 v10 v12), ∀ (k0_h1 : k0_cond1 i v12 = 1#1), ∀ a, (k0_off4 v1) a + S1x1024x2048.size a ≤ S8x1024x2048.size a := fun i v1 v4 v7 v10 v12 k0_hw1 k0_h1 => k0_hw1.2.1 k0_h1
theorem k0_off5_inb : ∀ (i : grid0.Coords) (v1 : BitVec 32) (v4 : BitVec 32) (v7 : BitVec 32) (v10 : BitVec 32) (v12 : BitVec 32) (k0_hw1 : k0_chk1 i v1 v4 v7 v10 v12), ∀ (k0_h1 : k0_cond1 i v12 = 1#1), ∀ a, (k0_off5 v4) a + S1x2048x1024.size a ≤ S2x2048x1024.size a := fun i v1 v4 v7 v10 v12 k0_hw1 k0_h1 => k0_hw1.2.2.1 k0_h1
theorem k0_off6_inb : ∀ (i : grid0.Coords) (v1 : BitVec 32) (v4 : BitVec 32) (v7 : BitVec 32) (v10 : BitVec 32) (v12 : BitVec 32) (k0_hw1 : k0_chk1 i v1 v4 v7 v10 v12), ∀ (k0_h1 : k0_cond1 i v12 = 1#1), ∀ a, (k0_off6 v1) a + S1x2048x1024.size a ≤ S8x2048x1024.size a := fun i v1 v4 v7 v10 v12 k0_hw1 k0_h1 => k0_hw1.2.2.2.1 k0_h1
theorem k0_off7_inb : ∀ (i : grid0.Coords) (v1 : BitVec 32) (v4 : BitVec 32) (v7 : BitVec 32) (v10 : BitVec 32) (v12 : BitVec 32) (k0_hw1 : k0_chk1 i v1 v4 v7 v10 v12), ∀ (k0_h2 : k0_cond2 i v7 v12 = 1#1), ∀ a, (k0_off7 v4) a + S1x1024x2048.size a ≤ S2x1024x2048.size a := fun i v1 v4 v7 v10 v12 k0_hw1 k0_h2 => k0_hw1.2.2.2.2.1 k0_h2
theorem k0_off8_inb : ∀ (i : grid0.Coords) (v1 : BitVec 32) (v4 : BitVec 32) (v7 : BitVec 32) (v10 : BitVec 32) (v12 : BitVec 32) (k0_hw1 : k0_chk1 i v1 v4 v7 v10 v12), ∀ (k0_h2 : k0_cond2 i v7 v12 = 1#1), ∀ a, (k0_off8 v1) a + S1x1024x2048.size a ≤ S8x1024x2048.size a := fun i v1 v4 v7 v10 v12 k0_hw1 k0_h2 => k0_hw1.2.2.2.2.2.1 k0_h2
theorem k0_off9_inb : ∀ (i : grid0.Coords) (v1 : BitVec 32) (v4 : BitVec 32) (v7 : BitVec 32) (v10 : BitVec 32) (v12 : BitVec 32) (k0_hw1 : k0_chk1 i v1 v4 v7 v10 v12), ∀ (k0_h2 : k0_cond2 i v7 v12 = 1#1), ∀ a, (k0_off9 v4) a + S1x2048x1024.size a ≤ S2x2048x1024.size a := fun i v1 v4 v7 v10 v12 k0_hw1 k0_h2 => k0_hw1.2.2.2.2.2.2.1 k0_h2
theorem k0_off10_inb : ∀ (i : grid0.Coords) (v1 : BitVec 32) (v4 : BitVec 32) (v7 : BitVec 32) (v10 : BitVec 32) (v12 : BitVec 32) (k0_hw1 : k0_chk1 i v1 v4 v7 v10 v12), ∀ (k0_h2 : k0_cond2 i v7 v12 = 1#1), ∀ a, (k0_off10 v1) a + S1x2048x1024.size a ≤ S8x2048x1024.size a := fun i v1 v4 v7 v10 v12 k0_hw1 k0_h2 => k0_hw1.2.2.2.2.2.2.2.1 k0_h2
theorem k0_off11_inb : ∀ (i : grid0.Coords) (v1 : BitVec 32) (v4 : BitVec 32) (v7 : BitVec 32) (v10 : BitVec 32) (v12 : BitVec 32) (k0_hw1 : k0_chk1 i v1 v4 v7 v10 v12), ∀ (k0_h3 : k0_cond3 i v1 v7 v10 v12 = 1#1), ∀ a, (k0_off11 v4) a + S1x1024x2048.size a ≤ S2x1024x2048.size a := fun i v1 v4 v7 v10 v12 k0_hw1 k0_h3 => k0_hw1.2.2.2.2.2.2.2.2.1 k0_h3
theorem k0_off12_inb : ∀ (i : grid0.Coords) (v1 : BitVec 32) (v4 : BitVec 32) (v7 : BitVec 32) (v10 : BitVec 32) (v12 : BitVec 32) (k0_hw1 : k0_chk1 i v1 v4 v7 v10 v12), ∀ (k0_h3 : k0_cond3 i v1 v7 v10 v12 = 1#1), ∀ a, (k0_off12 v10) a + S1x1024x2048.size a ≤ S8x1024x2048.size a := fun i v1 v4 v7 v10 v12 k0_hw1 k0_h3 => k0_hw1.2.2.2.2.2.2.2.2.2.1 k0_h3
theorem k0_off13_inb : ∀ (i : grid0.Coords) (v1 : BitVec 32) (v4 : BitVec 32) (v7 : BitVec 32) (v10 : BitVec 32) (v12 : BitVec 32) (k0_hw1 : k0_chk1 i v1 v4 v7 v10 v12), ∀ (k0_h3 : k0_cond3 i v1 v7 v10 v12 = 1#1), ∀ a, (k0_off13 v4) a + S1x2048x1024.size a ≤ S2x2048x1024.size a := fun i v1 v4 v7 v10 v12 k0_hw1 k0_h3 => k0_hw1.2.2.2.2.2.2.2.2.2.2.1 k0_h3
theorem k0_off14_inb : ∀ (i : grid0.Coords) (v1 : BitVec 32) (v4 : BitVec 32) (v7 : BitVec 32) (v10 : BitVec 32) (v12 : BitVec 32) (k0_hw1 : k0_chk1 i v1 v4 v7 v10 v12), ∀ (k0_h3 : k0_cond3 i v1 v7 v10 v12 = 1#1), ∀ a, (k0_off14 v10) a + S1x2048x1024.size a ≤ S8x2048x1024.size a := fun i v1 v4 v7 v10 v12 k0_hw1 k0_h3 => k0_hw1.2.2.2.2.2.2.2.2.2.2.2.1 k0_h3
theorem k0_off15_inb : ∀ (i : grid0.Coords) (v1 : BitVec 32) (v4 : BitVec 32) (v7 : BitVec 32) (v10 : BitVec 32) (v12 : BitVec 32) (k0_hw1 : k0_chk1 i v1 v4 v7 v10 v12), ∀ (k0_h4 : k0_cond4 i v12 = 1#1), ∀ a, (k0_off15 v4) a + S1x1024x2048.size a ≤ S2x1024x2048.size a := fun i v1 v4 v7 v10 v12 k0_hw1 k0_h4 => k0_hw1.2.2.2.2.2.2.2.2.2.2.2.2.1 k0_h4
theorem k0_off16_inb : ∀ (i : grid0.Coords) (v1 : BitVec 32) (v4 : BitVec 32) (v7 : BitVec 32) (v10 : BitVec 32) (v12 : BitVec 32) (k0_hw1 : k0_chk1 i v1 v4 v7 v10 v12), ∀ (k0_h4 : k0_cond4 i v12 = 1#1), ∀ a, (k0_off16 v4) a + S1x2048x1024.size a ≤ S2x2048x1024.size a := fun i v1 v4 v7 v10 v12 k0_hw1 k0_h4 => k0_hw1.2.2.2.2.2.2.2.2.2.2.2.2.2 k0_h4

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S97.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S97) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsReferenceIdeal.lean ====
abbrev S97 : Shape := ⟨1, ![97]⟩
abbrev S6144x1024 : Shape := ⟨2, ![6144, 1024]⟩
abbrev S8x1024x2048 : Shape := ⟨3, ![8, 1024, 2048]⟩
abbrev S8x2048 : Shape := ⟨2, ![8, 2048]⟩
abbrev S8x2048x1024 : Shape := ⟨3, ![8, 2048, 1024]⟩
abbrev S8x1024 : Shape := ⟨2, ![8, 1024]⟩
abbrev S24 : Shape := ⟨1, ![24]⟩
abbrev S24x256 : Shape := ⟨2, ![24, 256]⟩
abbrev S6144 : Shape := ⟨1, ![6144]⟩
abbrev S6144x8x2048 : Shape := ⟨3, ![6144, 8, 2048]⟩
abbrev S8x1x2048 : Shape := ⟨3, ![8, 1, 2048]⟩
abbrev S8x6144x2048 : Shape := ⟨3, ![8, 6144, 2048]⟩
abbrev S_ : Shape := ⟨0, ![]⟩
abbrev S8x6144x1024 : Shape := ⟨3, ![8, 6144, 1024]⟩
abbrev S8x1x1024 : Shape := ⟨3, ![8, 1, 1024]⟩
abbrev S1x6144 : Shape := ⟨2, ![1, 6144]⟩
abbrev S8 : Shape := ⟨1, ![8]⟩
abbrev S8x1 : Shape := ⟨2, ![8, 1]⟩
abbrev S8x6144 : Shape := ⟨2, ![8, 6144]⟩
abbrev S8x6144x1 : Shape := ⟨3, ![8, 6144, 1]⟩

abbrev nBuf : Space → Nat
  | .hbm => 35
  | .vmem => 0
  | .smem => 0
  | _ => 0

abbrev bufTy : (tb : Table) → Fin (tcTables nBuf tb) → BufTy
  | .hbm, ⟨0, _⟩ => ⟨S97, .i32⟩
  | .hbm, ⟨1, _⟩ => ⟨S6144x1024, .f32⟩
  | .hbm, ⟨2, _⟩ => ⟨S8x1024x2048, .f32⟩
  | .hbm, ⟨3, _⟩ => ⟨S8x2048, .f32⟩
  | .hbm, ⟨4, _⟩ => ⟨S8x2048x1024, .f32⟩
  | .hbm, ⟨5, _⟩ => ⟨S8x1024, .f32⟩
  | .hbm, ⟨6, _⟩ => ⟨S24, .i32⟩
  | .hbm, ⟨7, _⟩ => ⟨S24x256, .i32⟩
  | .hbm, ⟨8, _⟩ => ⟨S6144, .i32⟩
  | .hbm, ⟨9, _⟩ => ⟨S6144x8x2048, .f32⟩
  | .hbm, ⟨10, _⟩ => ⟨S8x1x2048, .f32⟩
  | .hbm, ⟨11, _⟩ => ⟨S8x6144x2048, .f32⟩
  | .hbm, ⟨12, _⟩ => ⟨S8x6144x2048, .f32⟩
  | .hbm, ⟨13, _⟩ => ⟨S8x6144x2048, .f32⟩
  | .hbm, ⟨14, _⟩ => ⟨S_, .f32⟩
  | .hbm, ⟨15, _⟩ => ⟨S8x6144x2048, .f32⟩
  | .hbm, ⟨16, _⟩ => ⟨S8x6144x2048, .f32⟩
  | .hbm, ⟨17, _⟩ => ⟨S8x6144x1024, .f32⟩
  | .hbm, ⟨18, _⟩ => ⟨S8x1x1024, .f32⟩
  | .hbm, ⟨19, _⟩ => ⟨S8x6144x1024, .f32⟩
  | .hbm, ⟨20, _⟩ => ⟨S8x6144x1024, .f32⟩
  | .hbm, ⟨21, _⟩ => ⟨S1x6144, .i32⟩
  | .hbm, ⟨22, _⟩ => ⟨S8, .i32⟩
  | .hbm, ⟨23, _⟩ => ⟨S8x1, .i32⟩
  | .hbm, ⟨24, _⟩ => ⟨S8x6144, .i32⟩
  | .hbm, ⟨25, _⟩ => ⟨S8x6144, .i32⟩
  | .hbm, ⟨26, _⟩ => ⟨S8x6144, .i1⟩
  | .hbm, ⟨27, _⟩ => ⟨S8x6144x1, .i1⟩
  | .hbm, ⟨28, _⟩ => ⟨S_, .f32⟩
  | .hbm, ⟨29, _⟩ => ⟨S_, .f32⟩
  | .hbm, ⟨30, _⟩ => ⟨S8x6144x1024, .i1⟩
  | .hbm, ⟨31, _⟩ => ⟨S8x6144x1024, .f32⟩
  | .hbm, ⟨32, _⟩ => ⟨S8x6144x1024, .f32⟩
  | .hbm, ⟨33, _⟩ => ⟨S_, .f32⟩
  | .hbm, ⟨34, _⟩ => ⟨S6144x1024, .f32⟩
  | _, _ => ⟨S97, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩

abbrev nD : Nat := 1
abbrev τ : Topo := Topo.v7x

variable {F : FTy → Type} [FloatOps F]
-- ==== Proof.GatherBatch.lean ====
/-
  SEVERAL INDIRECT GATHERS OUTSTANDING ON ONE SEMAPHORE. The kernel starts sixteen of them before it waits for any, so no
  wait but the last says anything of any destination. The rows of all the gathers are the transfers of ONE counted batch
  (Lib/Batch.lean): each row pays the same number of units, a gather of `o` rows is the batch's next `o` transfers, its wait
  consumes `o` rows' units, and the wait that consumes the last of them hands every row over.

  `RowGot` is what one row delivers; `wp_gatherInto` issues a gather as the batch's next rows; `rowGot_join` puts a
  gather's delivered rows together again into the destination written with the gathered payload.
-/
module

public import Idealize.ShloMosaic.Lib.Batch
public import Idealize.ShloMosaic.Lib.SparseCore.Ops
public import Idealize.ShloMosaic.Lib.SparseCore.Stream
public import Idealize.ShloMosaic.Lib.Tactic

@[expose] public section

noncomputable section

namespace Cert.Proof.Gathers

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

/-- The transfers from the `m`-th on are the next `o` and those from the `m + o`-th on. -/
theorem pending_take {n : ℕ} (m o : ℕ) (h : m + o ≤ n) (Φ : Fin n → sProp 𝕄) :
    bigSep (Transfers.pending m) Φ
      = iprop((bigSep Finset.univ fun j : Fin o => Φ ⟨m + j.val, by omega⟩) ∗ bigSep (Transfers.pending (m + o)) Φ) := by
  classical
  let f : Fin o ↪ Fin n := ⟨fun j => ⟨m + j.val, by omega⟩, fun a b hab => by
    have := congrArg Fin.val hab; exact Fin.ext (by simpa using this)⟩
  have hs : (Transfers.pending m : Finset (Fin n)) = (Finset.univ.map f) ∪ Transfers.pending (m + o) := by
    ext t
    simp only [Transfers.pending, Finset.mem_filter, Finset.mem_univ, true_and, Finset.mem_union, Finset.mem_map]
    constructor
    · intro ht
      by_cases h2 : m + o ≤ t.val
      · exact Or.inr h2
      · exact Or.inl ⟨⟨t.val - m, by omega⟩, Fin.ext (show m + (t.val - m) = t.val by omega)⟩
    · rintro (⟨j, rfl⟩ | ht)
      · show m ≤ m + j.val; omega
      · omega
  have hd : Disjoint (Finset.univ.map f) (Transfers.pending (m + o) : Finset (Fin n)) := by
    rw [Finset.disjoint_left]
    intro t ht ht'
    obtain ⟨j, -, rfl⟩ := Finset.mem_map.mp ht
    have h1 : m + o ≤ m + j.val := (Finset.mem_filter.mp ht').2
    have := j.isLt
    omega
  rw [hs, BI.bigSep_union hd, BI.bigSep_map]
  rfl

variable (c : Thread nD τ)
variable {sp : Space} {s₀ s si : Shape} {e : EltTy} {a : Nat} {α : Type} {Q : α → sProp (MT nD τ sig Ix (Elt F) Name U Lvl)}

section Row

variable (src : Memref sig c.2.kind sp s₀ e) (dst : Memref sig c.2.kind .vmem s e) (hg : s₀.Gathers a s)
variable (offs : Memref sig c.2.kind .vmem si .i32) (hn : si.numel = s.size hg.axis') (hs : 0 < s.numel)
variable (q qo : PosShare TreeShare) (fs : Buf (Elt F) (src.view.loc c)) (fd : Buf (Elt F) (dst.view.loc c)) (fo : Buf (Elt F) (offs.view.loc c))
variable (hin : ∀ x, (offs.view.read (Elt F) fo x).toNat < s₀.size hg.axis)

/-- Entry `j` of the offset list, as an index of it. -/
def entryOf (j : Fin (s.size hg.axis')) : si.Idx := si.rowMajor.symm (j.cast hn.symm)

/-- What row `j` of a gather delivers: that row of the destination written with the source's row the list names, the
    list's entry, and the row's piece of the source's share. -/
def RowGot (j : Fin (s.size hg.axis')) : sProp 𝕄 :=
  iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
        ∗ (offs.view.loc c ↦[{offs.view.emb (entryOf hg hn j)}]{qo} fo))
      ∗ (src.view.loc c ↦[src.view.set]{pieceOf q _ (Shape.size_pos_of_numel_pos hs _) j} fs))

instance rowGot_storable (j : Fin (s.size hg.axis')) :
    Storable (upEmb : UEmb _ 𝕄) (RowGot (Ix := Ix) (Name := Name) (U := U) (Lvl := Lvl) c src dst hg offs hn hs q qo fs fd fo hin j) := by
  unfold RowGot; infer_instance

/-- A gather's rows, all delivered, are its destination written with the gathered payload, its source's share and its list's. -/
theorem rowGot_join :
    (bigSep Finset.univ fun j => RowGot (Ix := Ix) (Name := Name) (U := U) (Lvl := Lvl) c src dst hg offs hn hs q qo fs fd fo hin j)
      ⊢ iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) := by
  have hen : Function.Bijective (entryOf (si := si) hg hn) :=
    si.rowMajor.symm.bijective.comp (finCongr hn.symm).bijective
  have hW : ∀ j i, src.view.read (Elt F) fs (hg.rowIdx (rows (offs.view.read (Elt F) fo) hn hin j) i)
      = gatherPayload hg (src.view.read (Elt F) fs) (rows (offs.view.read (Elt F) fo) hn hin) ((s.rowRect hg.axis' j).emb i) := fun j i => by
    unfold gatherPayload; rw [Shape.Gathers.idx_rowRect_emb]
  unfold RowGot
  iintro H
  ihave H1 := Transfers.bigSep_sep_out _ _ _ $$ H
  icases H1 with ⟨H2, Hs⟩
  ihave H3 := Transfers.bigSep_sep_out _ _ _ $$ H2
  icases H3 with ⟨Hd, Ho⟩
  isplitl [Hd]
  · iapply (pointsTo_rows_write c dst.view hg.axis' fd
      (fun j i => src.view.read (Elt F) fs (hg.rowIdx (rows (offs.view.read (Elt F) fo) hn hin j) i)) _ hW)
    iexact Hd
  isplitl [Hs]
  · iapply (Entails.of_eq (pointsTo_piecesOf src.view.set fs _ q).symm) $$ Hs
  iapply (Entails.of_eq (pointsTo_entries c offs.view (entryOf hg hn) hen qo fo).symm) $$ Ho

end Row

variable {defs : Defs nD τ sig (Elt F) Λ} (EC : UEmb Counters (MT nD τ sig Ix (Elt F) Name U Lvl)) (𝒱 : Variants) (bd : Option 𝒱.V)

/-- An indirect gather as a batch's next rows: holding a share of the source, the destination, a share of the list (every
    word of it in range) and the batch with `m` rows issued, the tile issues the gather and holds the batch with the
    gather's rows issued too, each row's delivery making the batch's. -/
theorem wp_gatherInto [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n m u : ℕ} {D : Fin n → sProp 𝕄}
    (ι : Ix) (N : ℕ) (hN : ∀ j, (dst.slice (s.rowRect hg.axis' j) (s.stride_rowRect hg.axis' j)).view.dmaCredit = N)
    (hs : 0 < s.numel) (hin : ∀ x, (offs.view.read (Elt F) fo x).toNat < s₀.size hg.axis)
    (hm : m + s.size hg.axis' ≤ n) (hu : u ≤ m * N)
    (hD : ∀ j : Fin (s.size hg.axis'), RowGot c src dst hg offs hn hs q qo fs fd fo hin j ⊢ D ⟨m + j.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D m u)
      ⊢ iprop((Transfers.Batch EC c (.dma sem) ι N D (m + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective (entryOf (si := si) hg hn) :=
    si.rowMajor.symm.bijective.comp (finCongr hn.symm).bijective
  have hsum : ∑ j, (rd j).dst.view.dmaCredit = s.size hg.axis' * N := by
    rw [Finset.sum_congr rfl fun j _ => (show (rd j).dst.view.dmaCredit = N from hN j), Finset.sum_const, Finset.card_univ, Fintype.card_fin, smul_eq_mul]
  unfold Transfers.Batch
  iintro ⟨Hs, Hd, Ho, ⟨%γ, %γ₀, %κ, #Hinv, HI, H0, Hcred⟩⟩ Hk
  ihave HI' := (Entails.of_eq (pending_take m (s.size hg.axis') hm fun t => count EC (γ t) 0)) $$ HI
  icases HI' with ⟨Hγ, HI⟩
  ihave Hd' := (Entails.of_eq (pointsTo_rows c dst.view hg.axis' fullShare fd)) $$ Hd
  ihave Ho' := (Entails.of_eq (pointsTo_entries c offs.view (entryOf hg hn) hen qo fo)) $$ Ho
  ihave Hs' := (Entails.of_eq (pointsTo_piecesOf src.view.set fs (Shape.size_pos_of_numel_pos hs hg.axis') q)) $$ Hs
  have hrow : ∀ j : Fin (s.size hg.axis'), iprop(inv κ (Transfers.batchBody EC (c, SemLoc.dma sem) N D γ γ₀)
        ∗ ((((dst.view.loc c ↦[(dst.view.slice (s.rowRect hg.axis' j)).set]{fullShare} fd)
              ∗ (offs.view.loc c ↦[{offs.view.emb (entryOf hg hn j)}]{qo} fo))
            ∗ (src.view.loc c ↦[src.view.set]{pieceOf q _ (Shape.size_pos_of_numel_pos hs hg.axis') j} fs))
          ∗ count EC (γ ⟨m + j.val, by omega⟩) 0))
      ⊢ iprop(S.heldEntry qo fo j ∗ (S.heldEntry qo fo j -∗ rowRes c (rd j))) := fun j => by
    iintro ⟨#Hinv, ⟨⟨Hr, He⟩, Hsq⟩, Hγj⟩
    isplitl [He]; · iexact He
    iintro He
    unfold rowRes
    iexists pieceOf q _ (Shape.size_pos_of_numel_pos hs hg.axis') j, fs,
      iprop((dst.view.loc c ↦[(dst.view.slice (s.rowRect hg.axis' j)).set]{fullShare}
          ((dst.view.slice (s.rowRect hg.axis' j)).write (Elt F) fd
            (fun i => src.view.read (Elt F) fs (hg.rowIdx (rows (offs.view.read (Elt F) fo) hn hin j) i)) Finset.univ)) ∗ S.heldEntry qo fo j)
    isplitl [Hsq]; · iexact Hsq
    isplitl [Hr He]
    · iapply writeUpdate_frame
      isplitl [Hr]
      · iapply (pointsTo_writeUpdate c (v := dst.view.slice (s.rowRect hg.axis' j)) subset_rfl) $$ Hr
      · iexact He
    · have hc := Transfers.batch_creditUpdate EC (g := (c, SemLoc.dma sem)) (N := N) (γ := γ) (γ₀ := γ₀) (ι := κ) ⟨m + j.val, by omega⟩ (hD j)
      have hc' : iprop(inv κ (Transfers.batchBody EC (c, SemLoc.dma sem) N D γ γ₀) ∗ count EC (γ ⟨m + j.val, by omega⟩) 0)
          ⊢ creditUpdate (c, SemLoc.dma sem) ((dst.slice (s.rowRect hg.axis' j) (s.stride_rowRect hg.axis' j)).view.dmaCredit) 0
            (RowGot c src dst hg offs hn hs q qo fs fd fo hin j) := by rw [hN j]; exact hc
      iapply hc'
      isplitr; · iexact Hinv
      iexact Hγj
  iapply (wp_enqueueIndirectDma 𝒱 c bd Set.univ (qo := qo) (fo := fo) (rd := rd) ι (s.size hg.axis' * N) hA hrd hsum) $$ [Hd' Ho' Hs' Hγ]
  · unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (m + s.size hg.axis') * N - u = (m * N - u) + s.size hg.axis' * N by rw [Nat.add_mul]; omega, ← tallyAt_add]
  icombine Hcred Hcred' as H
  iexact H

end Cert.Proof.Gathers

end
-- ==== Proof.Setup.lean ====
/-
  THE COMBINE STAGE AS THE LAUNCH THEOREM SEES IT: the one SparseCore call over two SparseCores of sixteen vector subcores
  each, the resources its proof is stated in, the names of the arrays and of the scratch buffers, and the values: `outVal`,
  the result as a function of the five arguments, and `mixed`, what a tile's first row buffer holds part of the way through
  the weighting of its rows.
-/
module

public import Idealize.ShloMosaic.Lib.SparseCore.Quiescent
public import Idealize.ShloMosaic.Lib.SparseCore.Ops
public import Idealize.ShloMosaic.Lib.SparseCore.Stream
public import Idealize.ShloMosaic.Lib.Batch
public import Idealize.ShloMosaic.Lib.Pipeline.Kit
public import Idealize.ShloMosaic.Lib.Tactic
public import proofs.«01_k».proof.Proof.GatherBatch
public import proofs.«01_k».proof.Proof.Gen.KernelIdeal
public import proofs.«01_k».proof.Proof.Gen.KernelIdeal.Skeleton

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev yLoc (d : Dev nD) : Loc nD τ sig := (SparseCore.T d).loc main_arg0
abbrev p0Loc (d : Dev nD) : Loc nD τ sig := (SparseCore.T d).loc main_arg1
abbrev p1Loc (d : Dev nD) : Loc nD τ sig := (SparseCore.T d).loc main_arg2
abbrev g0Loc (d : Dev nD) : Loc nD τ sig := (SparseCore.T d).loc main_arg3
abbrev g1Loc (d : Dev nD) : Loc nD τ sig := (SparseCore.T d).loc main_arg4
abbrev oLoc (d : Dev nD) : Loc nD τ sig := (SparseCore.T d).loc main_v0

/-- The SparseCore and the subcore that task `L` runs on. -/
abbrev cV (L : grid0.Coords) : Fin τ.nSC := (L 0).castLE hcore0
abbrev jV (L : grid0.Coords) : Fin τ.nSub := (L 1).castLE hsub0
/-- Task `L`'s thread. -/
abbrev thr (d : Dev nD) (L : grid0.Coords) : Thread nD τ := V d (cV L) (jV L)

/-! ## The values -/

section Values

variable [FloatOps F]

/-- Element `i` of a list of 32, element `i` of a list of 2048, element `(i, j)` of the expert output, as indices. -/
def at32 (i : Fin 32) : S32.Idx := fun | 0 => i | ⟨_ + 1, h⟩ => absurd h (Nat.not_lt.2 (Nat.le_add_left _ _))
def at2048 (i : Fin 2048) : S2048.Idx := fun | 0 => i | ⟨_ + 1, h⟩ => absurd h (Nat.not_lt.2 (Nat.le_add_left _ _))
def atY (i : Fin 6144) (j : Fin 1024) : S6144x1024.Idx :=
  fun | 0 => i | 1 => j | ⟨_ + 2, h⟩ => absurd h (Nat.not_lt.2 (Nat.le_add_left _ _))

/-- The row of the expert output that a slot word names. -/
abbrev slotRow (p : BitVec 32) : Fin 6144 := ⟨p.toNat % 6144, Nat.mod_lt _ (by decide)⟩

/-- One element of a weighted pair of rows. -/
abbrev mixE (a s b t : F .f32) : F .f32 := FloatOps.addf (FloatOps.mulf a s) (FloatOps.mulf b t)

/-- The result: token `t`'s row is the row of `y` at its first slot times its first gate plus the row at its second slot
    times its second gate. -/
def outVal (y : FVec F S6144x1024 .f32) (p0 p1 : IVec S2048 32) (g0 g1 : FVec F S2048 .f32) : FVec F S2048x1024 .f32 :=
  fun x => mixE (y (atY (slotRow (p0 (at2048 (x 0)))) (x 1))) (g0 (at2048 (x 0))) (y (atY (slotRow (p1 (at2048 (x 0)))) (x 1))) (g1 (at2048 (x 0)))

/-- A tile's first row buffer once the elements before position `k`, in row order, are weighted: those hold the weighted
    sums, the rest what was gathered. -/
def mixed (a b : FVec F S32x1024 .f32) (s t : FVec F S32 .f32) (k : ℕ) : FVec F S32x1024 .f32 :=
  fun x => if (x 0).val * 1024 + (x 1).val < k then mixE (a x) (s (at32 (x 0))) (b x) (t (at32 (x 0))) else a x

theorem mixed_zero (a b : FVec F S32x1024 .f32) (s t : FVec F S32 .f32) : mixed a b s t 0 = a := by
  funext x; simp [mixed]

theorem mixed_full (a b : FVec F S32x1024 .f32) (s t : FVec F S32 .f32) :
    mixed a b s t (1024 * 32) = fun x => mixE (a x) (s (at32 (x 0))) (b x) (t (at32 (x 0))) := by
  funext x
  have h0 : (x 0).val < 32 := (x 0).isLt
  have h1 : (x 1).val < 1024 := (x 1).isLt
  exact if_pos (by omega)

end Values

end Cert.Proof.Combine
-- ==== Proof.RowLoop.lean ====
/-
  THE WEIGHTING OF ONE ROW. A trip of the row loop reads the two gates of its row and walks the row in 64 chunks of 16
  columns, each read from both row buffers, weighted, and stored over the first. `Held … n` is what the tile holds when
  the elements before position `n` (in row order) are done; a chunk's store takes it from `1024 r + c` to `1024 r + (c + 16)`
  (`store_step`), and `row_body` composes the 64 chunks into a trip: from `1024 r` to `1024 (r + 1)`. The second half's loop
  does the same (`row_body2`).
-/
module

public import proofs.«01_k».proof.Proof.Setup

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The scratch buffers -/

abbrev v0M : Memref sig .scVector .vmem S32x1024 .f32 := Memref.whole cc0_scratch0
abbrev v1M : Memref sig .scVector .vmem S32x1024 .f32 := Memref.whole cc0_scratch1
abbrev i0M : Memref sig .scVector .vmem S32 .i32 := Memref.whole cc0_scratch2
abbrev i1M : Memref sig .scVector .vmem S32 .i32 := Memref.whole cc0_scratch3
abbrev s0M : Memref sig .scVector .vmem S32 .f32 := Memref.whole cc0_scratch4
abbrev s1M : Memref sig .scVector .vmem S32 .f32 := Memref.whole cc0_scratch5

/-! ## A chunk's payload -/

/-- The stored chunk at one place: both gathered elements there, weighted. -/
theorem pay_apply (v138 v139 : Vec F S16 .f32) (va vb : Vec F S1x16 .f32) (s t : F .f32) (hs : ∀ x, v138 x = s) (ht : ∀ x, v139 x = t)
    (y : S1x16.Idx) : k0_pay1 v138 v139 va vb y = mixE (va y) s (vb y) t := by
  show FloatOps.addf (FloatOps.mulf (va (Shape.reshapeEquiv _ (Shape.reshapeEquiv _ y))) (v138 _))
    (FloatOps.mulf (vb (Shape.reshapeEquiv _ (Shape.reshapeEquiv _ y))) (v139 _)) = _
  rw [Shape.reshapeEquiv_reshapeEquiv, Shape.reshapeEquiv_self, hs, ht]

/-- Storing a chunk's payload over the first row buffer weights the next 16 elements. -/
theorem write_mixed (a b : FVec F S32x1024 .f32) (s t : FVec F S32 .f32) (r : Fin 32) (c : ℕ) (hc : c + 16 ≤ 1024)
    (off : Fin 2 → ℕ) (hoff : off = ![r.val, c]) (inb : ∀ a, off a + S1x16.size a ≤ S32x1024.size a)
    (v138 v139 : Vec F S16 .f32) (hs : ∀ x, v138 x = s (at32 r)) (ht : ∀ x, v139 x = t (at32 r)) :
    (v0M.access (Rect.unit (s := S32x1024) off S1x16.size inb)).write (Elt F) (mixed a b s t (1024 * r.val + c))
        (k0_pay1 v138 v139 (v0M.view.readAt (Elt F) (Rect.unit (s := S32x1024) off S1x16.size inb).toLoadRect (mixed a b s t (1024 * r.val + c)))
          (v1M.view.readAt (Elt F) (Rect.unit (s := S32x1024) off S1x16.size inb).toLoadRect b)) Finset.univ
      = mixed a b s t (1024 * r.val + (c + 16)) := by
  subst hoff
  funext x
  have h0 : (x 0).val < 32 := (x 0).isLt
  have h1 : (x 1).val < 1024 := (x 1).isLt
  have hr : r.val < 32 := r.isLt
  by_cases hx : (x 0).val = r.val ∧ c ≤ (x 1).val ∧ (x 1).val < c + 16
  · obtain ⟨hx0, hx1, hx2⟩ := hx
    let y : S1x16.Idx := fun | 0 => ⟨0, by decide⟩ | 1 => ⟨(x 1).val - c, by show _ < 16; omega⟩ | ⟨_ + 2, h⟩ => absurd h (Nat.not_lt.2 (Nat.le_add_left _ _))
    have hy : (Rect.unit (s := S32x1024) ![r.val, c] S1x16.size inb).emb y = x := by
      refine Rect.emb_eq_of_coords (Rect.unit (s := S32x1024) ![r.val, c] S1x16.size inb) y x fun a => ?_
      match a with
      | 0 => show (x 0).val = r.val + 1 * 0; omega
      | 1 => show (x 1).val = c + 1 * ((x 1).val - c); omega
    have hw := View.read_slice_write_emb (v := v0M.view) (Val := Elt F) (Rect.unit (s := S32x1024) ![r.val, c] S1x16.size inb)
      (mixed a b s t (1024 * r.val + c)) (k0_pay1 v138 v139 (v0M.view.readAt (Elt F) (Rect.unit (s := S32x1024) ![r.val, c] S1x16.size inb).toLoadRect (mixed a b s t (1024 * r.val + c)))
          (v1M.view.readAt (Elt F) (Rect.unit (s := S32x1024) ![r.val, c] S1x16.size inb).toLoadRect b)) (Finset.mem_univ y)
    rw [hy] at hw
    refine Eq.trans hw ?_
    rw [pay_apply v138 v139 _ _ _ _ hs ht]
    have ea : v0M.view.readAt (Elt F) (Rect.unit (s := S32x1024) ![r.val, c] S1x16.size inb).toLoadRect (mixed a b s t (1024 * r.val + c)) y = a x := by
      show mixed a b s t (1024 * r.val + c) ((Rect.unit (s := S32x1024) ![r.val, c] S1x16.size inb).emb y) = a x
      rw [hy]; exact if_neg (by omega)
    have eb : v1M.view.readAt (Elt F) (Rect.unit (s := S32x1024) ![r.val, c] S1x16.size inb).toLoadRect b y = b x := by
      show b ((Rect.unit (s := S32x1024) ![r.val, c] S1x16.size inb).emb y) = b x
      rw [hy]
    have er : x 0 = r := Fin.ext hx0
    rw [ea, eb]
    refine Eq.trans ?_ (if_pos (by omega : (x 0).val * 1024 + (x 1).val < 1024 * r.val + (c + 16))).symm
    rw [er]
  · have hm : x ∉ (Finset.univ : Finset (Rect.unit (s := S32x1024) ![r.val, c] S1x16.size inb).shape.Idx).map (Rect.unit (s := S32x1024) ![r.val, c] S1x16.size inb).emb := by
      rw [Rect.map_emb_univ]
      intro hm
      apply hx
      obtain ⟨e0, e0'⟩ := Rect.mem_set_unit.mp hm 0
      obtain ⟨e1, e1'⟩ := Rect.mem_set_unit.mp hm 1
      replace e0 : r.val ≤ (x 0).val := e0
      replace e0' : (x 0).val < r.val + 1 := e0'
      replace e1 : c ≤ (x 1).val := e1
      replace e1' : (x 1).val < c + 16 := e1'
      omega
    refine Eq.trans (View.read_slice_write_of_not_mem (v := v0M.view) (Val := Elt F) _ _ _ _ hm) ?_
    show mixed a b s t (1024 * r.val + c) x = mixed a b s t (1024 * r.val + (c + 16)) x
    have : ((x 0).val * 1024 + (x 1).val < 1024 * r.val + c) ↔ ((x 0).val * 1024 + (x 1).val < 1024 * r.val + (c + 16)) := by
      constructor <;> intro h
      · omega
      · by_contra h'
        exact hx (by omega)
    unfold mixed
    simp only [this]

/-! ## The steps of a trip -/

section Steps

variable (d : Dev nD) (L : grid0.Coords) (a b : FVec F S32x1024 .f32) (s t : FVec F S32 .f32)

/-- What the tile holds of its scratch during the row loop, the elements before position `n` done. -/
def Held (n : ℕ) : sProp 𝕄 :=
  iprop((v0M.view.loc (thr d L) ↦{fullShare} mixed a b s t n) ∗ (v1M.view.loc (thr d L) ↦{fullShare} b)
    ∗ (s0M.view.loc (thr d L) ↦{fullShare} s) ∗ (s1M.view.loc (thr d L) ↦{fullShare} t))

variable {α : Type} {Q : α → sProp (MT nD τ sig (HIx 1) (Elt F) ℕ UU ℕ)} {n : ℕ}

/-- The weakest precondition of a piece of the tile's program. -/
abbrev wpT {α : Type} (p : Prog (TpuEff nD τ sig (Elt F) Λ₀ (thr d L).2) α) (Q : α → sProp 𝕄) : sProp 𝕄 :=
  wp frame (wpE (defs₀ (F := F)) 𝒱₀ (thr d L) none) Set.univ p Q

theorem load0_step {rc : LoadRect S32x1024} {hl : v0M.view.LoadsAt rc} {k : (rc.shape.Idx → Elt F .f32) → Prog (TpuEff nD τ sig (Elt F) Λ₀ (thr d L).2) α}
    (h : Held d L a b s t n ⊢ wpT d L (k (v0M.view.readAt (Elt F) rc (mixed a b s t n))) Q) :
    Held d L a b s t n ⊢ wpT d L (Prog.lift (.load v0M rc hl) >>= k) Q := by
  unfold Held at h ⊢
  iintro ⟨H0, H⟩
  iapply (wp_load (defs := defs₀ (F := F)) 𝒱₀ (thr d L) none Set.univ (m := v0M) (r := rc) (hl := hl) (k := k) (S := Finset.univ) (Finset.subset_univ _)) $$ H0
  iintro H0
  iapply h
  isplitl [H0]; · iexact H0
  iexact H

theorem load1_step {rc : LoadRect S32x1024} {hl : v1M.view.LoadsAt rc} {k : (rc.shape.Idx → Elt F .f32) → Prog (TpuEff nD τ sig (Elt F) Λ₀ (thr d L).2) α}
    (h : Held d L a b s t n ⊢ wpT d L (k (v1M.view.readAt (Elt F) rc b)) Q) :
    Held d L a b s t n ⊢ wpT d L (Prog.lift (.load v1M rc hl) >>= k) Q := by
  unfold Held at h ⊢
  iintro ⟨H0, H1, H⟩
  iapply (wp_load (defs := defs₀ (F := F)) 𝒱₀ (thr d L) none Set.univ (m := v1M) (r := rc) (hl := hl) (k := k) (S := Finset.univ) (Finset.subset_univ _)) $$ H1
  iintro H1
  iapply h
  isplitl [H0]; · iexact H0
  isplitl [H1]; · iexact H1
  iexact H

theorem store_step {r : Fin 32} {c : ℕ} {off : Fin 2 → ℕ} [hoff : ClosedOff off] {inb : ∀ a, off a + S1x16.size a ≤ S32x1024.size a}
    {v138 v139 : Vec F S16 .f32} (hs : ∀ x, v138 x = s (at32 r)) (ht : ∀ x, v139 x = t (at32 r))
    {w : (Rect.unit (s := S32x1024) off S1x16.size inb).shape.Idx → Elt F .f32} {hx} {hm} {k : PUnit → Prog (TpuEff nD τ sig (Elt F) Λ₀ (thr d L).2) α}
    (hform : hoff.form = ![r.val, c]) (hc : c + 16 ≤ 1024)
    (hw : w = k0_pay1 v138 v139 (v0M.view.readAt (Elt F) (Rect.unit (s := S32x1024) off S1x16.size inb).toLoadRect (mixed a b s t (1024 * r.val + c)))
          (v1M.view.readAt (Elt F) (Rect.unit (s := S32x1024) off S1x16.size inb).toLoadRect b))
    (h : Held d L a b s t (1024 * r.val + (c + 16)) ⊢ wpT d L (k ⟨⟩) Q) :
    Held d L a b s t (1024 * r.val + c) ⊢ wpT d L (Prog.lift (.store v0M (Rect.unit (s := S32x1024) off S1x16.size inb) w Finset.univ hx hm) >>= k) Q := by
  have e := write_mixed a b s t r c hc off (hoff.eq.trans hform) inb v138 v139 hs ht
  rw [← hw] at e
  unfold Held at h ⊢
  iintro ⟨H0, H⟩
  iapply (wp_store (defs := defs₀ (F := F)) 𝒱₀ (thr d L) none Set.univ (m := v0M) (w := w) (k := k) (S := Finset.univ) (Finset.subset_univ _)) $$ H0
  iintro H0
  iapply h
  isplitl [H0]
  · iapply (Entails.of_eq (congrArg (fun f => (v0M.view.loc (thr d L) ↦{fullShare} f : sProp 𝕄)) e)); iexact H0
  iexact H

theorem gate0_step {idxs : Fin S32.rank → IVec S16 32} {hi : ∀ a x, (idxs a x).toNat < S32.size a} {hl : s0M.view.Loads}
    {k : Vec F S16 .f32 → Prog (TpuEff nD τ sig (Elt F) Λ₀ (thr d L).2) α}
    (h : Held d L a b s t n ⊢ wpT d L (k (loadIdx s idxs hi)) Q) :
    Held d L a b s t n ⊢ wpT d L (SparseCore.vectorLoadIdx s0M idxs hi hl >>= k) Q := by
  have e : View.read (Elt F) (s0M.access (Rect.whole S32)) s = s := Memref.read_access_whole (Elt F) cc0_scratch4 s
  replace h : Held d L a b s t n ⊢ wpT d L (k (loadIdx (View.read (Elt F) (s0M.access (Rect.whole S32)) s) idxs hi)) Q := by rw [e]; exact h
  unfold Held at h ⊢
  iintro ⟨H0, H1, H2, H3⟩
  iapply (SparseCore.wp_vectorLoadIdx (defs := defs₀ (F := F)) 𝒱₀ (thr d L) none Set.univ (base := s0M) (S := Finset.univ) (Finset.subset_univ _)) $$ H2
  iintro H2
  iapply h
  isplitl [H0]; · iexact H0
  isplitl [H1]; · iexact H1
  isplitl [H2]; · iexact H2
  iexact H3

theorem gate1_step {idxs : Fin S32.rank → IVec S16 32} {hi : ∀ a x, (idxs a x).toNat < S32.size a} {hl : s1M.view.Loads}
    {k : Vec F S16 .f32 → Prog (TpuEff nD τ sig (Elt F) Λ₀ (thr d L).2) α}
    (h : Held d L a b s t n ⊢ wpT d L (k (loadIdx t idxs hi)) Q) :
    Held d L a b s t n ⊢ wpT d L (SparseCore.vectorLoadIdx s1M idxs hi hl >>= k) Q := by
  have e : View.read (Elt F) (s1M.access (Rect.whole S32)) t = t := Memref.read_access_whole (Elt F) cc0_scratch5 t
  replace h : Held d L a b s t n ⊢ wpT d L (k (loadIdx (View.read (Elt F) (s1M.access (Rect.whole S32)) t) idxs hi)) Q := by rw [e]; exact h
  unfold Held at h ⊢
  iintro ⟨H0, H1, H2, H3⟩
  iapply (SparseCore.wp_vectorLoadIdx (defs := defs₀ (F := F)) 𝒱₀ (thr d L) none Set.univ (base := s1M) (S := Finset.univ) (Finset.subset_univ _)) $$ H3
  iintro H3
  iapply h
  isplitl [H0]; · iexact H0
  isplitl [H1]; · iexact H1
  isplitl [H2]; · iexact H2
  iexact H3

/-- A window that ends in an effect ends in its value. -/
theorem last_step {R : sProp 𝕄} {e : TpuEff nD τ sig (Elt F) Λ₀ (thr d L).2 α} (h : R ⊢ wpT d L (Prog.lift e >>= pure) Q) : R ⊢ wpT d L (Prog.lift e) Q := by
  rw [bind_pure] at h; exact h

theorem held_step {r : Fin 32} {c c' : ℕ} (h : c = c') : Held d L a b s t (1024 * r.val + c) ⊢ Held d L a b s t (1024 * r.val + c') := by
  rw [h]

theorem assume_step {R : sProp 𝕄} {P : Prop} {dec : Decidable P} {k : PLift P → Prog (TpuEff nD τ sig (Elt F) Λ₀ (thr d L).2) α} (hP : P)
    (h : R ⊢ wpT d L (k ⟨hP⟩) Q) : R ⊢ wpT d L (Prog.lift (.assume P dec) >>= k) Q :=
  h.trans (wp_assume (defs := defs₀ (F := F)) 𝒱₀ (thr d L) none Set.univ (k := k) hP)

theorem bind_step {R : sProp 𝕄} {β : Type} {p : Prog (TpuEff nD τ sig (Elt F) Λ₀ (thr d L).2) β} {k : β → Prog (TpuEff nD τ sig (Elt F) Λ₀ (thr d L).2) α}
    (h : R ⊢ wpT d L p (fun x => wpT d L (k x) Q)) : R ⊢ wpT d L (p >>= k) Q := by
  exact h.trans (Entails.of_eq (wp_bind frame (wpE (defs₀ (F := F)) 𝒱₀ (thr d L) none) Set.univ p k Q).symm)

theorem pure_step {R : sProp 𝕄} {x : α} (h : R ⊢ Q x) : R ⊢ wpT d L (pure x) Q :=
  h.trans (le_wp_ret frame (wpE (defs₀ (F := F)) 𝒱₀ (thr d L) none) Set.univ x Q)

/-! ## A trip -/

/-- A gate read at the row's number in every lane is the row's gate. -/
theorem gate_apply (f : FVec F S32 .f32) (r : ℕ) (hi) (x : S16.Idx) (hr : r < 32) :
    loadIdx (F := F) (e := .f32) f ![broadcast S16 (Scf.iv 0#32 1#32 r)] hi x = f (at32 ⟨r, hr⟩) := by
  refine congrArg f (funext fun a => ?_)
  match a with
  | 0 =>
    apply Fin.ext
    show (Scf.iv 0#32 1#32 r).toNat = r
    simp [Scf.iv]; omega

/-- The row's number is an index of the gates. -/
theorem chk (r : ℕ) (hr : r < 32) : k0_chk1 (broadcast S16 (Scf.iv 0#32 1#32 r)) := by
  have h : ∀ a x, ((![broadcast S16 (Scf.iv 0#32 1#32 r)] : Fin 1 → IVec S16 32) a x).toNat < S32.size a := by
    intro a x
    match a with
    | 0 =>
      show (Scf.iv 0#32 1#32 r).toNat < 32
      simp [Scf.iv]; omega
  exact ⟨h, h⟩

section Body

variable (arg14 r0 r1 r2 r3 r4 r5 r6 r7 r8 r9 : DmaSems sig S_) (v2 : BitVec 32)

/-- The row loop's body, of the first half, at the kernel's buffers. -/
abbrev body1 : Fin k0_t1_loop.trips → BitVec 32 → Prog (TpuEff nD τ sig (Elt F) Λ₀ (thr d L).2) (BitVec 32) :=
  k0_t1_body L (Memref.whole main_arg0_scv) (Memref.isWhole_whole _) (Memref.whole main_arg1_scv) (Memref.isWhole_whole _)
    (Memref.whole main_arg2_scv) (Memref.isWhole_whole _) (Memref.whole main_arg3_scv) (Memref.isWhole_whole _) (Memref.whole main_arg4_scv) (Memref.isWhole_whole _)
    (Memref.whole main_v0_scv) (Memref.isWhole_whole _) v0M (Memref.isWhole_whole _) v1M (Memref.isWhole_whole _) i0M (Memref.isWhole_whole _)
    i1M (Memref.isWhole_whole _) s0M (Memref.isWhole_whole _) s1M (Memref.isWhole_whole _) arg14 r0 r1 r2 r3 r4 r5 r6 r7 r8 r9 v2

/-- The row loop's body, of the second half, at the kernel's buffers. -/
abbrev body2 : Fin k0_t2_loop.trips → BitVec 32 → Prog (TpuEff nD τ sig (Elt F) Λ₀ (thr d L).2) (BitVec 32) :=
  k0_t2_body L (Memref.whole main_arg0_scv) (Memref.isWhole_whole _) (Memref.whole main_arg1_scv) (Memref.isWhole_whole _)
    (Memref.whole main_arg2_scv) (Memref.isWhole_whole _) (Memref.whole main_arg3_scv) (Memref.isWhole_whole _) (Memref.whole main_arg4_scv) (Memref.isWhole_whole _)
    (Memref.whole main_v0_scv) (Memref.isWhole_whole _) v0M (Memref.isWhole_whole _) v1M (Memref.isWhole_whole _) i0M (Memref.isWhole_whole _)
    i1M (Memref.isWhole_whole _) s0M (Memref.isWhole_whole _) s1M (Memref.isWhole_whole _) arg14 r0 r1 r2 r3 r4 r5 r6 r7 r8 r9

set_option maxHeartbeats 4000000 in
set_option maxRecDepth 65536 in
/-- A trip of the row loop weights its row. -/
theorem row_body (r : Fin k0_t1_loop.trips) (acc : BitVec 32) (hr : r.val < 32) :
    Held d L a b s t (1024 * (⟨r.val, hr⟩ : Fin 32).val + 0) ⊢ wpT d L (body1 d L arg14 r0 r1 r2 r3 r4 r5 r6 r7 r8 r9 v2 r acc) (fun _ => Held d L a b s t (1024 * (⟨r.val, hr⟩ : Fin 32).val + 1024)) := by
  unfold body1 k0_t1_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  refine bind_step d L ?_
  unfold k0_part1_skel
  dsimp only
  refine assume_step d L (chk r.val hr) ?_
  refine gate0_step d L a b s t ?_
  refine gate1_step d L a b s t ?_
  have hs := fun x => gate_apply (F := F) s r.val (chk r.val hr).1 x hr
  have ht := fun x => gate_apply (F := F) t r.val (chk r.val hr).2 x hr
  repeat first
    | with_reducible refine load0_step d L a b s t ?_
    | with_reducible refine load1_step d L a b s t ?_
    | (with_reducible refine store_step d L a b s t (r := ⟨r.val, hr⟩) hs ht ?_ ?_ ?_ ?_
       · rfl
       · decide
       · rfl)
    | (with_reducible refine pure_step d L ?_
       dsimp only)
    | with_reducible refine last_step d L ?_
    | (refine bind_step d L ?_
       first
        | unfold k0_part2_skel | unfold k0_part3_skel | unfold k0_part4_skel | unfold k0_part5_skel | unfold k0_part6_skel | unfold k0_part7_skel
        | unfold k0_part8_skel | unfold k0_part9_skel | unfold k0_part10_skel | unfold k0_part11_skel | unfold k0_part12_skel | unfold k0_part13_skel
        | unfold k0_part14_skel | unfold k0_part15_skel | unfold k0_part16_skel | unfold k0_part17_skel | unfold k0_part18_skel
       dsimp only)
  with_reducible refine held_step d L a b s t (r := ⟨r.val, hr⟩) ?_
  decide

set_option maxHeartbeats 4000000 in
set_option maxRecDepth 65536 in
/-- A trip of the second half's row loop does the same: the same steps, at that loop's names. -/
theorem row_body2 (r : Fin k0_t2_loop.trips) (acc : BitVec 32) (hr : r.val < 32) :
    Held d L a b s t (1024 * (⟨r.val, hr⟩ : Fin 32).val + 0) ⊢ wpT d L (body2 d L arg14 r0 r1 r2 r3 r4 r5 r6 r7 r8 r9 r acc) (fun _ => Held d L a b s t (1024 * (⟨r.val, hr⟩ : Fin 32).val + 1024)) := by
  unfold body2 k0_t2_body
  simp only [k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton]
  refine bind_step d L ?_
  unfold k0_part19_skel
  dsimp only
  refine assume_step d L (show k0_chk2 _ from chk r.val hr) ?_
  refine gate0_step d L a b s t ?_
  refine gate1_step d L a b s t ?_
  have hs := fun x => gate_apply (F := F) s r.val (chk r.val hr).1 x hr
  have ht := fun x => gate_apply (F := F) t r.val (chk r.val hr).2 x hr
  repeat first
    | with_reducible refine load0_step d L a b s t ?_
    | with_reducible refine load1_step d L a b s t ?_
    | (with_reducible refine store_step d L a b s t (r := ⟨r.val, hr⟩) hs ht ?_ ?_ ?_ ?_
       · rfl
       · decide
       · rfl)
    | (with_reducible refine pure_step d L ?_
       dsimp only)
    | with_reducible refine last_step d L ?_
    | (refine bind_step d L ?_
       first
        | unfold k0_part20_skel | unfold k0_part21_skel | unfold k0_part22_skel | unfold k0_part23_skel | unfold k0_part24_skel | unfold k0_part25_skel
        | unfold k0_part26_skel | unfold k0_part27_skel | unfold k0_part28_skel | unfold k0_part29_skel | unfold k0_part30_skel | unfold k0_part31_skel
        | unfold k0_part32_skel | unfold k0_part33_skel | unfold k0_part34_skel | unfold k0_part35_skel | unfold k0_part36_skel
       dsimp only)
  with_reducible refine held_step d L a b s t (r := ⟨r.val, hr⟩) ?_
  decide

end Body

end Steps

end Cert.Proof.Combine
-- ==== Proof.Panels.lean ====
/-
  ONE LIST'S GATHER, IN EIGHT COLUMN PANELS. The kernel fetches the rows that a list of slots names in panels of 128 columns:
  eight gathers, all with the one list, panel `k` of the expert output into panel `k` of the row buffer. `lend` splits what
  the tile holds into the eight gathers' operands; `regain` puts the delivered rows together again, the row buffer holding
  whole rows. `pick` is those rows: row `i` is the row of `y` that entry `i` of the list names.
-/
module

public import proofs.«01_k».proof.Proof.RowLoop

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore
open Cert.Proof.Gathers

variable {F : FTy → Type} [FloatOps F]

local notation "𝕄" => MT nD τ sig (HIx 1) (Elt F) ℕ UU ℕ

/-! ## The panels -/

/-- The expert output, as a tile addresses it. -/
abbrev yM : Memref sig .scVector .hbm S6144x1024 .f32 := Memref.whole main_arg0_scv

theorem inb_dst (k : Fin 8) : ∀ a, (![0, 128 * k.val] : Fin 2 → ℕ) a + S32x128.size a ≤ S32x1024.size a := by
  revert k; decide
theorem inb_src (k : Fin 8) : ∀ a, (![0, 128 * k.val] : Fin 2 → ℕ) a + S6144x128.size a ≤ S6144x1024.size a := by
  revert k; decide

abbrev panelR (k : Fin 8) : Rect S32x1024 := Rect.unit (s := S32x1024) ![0, 128 * k.val] S32x128.size (inb_dst k)
/-- Panel `k` of a row buffer, and of the expert output. -/
abbrev dstP (bM : Memref sig .scVector .vmem S32x1024 .f32) (k : Fin 8) : Memref sig .scVector .vmem S32x128 .f32 := bM.slice (panelR k) (fun _ => rfl)
abbrev srcP (k : Fin 8) : Memref sig .scVector .hbm S6144x128 .f32 :=
  yM.slice (Rect.unit (s := S6144x1024) ![0, 128 * k.val] S6144x128.size (inb_src k)) (fun _ => rfl)

theorem mem_panelR {k : Fin 8} {x : S32x1024.Idx} : x ∈ (panelR k).set ↔ (x 1).val / 128 = k.val := by
  rw [Rect.mem_set_unit]
  have h0 : (x 0).val < 32 := (x 0).isLt
  constructor
  · intro h
    have h1 : 128 * k.val ≤ (x 1).val ∧ (x 1).val < 128 * k.val + 128 := h 1
    omega
  · intro h a
    match a with
    | 0 => show 0 ≤ (x 0).val ∧ (x 0).val < 0 + 32; omega
    | 1 => show 128 * k.val ≤ (x 1).val ∧ (x 1).val < 128 * k.val + 128; omega

/-- The panels are disjoint and cover a row buffer. -/
theorem panels_disjoint (v : View sig .scVector .vmem S32x1024 .f32) {k k' : Fin 8} (h : k ≠ k') :
    Disjoint (v.slice (panelR k)).set (v.slice (panelR k')).set := by
  rw [View.set_slice, View.set_slice, Finset.disjoint_map]
  refine Finset.disjoint_left.mpr fun x hx hx' => h (Fin.ext ?_)
  rw [← mem_panelR.mp hx, ← mem_panelR.mp hx']
theorem panels_cover (v : View sig .scVector .vmem S32x1024 .f32) :
    (Finset.univ : Finset (Fin 8)).biUnion (fun k => (v.slice (panelR k)).set) = v.set := by
  ext i
  simp only [Finset.mem_biUnion, Finset.mem_univ, true_and, View.set_slice, Finset.mem_map]
  constructor
  · rintro ⟨k, x, -, rfl⟩
    exact Finset.mem_map.mpr ⟨x, Finset.mem_univ _, rfl⟩
  · intro hi
    obtain ⟨x, -, rfl⟩ := Finset.mem_map.mp hi
    have h1 : (x 1).val < 1024 := (x 1).isLt
    exact ⟨⟨(x 1).val / 128, by omega⟩, x, mem_panelR.mpr rfl, rfl⟩

theorem hs128 : 0 < S32x128.numel := by decide

section Buffer

variable (d : Dev nD) (L : grid0.Coords) (q : PosShare TreeShare) (y : FVec F S6144x1024 .f32)
variable (bM : Memref sig .scVector .vmem S32x1024 .f32) (iM : Memref sig .scVector .vmem S32 .i32)
variable (fb : Buf (Elt F) (bM.view.loc (thr d L))) (fi : Buf (Elt F) (iM.view.loc (thr d L)))

abbrev qy (k : Fin 8) : PosShare TreeShare := pieceOf q 8 (by decide) k
abbrev qi (k : Fin 8) : PosShare TreeShare := pieceOf fullShare 8 (by decide) k

/-- The operands of the gather of panel `k`. -/
def Lent (k : Fin 8) : sProp 𝕄 :=
  iprop(((srcP k).view.loc (thr d L) ↦[(srcP k).view.set]{qy q k} y) ∗ ((dstP bM k).view.loc (thr d L) ↦[(dstP bM k).view.set]{fullShare} fb)
    ∗ (iM.view.loc (thr d L) ↦[iM.view.set]{qi k} fi))
/-- The rest of the share of the expert output that panel `k`'s gather is lent from. -/
def Rest (k : Fin 8) : sProp 𝕄 :=
  yM.view.loc (thr d L) ↦[Finset.univ \ (srcP k).view.set]{qy q k} y

theorem lend :
    iprop((yM.view.loc (thr d L) ↦{q} y) ∗ (bM.view.loc (thr d L) ↦[bM.view.set]{fullShare} fb) ∗ (iM.view.loc (thr d L) ↦[iM.view.set]{fullShare} fi))
      ⊢ (iprop(bigSep Finset.univ (Lent d L q y bM iM fb fi) ∗ bigSep Finset.univ (Rest d L q y)) : sProp 𝕄) := by
  have e1 : (yM.view.loc (thr d L) ↦{q} y : sProp 𝕄) ⊢ bigSep Finset.univ fun k : Fin 8 =>
      iprop(((srcP k).view.loc (thr d L) ↦[(srcP k).view.set]{qy q k} y) ∗ Rest d L q y k) := by
    rw [pointsTo_piecesOf (Val := Elt F) (ℓ := yM.view.loc (thr d L)) Finset.univ y (by decide : 0 < 8) q]
    exact bigSep_mono fun k _ => (pointsTo_split_subset (Finset.subset_univ (srcP k).view.set)).1
  have e2 : (bM.view.loc (thr d L) ↦[bM.view.set]{fullShare} fb : sProp 𝕄)
      = bigSep Finset.univ fun k : Fin 8 => ((dstP bM k).view.loc (thr d L) ↦[(dstP bM k).view.set]{fullShare} fb) := by
    rw [← panels_cover bM.view]
    exact pointsTo_biUnion Finset.univ _ fun k _ k' _ h => panels_disjoint bM.view h
  rw [e2, pointsTo_piecesOf iM.view.set fi (by decide : 0 < 8) fullShare]
  unfold Lent
  iintro ⟨Hy, Hb, Hi⟩
  ihave Hy' := e1 $$ Hy
  ihave Hy'' := Transfers.bigSep_sep_out _ _ _ $$ Hy'
  icases Hy'' with ⟨Hy, Hr⟩
  isplitr [Hr]
  · iapply Transfers.bigSep_sep_in
    isplitl [Hy]; · iexact Hy
    iapply Transfers.bigSep_sep_in
    isplitl [Hb]; · iexact Hb
    iexact Hi
  · iexact Hr

variable (hin : ∀ x, (iM.view.read (Elt F) fi x).toNat < S6144x128.size gathers_S6144x128_S32x128.axis)

/-- What row `j` of the gather of panel `k` delivers. -/
abbrev Got (k : Fin 8) (j : Fin 32) : sProp 𝕄 :=
  RowGot (Ix := HIx 1) (Name := ℕ) (U := UU) (Lvl := ℕ) (thr d L) (srcP k) (dstP bM k) gathers_S6144x128_S32x128 iM rfl hs128 (qy q k) (qi k) y fb fi hin j

/-- Panel `k` of the row buffer, written with its gathered payload. -/
abbrev panelW (k : Fin 8) : Buf (Elt F) (bM.view.loc (thr d L)) :=
  (dstP bM k).view.write (Elt F) fb (SparseCore.gatherPayload gathers_S6144x128_S32x128 ((srcP k).view.read (Elt F) y)
    (SparseCore.rows (iM.view.read (Elt F) fi) rfl hin)) Finset.univ

theorem regain (G : Buf (Elt F) (bM.view.loc (thr d L)))
    (hG : ∀ k, ∀ i ∈ (dstP bM k).view.set, panelW d L y bM iM fb fi hin k i = G i) :
    iprop((bigSep Finset.univ fun k : Fin 8 => bigSep Finset.univ fun j : Fin 32 => Got d L q y bM iM fb fi hin k j) ∗ bigSep Finset.univ (Rest d L q y))
      ⊢ (iprop((yM.view.loc (thr d L) ↦{q} y) ∗ (bM.view.loc (thr d L) ↦[bM.view.set]{fullShare} G)
          ∗ (iM.view.loc (thr d L) ↦[iM.view.set]{fullShare} fi)) : sProp 𝕄) := by
  have e1 : (bigSep Finset.univ fun k : Fin 8 =>
      iprop(((srcP k).view.loc (thr d L) ↦[(srcP k).view.set]{qy q k} y) ∗ Rest d L q y k)) ⊢ (yM.view.loc (thr d L) ↦{q} y : sProp 𝕄) := by
    rw [pointsTo_piecesOf (Val := Elt F) (ℓ := yM.view.loc (thr d L)) Finset.univ y (by decide : 0 < 8) q]
    exact bigSep_mono fun k _ => (pointsTo_split_subset (Finset.subset_univ (srcP k).view.set)).2
  have e2 : (bM.view.loc (thr d L) ↦[bM.view.set]{fullShare} G : sProp 𝕄)
      = bigSep Finset.univ fun k : Fin 8 => ((dstP bM k).view.loc (thr d L) ↦[(dstP bM k).view.set]{fullShare} G) := by
    rw [← panels_cover bM.view]
    exact pointsTo_biUnion Finset.univ _ fun k _ k' _ h => panels_disjoint bM.view h
  have e3 : (bigSep Finset.univ fun k : Fin 8 => bigSep Finset.univ fun j : Fin 32 => Got d L q y bM iM fb fi hin k j)
      ⊢ (bigSep Finset.univ fun k : Fin 8 => iprop(((dstP bM k).view.loc (thr d L) ↦[(dstP bM k).view.set]{fullShare} G)
          ∗ ((srcP k).view.loc (thr d L) ↦[(srcP k).view.set]{qy q k} y) ∗ (iM.view.loc (thr d L) ↦[iM.view.set]{qi k} fi)) : sProp 𝕄) := by
    refine bigSep_mono fun k _ => (rowGot_join (thr d L) (srcP k) (dstP bM k) gathers_S6144x128_S32x128 iM rfl hs128 (qy q k) (qi k) y fb fi hin).trans ?_
    exact Idealize.SL.BI.sep_mono (Entails.of_eq (pointsTo_congr (hG k))) (Entails.refl _)
  rw [e2, pointsTo_piecesOf iM.view.set fi (by decide : 0 < 8) fullShare]
  iintro ⟨HG, Hr⟩
  ihave HG' := e3 $$ HG
  ihave H1 := Transfers.bigSep_sep_out _ _ _ $$ HG'
  icases H1 with ⟨Hb, H2⟩
  ihave H3 := Transfers.bigSep_sep_out _ _ _ $$ H2
  icases H3 with ⟨Hy, Hi⟩
  isplitl [Hy Hr]
  · iapply e1
    iapply Transfers.bigSep_sep_in
    isplitl [Hy]; · iexact Hy
    iexact Hr
  isplitl [Hb]; · iexact Hb
  iexact Hi

end Buffer

/-! ## The gathered rows -/

/-- The rows a list of slots names. -/
def pick (y : FVec F S6144x1024 .f32) (p : IVec S32 32) : FVec F S32x1024 .f32 := fun x => y (atY (slotRow (p (at32 (x 0)))) (x 1))

/-- A gathered payload's element: of the source's row that the list's entry names, the same column. -/
theorem payload_apply (y : FVec F S6144x1024 .f32) (p : IVec S32 32) (k : Fin 8) (hin : ∀ x, (p x).toNat < S6144x128.size gathers_S6144x128_S32x128.axis)
    (x : S32x128.Idx) :
    SparseCore.gatherPayload (F := F) (e := .f32) gathers_S6144x128_S32x128 ((srcP k).view.read (Elt F) y) (SparseCore.rows (F := F) p rfl hin) x
      = pick y p ((panelR k).emb x) := by
  refine congrArg y (funext fun a => ?_)
  match a with
  | 0 =>
    apply Fin.ext
    have e : S32.rowMajor.symm ((x 0 : Fin 32).cast rfl) = at32 (x 0) := (Equiv.symm_apply_eq _).mpr (Fin.ext
      (Shape.rowMajor_val_one (at32 (x 0))).symm)
    show 0 + 1 * (gathers_S6144x128_S32x128.idx (SparseCore.rows (F := F) p rfl hin) x 0).val = _
    rw [show gathers_S6144x128_S32x128.idx (SparseCore.rows (F := F) p rfl hin) x 0 = SparseCore.rows (F := F) p rfl hin (x 0) from
      Shape.Gathers.idx_axis gathers_S6144x128_S32x128 _ x]
    show 0 + 1 * (p (S32.rowMajor.symm ((x 0 : Fin 32).cast rfl))).toNat = (p (at32 ((panelR k).emb x 0))).toNat % 6144
    have hr : (panelR k).emb x 0 = x 0 := Fin.ext (show 0 + 1 * (x 0).val = (x 0).val by omega)
    rw [e, hr, Nat.mod_eq_of_lt (show _ < 6144 from hin _)]
    omega
  | 1 => rfl

/-- The panels written with their payloads hold the rows the list names: of the first row buffer, and of the second. -/
theorem panel_value0 (d : Dev nD) (L : grid0.Coords) (y : FVec F S6144x1024 .f32) (fb : FVec F S32x1024 .f32) (p : IVec S32 32)
    (hin : ∀ x, (i0M.view.read (Elt F) p x).toNat < S6144x128.size gathers_S6144x128_S32x128.axis) (k : Fin 8) :
    ∀ i ∈ (dstP v0M k).view.set, panelW d L y v0M i0M fb p hin k i = pick y p i := by
  intro i hi
  rw [show (dstP v0M k).view.set = (panelR k).set from View.set_slice_whole cc0_scratch0 (panelR k), ← Rect.map_emb_univ] at hi
  obtain ⟨x, -, rfl⟩ := Finset.mem_map.mp hi
  exact (View.read_slice_write_emb (v := v0M.view) (Val := Elt F) (panelR k) fb _ (Finset.mem_univ x)).trans (payload_apply y p k hin x)
theorem panel_value1 (d : Dev nD) (L : grid0.Coords) (y : FVec F S6144x1024 .f32) (fb : FVec F S32x1024 .f32) (p : IVec S32 32)
    (hin : ∀ x, (i1M.view.read (Elt F) p x).toNat < S6144x128.size gathers_S6144x128_S32x128.axis) (k : Fin 8) :
    ∀ i ∈ (dstP v1M k).view.set, panelW d L y v1M i1M fb p hin k i = pick y p i := by
  intro i hi
  rw [show (dstP v1M k).view.set = (panelR k).set from View.set_slice_whole cc0_scratch1 (panelR k), ← Rect.map_emb_univ] at hi
  obtain ⟨x, -, rfl⟩ := Finset.mem_map.mp hi
  exact (View.read_slice_write_emb (v := v1M.view) (Val := Elt F) (panelR k) fb _ (Finset.mem_univ x)).trans (payload_apply y p k hin x)

end Cert.Proof.Combine
-- ==== Proof.Half.lean ====
/-
  THE SIXTEEN GATHERS OF ONE HALF. A tile starts eight gathers with its first list and eight with its second, all on one
  semaphore, and then waits sixteen times. Their 512 rows are the transfers of one batch. `Flying … k w` is what the tile
  holds when `k` gathers are started and `w` waits done; `issue0_step`, `issue1_step` and `wait_step` are the program's
  steps, `takeOff` and `landed` the two ends.
-/
module

public import proofs.«01_k».proof.Proof.Panels

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore
open Cert.Proof.Gathers

variable {F : FTy → Type} [FloatOps F]

local notation "𝕄" => MT nD τ sig (HIx 1) (Elt F) ℕ UU ℕ

section Half

variable (d : Dev nD) (L : grid0.Coords) (O : CellTallies nD τ sig (HIx 1)) (W : Waits sig (HIx 1))

/-- What the tile owes, the waits it did since its start recorded. -/
def Owing : sProp 𝕄 :=
  iprop(levAts (K (F := F)).L (K (F := F)).lev ∗ ∃ W', ⌜∀ p ∈ W', p ∈ W ∨ p.2 = none⌝ ∗ owes (thr d L) O W')

variable (q : PosShare TreeShare) (y : FVec F S6144x1024 .f32) (f0 f1 : FVec F S32x1024 .f32) (p0 p1 : IVec S32 32)
variable (hin0 : ∀ x, (i0M.view.read (Elt F) p0 x).toNat < S6144x128.size gathers_S6144x128_S32x128.axis)
variable (hin1 : ∀ x, (i1M.view.read (Elt F) p1 x).toNat < S6144x128.size gathers_S6144x128_S32x128.axis)

/-- The two lists' shares of the expert output. -/
abbrev q0 : PosShare TreeShare := pieceOf q 2 (by decide) 0
abbrev q1 : PosShare TreeShare := pieceOf q 2 (by decide) 1

/-- The semaphore of the gathers, and the units a row pays. -/
abbrev semG : DmaSem sig := cc0_scratch6.sem
abbrev rowN : ℕ := (((dstP v0M 0).slice (S32x128.rowRect gathers_S6144x128_S32x128.axis' (0 : Fin 32)) (S32x128.stride_rowRect gathers_S6144x128_S32x128.axis' (0 : Fin 32))).view.dmaCredit)

/-- What row `t` of the 512 delivers. -/
def Dlv (t : Fin 512) : sProp 𝕄 :=
  if h : t.val < 256 then Got d L (q0 q) y v0M i0M f0 p0 hin0 ⟨t.val / 32, by omega⟩ ⟨t.val % 32, by omega⟩
  else Got d L (q1 q) y v1M i1M f1 p1 hin1 ⟨t.val / 32 - 8, by omega⟩ ⟨t.val % 32, by omega⟩

instance dlv_storable (t : Fin 512) : Storable (upEmb : UEmb _ 𝕄) (Dlv d L q y f0 f1 p0 p1 hin0 hin1 t) := by
  unfold Dlv; split <;> exact rowGot_storable _ _ _ _ _ _ _ _ _ _ _ _ _ _

/-- The operands of gather `k` of the sixteen. -/
def Opd (k : Fin 16) : sProp 𝕄 :=
  if h : k.val < 8 then Lent d L (q0 q) y v0M i0M f0 p0 ⟨k.val, h⟩ else Lent d L (q1 q) y v1M i1M f1 p1 ⟨k.val - 8, by omega⟩

/-- `k` gathers started, `w` waits done. -/
def Flying (k w : ℕ) : sProp 𝕄 :=
  iprop(bigSep (Transfers.pending (n := 16) k) (Opd d L q y f0 f1 p0 p1)
    ∗ Transfers.Batch countersEmb (thr d L) (.dma semG) (default : HIx 1) rowN (Dlv d L q y f0 f1 p0 p1 hin0 hin1) (32 * k) (32 * rowN * w)
    ∗ (bigSep Finset.univ (Rest d L (q0 q) y) ∗ bigSep Finset.univ (Rest d L (q1 q) y)) ∗ Owing d L O W)

variable {α : Type} {Q : α → sProp (MT nD τ sig (HIx 1) (Elt F) ℕ UU ℕ)} {R : sProp (MT nD τ sig (HIx 1) (Elt F) ℕ UU ℕ)}

/-- A column panel of the expert output, and of a row buffer, at an offset. -/
abbrev srcO (off : Fin 2 → ℕ) (inb : ∀ a, off a + S6144x128.size a ≤ S6144x1024.size a) : Memref sig .scVector .hbm S6144x128 .f32 :=
  yM.slice (Rect.unit (s := S6144x1024) off S6144x128.size inb) (fun _ => rfl)
abbrev dstO (bM : Memref sig .scVector .vmem S32x1024 .f32) (off : Fin 2 → ℕ) (inb : ∀ a, off a + S32x128.size a ≤ S32x1024.size a) : Memref sig .scVector .vmem S32x128 .f32 :=
  bM.slice (Rect.unit (s := S32x1024) off S32x128.size inb) (fun _ => rfl)

/-- Gather `k` of the sixteen, being panel `r` of one of the lists, is started. -/
theorem issue_step {k : ℕ} (hk : k < 16) (r : Fin 8) (ql : PosShare TreeShare)
    (bM : Memref sig .scVector .vmem S32x1024 .f32) (iM : Memref sig .scVector .vmem S32 .i32)
    (fb : Buf (Elt F) (bM.view.loc (thr d L))) (fi : Buf (Elt F) (iM.view.loc (thr d L)))
    (hin : ∀ x, (iM.view.read (Elt F) fi x).toNat < S6144x128.size gathers_S6144x128_S32x128.axis)
    {off1 off2 : Fin 2 → ℕ} {i1 : ∀ a, off1 a + S6144x128.size a ≤ S6144x1024.size a} {i2 : ∀ a, off2 a + S32x128.size a ≤ S32x1024.size a}
    {hn} {hp} {hsrc} {he} {hsp} {hr} {kk : PUnit → Prog (TpuEff nD τ sig (Elt F) Λ₀ (thr d L).2) α}
    (e1 : off1 = ![0, 128 * r.val]) (e2 : off2 = ![0, 128 * r.val])
    (hN : ∀ j : Fin 32, ((dstP bM r).slice (S32x128.rowRect gathers_S6144x128_S32x128.axis' j) (S32x128.stride_rowRect gathers_S6144x128_S32x128.axis' j)).view.dmaCredit = rowN)
    (hO : Opd d L q y f0 f1 p0 p1 ⟨k, hk⟩ ⊢ Lent d L ql y bM iM fb fi r)
    (hD : ∀ j : Fin 32, Got d L ql y bM iM fb fi hin r j ⊢ Dlv d L q y f0 f1 p0 p1 hin0 hin1 ⟨32 * k + j.val, by omega⟩)
    (h : iprop(Flying d L O W q y f0 f1 p0 p1 hin0 hin1 (k + 1) 0 ∗ R) ⊢ wpT d L (kk ⟨⟩) Q) :
    iprop(Flying d L O W q y f0 f1 p0 p1 hin0 hin1 k 0 ∗ R)
      ⊢ wpT d L (enqueueIndirectGather hp (srcO off1 i1)
          (dstO bM off2 i2) gathers_S6144x128_S32x128 iM hn semG hsrc he hsp hr >>= kk) Q := by
  subst e1 e2
  unfold Flying at h ⊢
  have ep : bigSep (Transfers.pending (n := 16) k) (Opd d L q y f0 f1 p0 p1)
      = iprop(Opd d L q y f0 f1 p0 p1 ⟨k, hk⟩ ∗ bigSep (Transfers.pending (k + 1)) (Opd d L q y f0 f1 p0 p1)) := by
    rw [Transfers.pending_succ hk, bigSep_insert (Transfers.not_mem_pending_succ _)]; rfl
  rw [ep]
  iintro ⟨⟨⟨Ho, Hp⟩, Hb, Hrest, HO⟩, HR⟩
  ihave Ho' := hO $$ Ho
  unfold Lent
  icases Ho' with ⟨Hs, Hd, Hi⟩
  iapply (wp_gatherInto (thr d L) countersEmb 𝒱₀ none (hg := gathers_S6144x128_S32x128) (src := srcP r) (dst := dstP bM r) (offs := iM)
    (default : HIx 1) rowN hN hs128 hin (show 32 * k + 32 ≤ 512 by omega) (Nat.zero_le _) hD) $$ [Hs Hd Hi Hb]
  · isplitl [Hs]; · iexact Hs
    isplitl [Hd]; · iexact Hd
    isplitl [Hi]; · iexact Hi
    iexact Hb
  iintro Hb
  iapply h
  isplitr [HR]
  · isplitl [Hp]; · iexact Hp
    isplitl [Hb]; · iexact Hb
    isplitl [Hrest]; · iexact Hrest
    iexact HO
  · iexact HR

theorem issue0_step {k off : ℕ} {i1 : ∀ a, (![0, off] : Fin 2 → ℕ) a + S6144x128.size a ≤ S6144x1024.size a} {i2 : ∀ a, (![0, off] : Fin 2 → ℕ) a + S32x128.size a ≤ S32x1024.size a}
    {kk : PUnit → Prog (TpuEff nD τ sig (Elt F) Λ₀ (thr d L).2) α}
    (hk : k < 8) (hoff : off = 128 * k)
    (h : iprop(Flying d L O W q y f0 f1 p0 p1 hin0 hin1 (k + 1) 0 ∗ R) ⊢ wpT d L (kk ⟨⟩) Q) :
    iprop(Flying d L O W q y f0 f1 p0 p1 hin0 hin1 k 0 ∗ R)
      ⊢ wpT d L (enqueueIndirectGather rfl (srcO ![0, off] i1)
          (dstO v0M ![0, off] i2) gathers_S6144x128_S32x128 i0M rfl semG (View.wordExact_bits rfl) rfl (Or.inl rfl) >>= kk) Q := by
  subst hoff
  refine issue_step d L O W q y f0 f1 p0 p1 hin0 hin1 (show k < 16 by omega) ⟨k, hk⟩ (q0 q) v0M i0M f0 p0 hin0 rfl rfl (fun _ => rfl) ?_ (fun j => ?_) h
  · unfold Opd; rw [dif_pos (show k < 8 from hk)]
  · unfold Dlv
    have a1 : (32 * k + j.val) / 32 = k := by omega
    have a2 : (32 * k + j.val) % 32 = j.val := by omega
    rw [dif_pos (show 32 * k + j.val < 256 by omega)]
    simp only [a1, a2]
    exact Entails.refl _

theorem issue1_step {k off : ℕ} {i1 : ∀ a, (![0, off] : Fin 2 → ℕ) a + S6144x128.size a ≤ S6144x1024.size a} {i2 : ∀ a, (![0, off] : Fin 2 → ℕ) a + S32x128.size a ≤ S32x1024.size a}
    {kk : PUnit → Prog (TpuEff nD τ sig (Elt F) Λ₀ (thr d L).2) α}
    (hk : 8 ≤ k ∧ k < 16) (hoff : off = 128 * (k - 8))
    (h : iprop(Flying d L O W q y f0 f1 p0 p1 hin0 hin1 (k + 1) 0 ∗ R) ⊢ wpT d L (kk ⟨⟩) Q) :
    iprop(Flying d L O W q y f0 f1 p0 p1 hin0 hin1 k 0 ∗ R)
      ⊢ wpT d L (enqueueIndirectGather rfl (srcO ![0, off] i1)
          (dstO v1M ![0, off] i2) gathers_S6144x128_S32x128 i1M rfl semG (View.wordExact_bits rfl) rfl (Or.inl rfl) >>= kk) Q := by
  subst hoff
  obtain ⟨hk8, hk⟩ := hk
  refine issue_step d L O W q y f0 f1 p0 p1 hin0 hin1 hk ⟨k - 8, by omega⟩ (q1 q) v1M i1M f1 p1 hin1 rfl rfl (fun _ => rfl) ?_ (fun j => ?_) h
  · unfold Opd; rw [dif_neg (show ¬ k < 8 by omega)]
  · unfold Dlv
    have a1 : (32 * k + j.val) / 32 = k := by omega
    have a2 : (32 * k + j.val) % 32 = j.val := by omega
    rw [dif_neg (show ¬ 32 * k + j.val < 256 by omega)]
    simp only [a1, a2]
    exact Entails.refl _

/-- A wait of one of the gathers, all of them started. -/
theorem wait_step (hO : ∀ g, O g none = 0) {w : ℕ} {sp : Space} {s₀ : Shape} {e' : EltTy}
    {src : Memref sig .scVector sp s₀ e'} {bM : Memref sig .scVector .vmem S32x128 .f32} {h1 : src.view.WordExact} {h2 : bM.view.WordExact}
    {kk : PUnit → Prog (TpuEff nD τ sig (Elt F) Λ₀ (thr d L).2) α}
    (hw : w < 16) (hN : bM.view.dmaCredit = 32 * rowN)
    (h : iprop(Flying d L O W q y f0 f1 p0 p1 hin0 hin1 16 (w + 1) ∗ R) ⊢ wpT d L (kk ⟨⟩) Q) :
    iprop(Flying d L O W q y f0 f1 p0 p1 hin0 hin1 16 w ∗ R) ⊢ wpT d L (waitIndirectGather semG src bM h1 h2 >>= kk) Q := by
  unfold Flying Owing at h ⊢
  change _ ⊢ wpT d L (Prog.op (TpuEff.waitDma2 semG src bM h1 h2) kk) Q
  iintro ⟨⟨Hp, Hb, Hrest, #Hlv, %W', %hW', HO⟩, HR⟩
  ihave Hmw := (show levAts (K (F := F)).L (K (F := F)).lev ⊢ Transfers.MayWaits (thr d L) (default : HIx 1) O from
    (K (F := F)).mayWaits_none (thr := thr d L) hO) $$ Hlv
  iapply (Transfers.wp_waitBatchMulO countersEmb 𝒱₀ (thr d L) none (default : HIx 1) 32 hN
    (show 32 * rowN * w + 32 * rowN ≤ rowN * (32 * 16) by
      have := Nat.mul_le_mul_left (32 * rowN) (show w + 1 ≤ 16 by omega)
      rw [Nat.mul_add, Nat.mul_one] at this
      refine this.trans (le_of_eq ?_)
      rw [Nat.mul_comm 32 rowN, Nat.mul_assoc])) $$ [Hb HO]
  · isplitl [Hb]; · iexact Hb
    isplitl [HO]; · iexact HO
    iapply (Transfers.MayWaits.elim (SemLoc.dma semG)) $$ Hmw
  iintro ⟨Hb, HO⟩
  iapply h
  isplitr [HR]
  · isplitl [Hp]; · iexact Hp
    isplitl [Hb]
    · rw [show 32 * rowN * (w + 1) = 32 * rowN * w + 32 * rowN by rw [Nat.mul_add, Nat.mul_one]]
      iexact Hb
    isplitl [Hrest]; · iexact Hrest
    isplitr; · iexact Hlv
    iexists _; isplitr
    swap; · iexact HO
    ipureintro; intro p hp
    rcases Finset.mem_insert.mp hp with hp | hp
    · exact .inr (hp ▸ rfl)
    · exact hW' p hp
  · iexact HR

/-- What a half's gathers need: the semaphore, a share of the expert output, the row buffers, the lists. -/
def Ready (b0 b1 : FVec F S32x1024 .f32) : sProp 𝕄 :=
  iprop(semVal (thr d L, .dma semG) 0 ∗ (yM.view.loc (thr d L) ↦{q} y) ∗ (v0M.view.loc (thr d L) ↦{fullShare} b0) ∗ (v1M.view.loc (thr d L) ↦{fullShare} b1)
    ∗ (i0M.view.loc (thr d L) ↦{fullShare} p0) ∗ (i1M.view.loc (thr d L) ↦{fullShare} p1) ∗ Owing d L O W)

theorem sets_univ : v0M.view.set = Finset.univ ∧ v1M.view.set = Finset.univ ∧ i0M.view.set = Finset.univ ∧ i1M.view.set = Finset.univ :=
  ⟨View.set_whole _, View.set_whole _, View.set_whole _, View.set_whole _⟩

theorem share_two : (yM.view.loc (thr d L) ↦{q} y : sProp 𝕄)
    = iprop((yM.view.loc (thr d L) ↦{q0 q} y) ∗ (yM.view.loc (thr d L) ↦{q1 q} y)) :=
  (pointsTo_piecesOf (Val := Elt F) (ℓ := yM.view.loc (thr d L)) Finset.univ y (by decide : 0 < 2) q).trans (bigSep_univ_two _)

theorem takeOff {p : Prog (TpuEff nD τ sig (Elt F) Λ₀ (thr d L).2) α}
    (h : iprop(Flying d L O W q y f0 f1 p0 p1 hin0 hin1 0 0 ∗ R) ⊢ wpT d L p Q) :
    iprop(Ready d L O W q y p0 p1 f0 f1 ∗ R) ⊢ wpT d L p Q := by
  have eO : iprop(bigSep Finset.univ (Lent d L (q0 q) y v0M i0M f0 p0) ∗ bigSep Finset.univ (Lent d L (q1 q) y v1M i1M f1 p1))
      ⊢ bigSep (Transfers.pending (n := 16) 0) (Opd d L q y f0 f1 p0 p1) := by
    have e0 := pending_take (nD := nD) (τ := τ) (sig := sig) (F := F) 0 8 (by decide) (Opd d L q y f0 f1 p0 p1)
    have e1 := pending_take (nD := nD) (τ := τ) (sig := sig) (F := F) (0 + 8) 8 (by decide) (Opd d L q y f0 f1 p0 p1)
    have e2 : bigSep (Transfers.pending (n := 16) (0 + 8 + 8)) (Opd d L q y f0 f1 p0 p1) = iprop(emp) := by
      rw [show (Transfers.pending (n := 16) (0 + 8 + 8)) = ∅ by decide]; exact bigSep_empty
    rw [e0, e1, e2]
    have m0 : bigSep Finset.univ (Lent d L (q0 q) y v0M i0M f0 p0) ⊢ bigSep Finset.univ fun j : Fin 8 => Opd d L q y f0 f1 p0 p1 ⟨0 + j.val, by omega⟩ :=
      bigSep_mono fun k _ => by
        unfold Opd
        rw [dif_pos (show 0 + k.val < 8 by omega)]
        simp only [Nat.zero_add]
        exact Entails.refl _
    have m1 : bigSep Finset.univ (Lent d L (q1 q) y v1M i1M f1 p1) ⊢ bigSep Finset.univ fun j : Fin 8 => Opd d L q y f0 f1 p0 p1 ⟨0 + 8 + j.val, by omega⟩ :=
      bigSep_mono fun k _ => by
        unfold Opd
        rw [dif_neg (show ¬ 0 + 8 + k.val < 8 by omega)]
        simp only [Nat.zero_add, Nat.add_sub_cancel_left]
        exact Entails.refl _
    iintro ⟨H0, H1⟩
    isplitl [H0]; · iapply m0; iexact H0
    isplitl [H1]; · iapply m1; iexact H1
    iempintro
  unfold Flying at h
  unfold Ready
  rw [share_two]
  have l0 := lend d L (q0 q) y v0M i0M f0 p0
  have l1 := lend d L (q1 q) y v1M i1M f1 p1
  rw [sets_univ.1, sets_univ.2.2.1] at l0
  rw [sets_univ.2.1, sets_univ.2.2.2] at l1
  iintro ⟨⟨Hs, ⟨Hy0, Hy1⟩, H0, H1, Hi0, Hi1, HO⟩, HR⟩
  ihave A0 := l0 $$ [Hy0 H0 Hi0]
  · isplitl [Hy0]; · iexact Hy0
    isplitl [H0]; · iexact H0
    iexact Hi0
  ihave A1 := l1 $$ [Hy1 H1 Hi1]
  · isplitl [Hy1]; · iexact Hy1
    isplitl [H1]; · iexact H1
    iexact Hi1
  icases A0 with ⟨A0, R0⟩
  icases A1 with ⟨A1, R1⟩
  imod (Transfers.batch_alloc' countersEmb (thr d L) (sm := .dma semG) (default : HIx 1) rowN (Dlv d L q y f0 f1 p0 p1 hin0 hin1)) $$ Hs with Hb
  iapply h
  isplitr [HR]
  · isplitl [A0 A1]
    · iapply eO
      isplitl [A0]; · iexact A0
      iexact A1
    isplitl [Hb]; · iexact Hb
    isplitl [R0 R1]
    · isplitl [R0]; · iexact R0
      iexact R1
    iexact HO
  · iexact HR

/-- A list's 256 rows, panel by panel. -/
theorem rows_panels (Φ : Fin 256 → sProp (MT nD τ sig (HIx 1) (Elt F) ℕ UU ℕ)) :
    bigSep Finset.univ Φ = bigSep Finset.univ fun k : Fin 8 => bigSep Finset.univ fun j : Fin 32 => Φ ⟨32 * k.val + j.val, by omega⟩ := by
  refine (bigSep_univ_equiv (finProdFinEquiv (m := 8) (n := 32)) Φ).trans ((bigSep_univ_prod _).trans ?_)
  refine bigSep_congr fun k _ => bigSep_congr fun j _ => ?_
  refine congrArg Φ (Fin.ext ?_)
  show j.val + 32 * k.val = 32 * k.val + j.val
  omega

theorem landed {p : Prog (TpuEff nD τ sig (Elt F) Λ₀ (thr d L).2) α}
    (h : iprop(Ready d L O W q y p0 p1 (pick y p0) (pick y p1) ∗ R) ⊢ wpT d L p Q) :
    iprop(Flying d L O W q y f0 f1 p0 p1 hin0 hin1 16 16 ∗ R) ⊢ wpT d L p Q := by
  have eD : bigSep Finset.univ (Dlv d L q y f0 f1 p0 p1 hin0 hin1)
      ⊢ iprop((bigSep Finset.univ fun k : Fin 8 => bigSep Finset.univ fun j : Fin 32 => Got d L (q0 q) y v0M i0M f0 p0 hin0 k j)
        ∗ (bigSep Finset.univ fun k : Fin 8 => bigSep Finset.univ fun j : Fin 32 => Got d L (q1 q) y v1M i1M f1 p1 hin1 k j)) := by
    have e0 := pending_take (nD := nD) (τ := τ) (sig := sig) (F := F) 0 256 (by decide) (Dlv d L q y f0 f1 p0 p1 hin0 hin1)
    have e1 := pending_take (nD := nD) (τ := τ) (sig := sig) (F := F) (0 + 256) 256 (by decide) (Dlv d L q y f0 f1 p0 p1 hin0 hin1)
    rw [← Transfers.pending_zero, e0, e1]
    have m0 : (bigSep Finset.univ fun j : Fin 256 => Dlv d L q y f0 f1 p0 p1 hin0 hin1 ⟨0 + j.val, by omega⟩)
        ⊢ bigSep Finset.univ fun k : Fin 8 => bigSep Finset.univ fun j : Fin 32 => Got d L (q0 q) y v0M i0M f0 p0 hin0 k j := by
      refine (Entails.of_eq (rows_panels _)).trans (bigSep_mono fun k _ => bigSep_mono fun j _ => ?_)
      unfold Dlv
      have a1 : (0 + (32 * k.val + j.val)) / 32 = k.val := by omega
      have a2 : (0 + (32 * k.val + j.val)) % 32 = j.val := by omega
      rw [dif_pos (show 0 + (32 * k.val + j.val) < 256 by omega)]
      simp only [a1, a2]
      exact Entails.refl _
    have m1 : (bigSep Finset.univ fun j : Fin 256 => Dlv d L q y f0 f1 p0 p1 hin0 hin1 ⟨0 + 256 + j.val, by omega⟩)
        ⊢ bigSep Finset.univ fun k : Fin 8 => bigSep Finset.univ fun j : Fin 32 => Got d L (q1 q) y v1M i1M f1 p1 hin1 k j := by
      refine (Entails.of_eq (rows_panels _)).trans (bigSep_mono fun k _ => bigSep_mono fun j _ => ?_)
      unfold Dlv
      have a1 : (0 + 256 + (32 * k.val + j.val)) / 32 - 8 = k.val := by omega
      have a2 : (0 + 256 + (32 * k.val + j.val)) % 32 = j.val := by omega
      rw [dif_neg (show ¬ 0 + 256 + (32 * k.val + j.val) < 256 by omega)]
      simp only [a1, a2]
      exact Entails.refl _
    iintro ⟨H0, H1, -⟩
    isplitl [H0]; · iapply m0; iexact H0
    iapply m1; iexact H1
  unfold Flying
  unfold Ready at h
  rw [share_two] at h
  have l0 := regain d L (q0 q) y v0M i0M f0 p0 hin0 (pick y p0) (panel_value0 d L y f0 p0 hin0)
  have l1 := regain d L (q1 q) y v1M i1M f1 p1 hin1 (pick y p1) (panel_value1 d L y f1 p1 hin1)
  rw [sets_univ.1, sets_univ.2.2.1] at l0
  rw [sets_univ.2.1, sets_univ.2.2.2] at l1
  iintro ⟨⟨-, Hb, ⟨R0, R1⟩, HO⟩, HR⟩
  imod (Transfers.batch_collect' countersEmb (thr d L) (sm := .dma semG) (ι := (default : HIx 1)) (N := rowN) (by decide)
    (D := Dlv d L q y f0 f1 p0 p1 hin0 hin1)) $$ [Hb] with ⟨HD, Hs⟩
  · rw [show rowN * 512 = 32 * rowN * 16 by rw [Nat.mul_comm 32 rowN, Nat.mul_assoc]]
    iexact Hb
  ihave HD' := eD $$ HD
  icases HD' with ⟨D0, D1⟩
  ihave A0 := l0 $$ [D0 R0]
  · isplitl [D0]; · iexact D0
    iexact R0
  ihave A1 := l1 $$ [D1 R1]
  · isplitl [D1]; · iexact D1
    iexact R1
  icases A0 with ⟨Hy0, H0, Hi0⟩
  icases A1 with ⟨Hy1, H1, Hi1⟩
  iapply h
  isplitr [HR]
  · isplitl [Hs]; · iexact Hs
    isplitl [Hy0 Hy1]
    · isplitl [Hy0]; · iexact Hy0
      iexact Hy1
    isplitl [H0]; · iexact H0
    isplitl [H1]; · iexact H1
    isplitl [Hi0]; · iexact Hi0
    isplitl [Hi1]; · iexact Hi1
    iexact HO
  · iexact HR

end Half

end Cert.Proof.Combine
-- ==== Proof.Steps.lean ====
/-
  THE OTHER STEPS OF A TILE: the four input copies of a half, the row loop, the copy of the weighted rows out. The tile's
  state is `Ready` (the gathers' resources), `Side` (the gates and the input arrays) and whatever else it holds.
-/
module

public import proofs.«01_k».proof.Proof.Half

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore

variable {F : FTy → Type} [FloatOps F]

local notation "𝕄" => MT nD τ sig (HIx 1) (Elt F) ℕ UU ℕ

/-! ## The arrays as a tile addresses them -/

abbrev p0M : Memref sig .scVector .hbm S2048 .i32 := Memref.whole main_arg1_scv
abbrev p1M : Memref sig .scVector .hbm S2048 .i32 := Memref.whole main_arg2_scv
abbrev g0M : Memref sig .scVector .hbm S2048 .f32 := Memref.whole main_arg3_scv
abbrev g1M : Memref sig .scVector .hbm S2048 .f32 := Memref.whole main_arg4_scv
abbrev oM : Memref sig .scVector .hbm S2048x1024 .f32 := Memref.whole main_v0_scv

/-- The first token of half `h` of task `L`. -/
abbrev base (L : grid0.Coords) (h : Fin 2) : ℕ := 128 * (L 1).val + 64 * (L 0).val + 32 * h.val
theorem base_lt (L : grid0.Coords) (h : Fin 2) : base L h + 32 ≤ 2048 := by
  have h0 : (L 0).val < 2 := (L 0).isLt
  have h1 : (L 1).val < 16 := (L 1).isLt
  have := h.isLt
  unfold base; omega

/-- The 32 entries of a list for half `h` of task `L`. -/
def part {β : Type} (f : S2048.Idx → β) (L : grid0.Coords) (h : Fin 2) : S32.Idx → β := fun x =>
  f (at2048 ⟨base L h + (x 0).val, by have := base_lt L h; have : (x 0).val < 32 := (x 0).isLt; omega⟩)

theorem part_eq {β : Type} (f : S2048.Idx → β) (L : grid0.Coords) (h : Fin 2) {off : Fin 1 → ℕ} (hoff : off = ![base L h])
    (inb : ∀ a, off a + S32.size a ≤ S2048.size a) : (fun x : S32.Idx => f ((Rect.unit (s := S2048) off S32.size inb).emb x)) = part f L h := by
  subst hoff
  funext x
  refine congrArg f (funext fun a => ?_)
  match a with
  | 0 => exact Fin.ext (show base L h + 1 * (x 0).val = base L h + (x 0).val by omega)

/-- The rows of the result that half `h` of task `L` writes. -/
abbrev outR (L : grid0.Coords) (h : Fin 2) : Rect S2048x1024 :=
  Rect.unit (s := S2048x1024) (k0_off66 L (BitVec.ofNat 32 (32 * h.val))) S32x1024.size (k0_off66_inb L h)
abbrev outP (L : grid0.Coords) (h : Fin 2) : Memref sig .scVector .hbm S32x1024 .f32 := oM.slice (outR L h) (fun _ => rfl)

section Steps

variable (d : Dev nD) (L : grid0.Coords) (O : CellTallies nD τ sig (HIx 1)) (W : Waits sig (HIx 1)) (hO : ∀ g, O g none = 0)
variable (q : PosShare TreeShare) (y : FVec F S6144x1024 .f32) (P0 P1 : IVec S2048 32) (G0 G1 : FVec F S2048 .f32)
variable {α : Type} {Q : α → sProp (MT nD τ sig (HIx 1) (Elt F) ℕ UU ℕ)} {R : sProp (MT nD τ sig (HIx 1) (Elt F) ℕ UU ℕ)}

/-! ## A copy between two buffers, started and waited for -/

theorem enq_step {sp sp' : Space} {s : Shape} {e : EltTy} {src : Memref sig .scVector sp s e} {dst : Memref sig .scVector sp' s e} {r : DmaSem sig}
    {h1 : src.view.WordExact} {h2 : dst.view.WordExact} {h3 : DmaTarget.Typed (nD := nD) sp (.dma r) (.here (p := (thr d L).2) dst)}
    {fs : Buf (Elt F) (src.view.loc (thr d L))} {fd : Buf (Elt F) (dst.view.loc (thr d L))} {ql : PosShare TreeShare} (hN : 0 < dst.view.dmaCredit)
    {kk : PUnit → Prog (TpuEff nD τ sig (Elt F) Λ₀ (thr d L).2) α} :
    iprop((src.view.loc (thr d L) ↦[src.view.set]{ql} fs) ∗ (dst.view.loc (thr d L) ↦[dst.view.set]{fullShare} fd) ∗ semVal (thr d L, .dma r) 0)
      ⊢ iprop((Transfers.Flight countersEmb (thr d L) (.dma r) (default : HIx 1) dst.view.dmaCredit
            iprop((dst.view.loc (thr d L) ↦[dst.view.set]{fullShare} (dst.view.write (Elt F) fd (src.view.read (Elt F) fs) Finset.univ))
              ∗ (src.view.loc (thr d L) ↦[src.view.set]{ql} fs))
          -∗ wpT d L (kk ⟨⟩) Q)
        -∗ wpT d L (Prog.lift (.enqueueDma src (.here dst) (.dma r) h1 h2 h3) >>= kk) Q) := by
  have h := Transfers.wp_dmaLocal (defs := defs₀ (F := F)) (Q := Q) countersEmb 𝒱₀ (thr d L) none (src := src) (via := .same) (dst := dst) (sm := .dma r)
    (hsrc := h1) (hdst := h2) (hsem := h3) (k := kk) (q := ql) (fs := fs) (fd := fd) (default : HIx 1) dst.view.dmaCredit (View.amount_dma _ _) hN (Finset.Subset.refl _)
  exact h

theorem waitc_step (hO : ∀ g, O g none = 0) {sp sp' : Space} {s s' : Shape} {e e' : EltTy} {src : Memref sig .scVector sp s' e'} {dst : Memref sig .scVector sp' s e} {r : DmaSem sig}
    {h1 : src.view.WordExact} {h2 : dst.view.WordExact} {D : sProp (MT nD τ sig (HIx 1) (Elt F) ℕ UU ℕ)}
    {kk : PUnit → Prog (TpuEff nD τ sig (Elt F) Λ₀ (thr d L).2) α} :
    iprop(Transfers.Flight countersEmb (thr d L) (.dma r) (default : HIx 1) dst.view.dmaCredit D ∗ Owing d L O W)
      ⊢ iprop((iprop(D ∗ semVal (thr d L, .dma r) 0 ∗ Owing d L O W) -∗ wpT d L (kk ⟨⟩) Q)
        -∗ wpT d L (Prog.lift (.waitDma2 r src dst h1 h2) >>= kk) Q) := by
  unfold Owing
  change _ ⊢ iprop(_ -∗ wpT d L (Prog.op (TpuEff.waitDma2 r src dst h1 h2) kk) Q)
  iintro ⟨Hf, #Hlv, %W', %hW', HO⟩ Hk
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (default : HIx 1) (rfl : dst.view.dmaCredit = _)) $$ [Hf HO]
  · isplitl [Hf]; · iexact Hf
    isplitl [HO]; · iexact HO
    iapply (Transfers.MayWaits.elim (SemLoc.dma r)) $$ Hmw
  iintro ⟨HD, Hs, HO⟩
  iapply Hk
  isplitl [HD]; · iexact HD
  isplitl [Hs]; · iexact Hs
  isplitr; · iexact Hlv
  iexists _; isplitr
  swap; · iexact HO
  ipureintro; intro p hp
  rcases Finset.mem_insert.mp hp with hp | hp
  · exact .inr (hp ▸ rfl)
  · exact hW' p hp

/-- Half `h`'s entries of a list, as a tile addresses them. -/
abbrev listP {e : EltTy} (aM : Memref sig .scVector .hbm S2048 e) (off : Fin 1 → ℕ) (inb : ∀ a, off a + S32.size a ≤ S2048.size a) : Memref sig .scVector .hbm S32 e :=
  aM.slice (Rect.unit (s := S2048) off S32.size inb) (fun _ => rfl)

/-- A list's entries copied into a whole scratch buffer, and waited for. -/
theorem fetch_one (hO : ∀ g, O g none = 0) {e : EltTy} {aM : Memref sig .scVector .hbm S2048 e} {bM : Memref sig .scVector .vmem S32 e} {r : DmaSem sig}
    {off : Fin 1 → ℕ} {inb : ∀ a, off a + S32.size a ≤ S2048.size a}
    {h1 : (listP aM off inb).view.WordExact} {h2 : bM.view.WordExact} {h3 : DmaTarget.Typed (nD := nD) .hbm (.dma r) (.here (p := (thr d L).2) bM)}
    {h4 : (listP aM off inb).view.WordExact} {h5 : bM.view.WordExact}
    {fa : Buf (Elt F) (aM.view.loc (thr d L))} {fb g : Buf (Elt F) (bM.view.loc (thr d L))} (hset : bM.view.set = Finset.univ)
    (hg : bM.view.write (Elt F) fb ((listP aM off inb).view.read (Elt F) fa) Finset.univ = g)
    {kk : PUnit → Prog (TpuEff nD τ sig (Elt F) Λ₀ (thr d L).2) α} :
    iprop((aM.view.loc (thr d L) ↦{q} fa) ∗ (bM.view.loc (thr d L) ↦{fullShare} fb) ∗ semVal (thr d L, .dma r) 0 ∗ Owing d L O W)
      ⊢ iprop((iprop((aM.view.loc (thr d L) ↦{q} fa) ∗ (bM.view.loc (thr d L) ↦{fullShare} g) ∗ semVal (thr d L, .dma r) 0 ∗ Owing d L O W) -∗ wpT d L (kk ⟨⟩) Q)
        -∗ wpT d L (Prog.lift (.enqueueDma (listP aM off inb) (.here bM) (.dma r) h1 h2 h3) >>= fun _ => Prog.lift (.waitDma2 r (listP aM off inb) bM h4 h5) >>= kk) Q) := by
  subst hg
  have hN : 0 < bM.view.dmaCredit := View.amount_pos (v := bM.view) (.dma r) (by decide)
  iintro ⟨Ha, Hb, Hs, HO⟩ Hk
  ihave Ha' := (pointsTo_split_subset (q := q) (f := fa) (S := Finset.univ) (Finset.subset_univ (listP aM off inb).view.set)).1 $$ Ha
  icases Ha' with ⟨Ha, Hrest⟩
  iapply (enq_step d L (src := listP aM off inb) (dst := bM) (r := r) (fs := fa) (fd := fb) (ql := q) hN) $$ [Ha Hb Hs]
  · isplitl [Ha]; · iexact Ha
    isplitl [Hb]; · rw [hset]; iexact Hb
    iexact Hs
  iintro Hf
  iapply (waitc_step d L O W hO (dst := bM)) $$ [Hf HO]
  · isplitl [Hf]; · iexact Hf
    iexact HO
  iintro ⟨⟨Hb, Ha⟩, Hs, HO⟩
  iapply Hk
  isplitl [Ha Hrest]
  · iapply (pointsTo_split_subset (q := q) (f := fa) (S := Finset.univ) (Finset.subset_univ (listP aM off inb).view.set)).2
    isplitl [Ha]; · iexact Ha
    iexact Hrest
  isplitl [Hb]; · rw [hset]; iexact Hb
  isplitl [Hs]; · iexact Hs
  iexact HO

/-! ## The steps over the tile's state -/

/-- The gates' scratch and the four lists. -/
def Side (s t : FVec F S32 .f32) : sProp 𝕄 :=
  iprop((s0M.view.loc (thr d L) ↦{fullShare} s) ∗ (s1M.view.loc (thr d L) ↦{fullShare} t) ∗ (p0M.view.loc (thr d L) ↦{q} P0) ∗ (p1M.view.loc (thr d L) ↦{q} P1)
    ∗ (g0M.view.loc (thr d L) ↦{q} G0) ∗ (g1M.view.loc (thr d L) ↦{q} G1))

/-- Four semaphores at zero. -/
def Sems4 (r0 r1 r2 r3 : DmaSem sig) : sProp 𝕄 :=
  iprop(semVal (thr d L, .dma r0) 0 ∗ semVal (thr d L, .dma r1) 0 ∗ semVal (thr d L, .dma r2) 0 ∗ semVal (thr d L, .dma r3) 0)

theorem reorder {A B B' : sProp 𝕄} {p : Prog (TpuEff nD τ sig (Elt F) Λ₀ (thr d L).2) α} (e : B ⊢ B') {C : sProp 𝕄} (h : iprop(A ∗ C ∗ B') ⊢ wpT d L p Q) :
    iprop(A ∗ C ∗ B) ⊢ wpT d L p Q := by
  refine BIBase.Entails.trans ?_ h
  iintro ⟨HA, HC, HB⟩
  isplitl [HA]; · iexact HA
  isplitl [HC]; · iexact HC
  iapply e; iexact HB

theorem fetch_step (hO : ∀ g, O g none = 0) (h : Fin 2) {off : Fin 1 → ℕ} (hoff : off = ![base L h])
    {inb0 inb1 inb2 inb3 inb4 inb5 inb6 inb7 : ∀ a, off a + S32.size a ≤ S2048.size a} {r0 r1 r2 r3 : DmaSem sig}
    {a0 a1 a2 a3 a4} {b0 b1 b2 b3 b4} {c0 c1 c2 c3 c4} {d0 d1 d2 d3 d4}
    {x0 x1 : FVec F S32x1024 .f32} {i0 i1 : IVec S32 32} {s t : FVec F S32 .f32}
    {kk : PUnit → Prog (TpuEff nD τ sig (Elt F) Λ₀ (thr d L).2) α}
    (hk : iprop(Ready d L O W q y (part P0 L h) (part P1 L h) x0 x1 ∗ Side d L q P0 P1 G0 G1 (part G0 L h) (part G1 L h) ∗ Sems4 d L r0 r1 r2 r3 ∗ R) ⊢ wpT d L (kk ⟨⟩) Q) :
    iprop(Ready d L O W q y i0 i1 x0 x1 ∗ Side d L q P0 P1 G0 G1 s t ∗ Sems4 d L r0 r1 r2 r3 ∗ R)
      ⊢ wpT d L (Prog.lift (.enqueueDma (listP p0M off inb0) (.here i0M) (.dma r0) a0 a1 a2) >>= fun _ => Prog.lift (.waitDma2 r0 (listP p0M off inb1) i0M a3 a4) >>= fun _ =>
          Prog.lift (.enqueueDma (listP p1M off inb2) (.here i1M) (.dma r1) b0 b1 b2) >>= fun _ => Prog.lift (.waitDma2 r1 (listP p1M off inb3) i1M b3 b4) >>= fun _ =>
          Prog.lift (.enqueueDma (listP g0M off inb4) (.here s0M) (.dma r2) c0 c1 c2) >>= fun _ => Prog.lift (.waitDma2 r2 (listP g0M off inb5) s0M c3 c4) >>= fun _ =>
          Prog.lift (.enqueueDma (listP g1M off inb6) (.here s1M) (.dma r3) d0 d1 d2) >>= fun _ => Prog.lift (.waitDma2 r3 (listP g1M off inb7) s1M d3 d4) >>= kk) Q := by
  have e0 : i0M.view.write (Elt F) i0 ((listP p0M off inb0).view.read (Elt F) P0) Finset.univ = part P0 L h :=
    (View.write_whole_univ _ _ _).trans (part_eq P0 L h hoff inb0)
  have e1 : i1M.view.write (Elt F) i1 ((listP p1M off inb2).view.read (Elt F) P1) Finset.univ = part P1 L h :=
    (View.write_whole_univ _ _ _).trans (part_eq P1 L h hoff inb0)
  have e2 : s0M.view.write (Elt F) s ((listP g0M off inb4).view.read (Elt F) G0) Finset.univ = part G0 L h :=
    (View.write_whole_univ _ _ _).trans (part_eq G0 L h hoff inb0)
  have e3 : s1M.view.write (Elt F) t ((listP g1M off inb6).view.read (Elt F) G1) Finset.univ = part G1 L h :=
    (View.write_whole_univ _ _ _).trans (part_eq G1 L h hoff inb0)
  unfold Ready Side Sems4 at hk ⊢
  iintro ⟨⟨Hg, Hy, H0, H1, Hi0, Hi1, HO⟩, ⟨Hs, Ht, HP0, HP1, HG0, HG1⟩, ⟨R0, R1, R2, R3⟩, HR⟩
  iapply (fetch_one d L O W q hO (View.set_whole _) e0) $$ [HP0 Hi0 R0 HO]
  · isplitl [HP0]; · iexact HP0
    isplitl [Hi0]; · iexact Hi0
    isplitl [R0]; · iexact R0
    iexact HO
  iintro ⟨HP0, Hi0, R0, HO⟩
  iapply (fetch_one d L O W q hO (View.set_whole _) e1) $$ [HP1 Hi1 R1 HO]
  · isplitl [HP1]; · iexact HP1
    isplitl [Hi1]; · iexact Hi1
    isplitl [R1]; · iexact R1
    iexact HO
  iintro ⟨HP1, Hi1, R1, HO⟩
  iapply (fetch_one d L O W q hO (View.set_whole _) e2) $$ [HG0 Hs R2 HO]
  · isplitl [HG0]; · iexact HG0
    isplitl [Hs]; · iexact Hs
    isplitl [R2]; · iexact R2
    iexact HO
  iintro ⟨HG0, Hs, R2, HO⟩
  iapply (fetch_one d L O W q hO (View.set_whole _) e3) $$ [HG1 Ht R3 HO]
  · isplitl [HG1]; · iexact HG1
    isplitl [Ht]; · iexact Ht
    isplitl [R3]; · iexact R3
    iexact HO
  iintro ⟨HG1, Ht, R3, HO⟩
  iapply hk
  isplitl [Hg Hy H0 H1 Hi0 Hi1 HO]
  · isplitl [Hg]; · iexact Hg
    isplitl [Hy]; · iexact Hy
    isplitl [H0]; · iexact H0
    isplitl [H1]; · iexact H1
    isplitl [Hi0]; · iexact Hi0
    isplitl [Hi1]; · iexact Hi1
    iexact HO
  isplitl [Hs Ht HP0 HP1 HG0 HG1]
  · isplitl [Hs]; · iexact Hs
    isplitl [Ht]; · iexact Ht
    isplitl [HP0]; · iexact HP0
    isplitl [HP1]; · iexact HP1
    isplitl [HG0]; · iexact HG0
    iexact HG1
  isplitr [HR]
  · isplitl [R0]; · iexact R0
    isplitl [R1]; · iexact R1
    isplitl [R2]; · iexact R2
    iexact R3
  iexact HR

/-- The rows a half leaves in the first row buffer. -/
def rowsOf (a b : FVec F S32x1024 .f32) (s t : FVec F S32 .f32) : FVec F S32x1024 .f32 := fun x => mixE (a x) (s (at32 (x 0))) (b x) (t (at32 (x 0)))

/-- The row loop, its trips as `row_body` and `row_body2` state them: the gathered rows become their weighted sums. -/
theorem loop_step {l : Scf.Loop 32} {hok : l.OK} {init : BitVec 32} {body : Fin l.trips → BitVec 32 → Prog (TpuEff nD τ sig (Elt F) Λ₀ (thr d L).2) (BitVec 32)}
    (htr : l.trips = 32) (a b : FVec F S32x1024 .f32) (s t : FVec F S32 .f32) {i0 i1 : IVec S32 32}
    (hbody : ∀ (r : Fin l.trips) (acc : BitVec 32) (hr : r.val < 32), Held d L a b s t (1024 * (⟨r.val, hr⟩ : Fin 32).val + 0)
      ⊢ wpT d L (body r acc) (fun _ => Held d L a b s t (1024 * (⟨r.val, hr⟩ : Fin 32).val + 1024)))
    {kk : BitVec 32 → Prog (TpuEff nD τ sig (Elt F) Λ₀ (thr d L).2) α}
    (hk : ∀ acc, iprop(Ready d L O W q y i0 i1 (rowsOf a b s t) b ∗ Side d L q P0 P1 G0 G1 s t ∗ R) ⊢ wpT d L (kk acc) Q) :
    iprop(Ready d L O W q y i0 i1 a b ∗ Side d L q P0 P1 G0 G1 s t ∗ R) ⊢ wpT d L (Scf.Loop.for l hok init body >>= kk) Q := by
  have hloop := Scf.wp_for_bind frame (wpE (defs₀ (F := F)) 𝒱₀ (thr d L) none) Set.univ l.lb l.ub l.st hok init body
    (fun n _ => Held d L a b s t (1024 * n)) (fun r acc => hbody r acc (lt_of_lt_of_eq r.isLt htr)) (kk := kk) (Q := Q)
  rw [show Scf.trips l.lb l.ub l.st = 32 from htr] at hloop
  unfold Held at hloop
  rw [mixed_zero, mixed_full] at hloop
  unfold Ready Side at hk ⊢
  iintro ⟨⟨Hg, Hy, H0, H1, Hi0, Hi1, HO⟩, ⟨Hs, Ht, HP⟩, HR⟩
  iapply hloop $$ [H0 H1 Hs Ht]
  · isplitl [H0]; · iexact H0
    isplitl [H1]; · iexact H1
    isplitl [Hs]; · iexact Hs
    iexact Ht
  iintro %acc ⟨H0, H1, Hs, Ht⟩
  iapply (hk acc)
  isplitl [Hg Hy H0 H1 Hi0 Hi1 HO]
  · isplitl [Hg]; · iexact Hg
    isplitl [Hy]; · iexact Hy
    isplitl [H0]; · iexact H0
    isplitl [H1]; · iexact H1
    isplitl [Hi0]; · iexact Hi0
    isplitl [Hi1]; · iexact Hi1
    iexact HO
  isplitl [Hs Ht HP]
  · isplitl [Hs]; · iexact Hs
    isplitl [Ht]; · iexact Ht
    iexact HP
  iexact HR

/-- The rows of the result that half `h` writes, held at `f`. -/
def OutP (h : Fin 2) (f : FVec F S2048x1024 .f32) : sProp 𝕄 :=
  (outP L h).view.loc (thr d L) ↦[(outP L h).view.set]{fullShare} f

/-- The tile's state while its weighted rows are on their way out. -/
def Storing (r : DmaSem sig) (h : Fin 2) (f : FVec F S2048x1024 .f32) (i0 i1 : IVec S32 32) (b0 b1 : FVec F S32x1024 .f32) : sProp 𝕄 :=
  iprop(Transfers.Flight countersEmb (thr d L) (.dma r) (default : HIx 1) (outP L h).view.dmaCredit
      iprop(((outP L h).view.loc (thr d L) ↦[(outP L h).view.set]{fullShare} ((outP L h).view.write (Elt F) f (v0M.view.read (Elt F) b0) Finset.univ))
        ∗ (v0M.view.loc (thr d L) ↦[v0M.view.set]{fullShare} b0))
    ∗ semVal (thr d L, .dma semG) 0 ∗ (yM.view.loc (thr d L) ↦{q} y) ∗ (v1M.view.loc (thr d L) ↦{fullShare} b1)
    ∗ (i0M.view.loc (thr d L) ↦{fullShare} i0) ∗ (i1M.view.loc (thr d L) ↦{fullShare} i1) ∗ Owing d L O W)

theorem out_eq (h : Fin 2) (f : FVec F S2048x1024 .f32) (i : S2048x1024.Idx) (hi : i ∈ (outP L h).view.set) :
    (outP L h).view.write (Elt F) f (v0M.view.read (Elt F) (rowsOf (pick y (part P0 L h)) (pick y (part P1 L h)) (part G0 L h) (part G1 L h))) Finset.univ i
      = outVal y P0 P1 G0 G1 i := by
  obtain ⟨x, -, rfl⟩ := Finset.mem_map.mp hi
  refine (View.write_emb_of_mem (v := (outP L h).view) (Val := Elt F) f _ (Finset.mem_univ x)).trans ?_
  have e0 : (outP L h).view.emb x = (outR L h).emb x := rfl
  have hoff := k0_off66_eq L h
  have c0 : ((outR L h).emb x 0).val = base L h + (x 0).val := by
    show k0_off66 L (BitVec.ofNat 32 (32 * h.val)) 0 + 1 * (x 0).val = _
    rw [hoff]
    show 128 * (L 1).val + 64 * (L 0).val + 32 * h.val + 1 * (x 0).val = _
    rw [Nat.one_mul]
  have c1 : ((outR L h).emb x 1).val = (x 1).val := by
    show k0_off66 L (BitVec.ofNat 32 (32 * h.val)) 1 + 1 * (x 1).val = _
    rw [hoff]
    show 0 + 1 * (x 1).val = _
    omega
  have hb := base_lt L h
  have hx : (x 0).val < 32 := (x 0).isLt
  have k0 : (outR L h).emb x 0 = ⟨base L h + (x 0).val, by omega⟩ := Fin.ext c0
  have k1 : (outR L h).emb x 1 = x 1 := Fin.ext c1
  rw [e0]
  unfold outVal
  rw [k0, k1]
  rfl

theorem storeEnq_step (r : DmaSem sig) (h : Fin 2) {off : Fin 2 → ℕ} (hoff : off = k0_off66 L (BitVec.ofNat 32 (32 * h.val)))
    {inb : ∀ a, off a + S32x1024.size a ≤ S2048x1024.size a} {i0 i1 : IVec S32 32} {s t : FVec F S32 .f32} {b0 b1 : FVec F S32x1024 .f32} {f : FVec F S2048x1024 .f32}
    {h1} {h2} {h3} {kk : PUnit → Prog (TpuEff nD τ sig (Elt F) Λ₀ (thr d L).2) α}
    (hk : iprop(Storing d L O W q y r h f i0 i1 b0 b1 ∗ Side d L q P0 P1 G0 G1 s t ∗ R) ⊢ wpT d L (kk ⟨⟩) Q) :
    iprop(Ready d L O W q y i0 i1 b0 b1 ∗ Side d L q P0 P1 G0 G1 s t ∗ iprop(semVal (thr d L, .dma r) 0 ∗ OutP d L h f) ∗ R)
      ⊢ wpT d L (Prog.lift (.enqueueDma v0M (.here (oM.slice (Rect.unit (s := S2048x1024) off S32x1024.size inb) (fun _ => rfl) : Memref sig .scVector .hbm S32x1024 .f32)) (.dma r) h1 h2 h3) >>= kk) Q := by
  subst hoff
  have hN : 0 < (outP L h).view.dmaCredit := View.amount_pos (v := (outP L h).view) (.dma r) (by decide)
  unfold Ready OutP
  iintro ⟨⟨Hg, Hy, H0, H1, Hi0, Hi1, HO⟩, HS, ⟨Hr, Ho⟩, HR⟩
  iapply (enq_step d L (src := v0M) (dst := outP L h) (r := r) (fs := b0) (fd := f) (ql := fullShare) hN) $$ [H0 Ho Hr]
  · isplitl [H0]; · rw [show v0M.view.set = Finset.univ from View.set_whole _]; iexact H0
    isplitl [Ho]; · iexact Ho
    iexact Hr
  iintro Hf
  iapply hk
  unfold Storing
  isplitr [HS HR]
  · isplitl [Hf]; · iexact Hf
    isplitl [Hg]; · iexact Hg
    isplitl [Hy]; · iexact Hy
    isplitl [H1]; · iexact H1
    isplitl [Hi0]; · iexact Hi0
    isplitl [Hi1]; · iexact Hi1
    iexact HO
  isplitl [HS]; · iexact HS
  iexact HR

theorem storeWait_step (hO : ∀ g, O g none = 0) (r : DmaSem sig) (h : Fin 2) {off : Fin 2 → ℕ} (hoff : off = k0_off66 L (BitVec.ofNat 32 (32 * h.val)))
    {inb : ∀ a, off a + S32x1024.size a ≤ S2048x1024.size a} {i0 i1 : IVec S32 32} {s t : FVec F S32 .f32} {b1 : FVec F S32x1024 .f32} {f : FVec F S2048x1024 .f32}
    {h1} {h2} {kk : PUnit → Prog (TpuEff nD τ sig (Elt F) Λ₀ (thr d L).2) α}
    (hk : iprop(Ready d L O W q y i0 i1 (rowsOf (pick y (part P0 L h)) (pick y (part P1 L h)) (part G0 L h) (part G1 L h)) b1 ∗ Side d L q P0 P1 G0 G1 s t
      ∗ iprop(semVal (thr d L, .dma r) 0 ∗ OutP d L h (outVal y P0 P1 G0 G1)) ∗ R) ⊢ wpT d L (kk ⟨⟩) Q) :
    iprop(Storing d L O W q y r h f i0 i1 (rowsOf (pick y (part P0 L h)) (pick y (part P1 L h)) (part G0 L h) (part G1 L h)) b1 ∗ Side d L q P0 P1 G0 G1 s t ∗ R)
      ⊢ wpT d L (Prog.lift (.waitDma2 r v0M (oM.slice (Rect.unit (s := S2048x1024) off S32x1024.size inb) (fun _ => rfl) : Memref sig .scVector .hbm S32x1024 .f32) h1 h2) >>= kk) Q := by
  subst hoff
  unfold Storing
  iintro ⟨⟨Hf, Hg, Hy, H1, Hi0, Hi1, HO⟩, HS, HR⟩
  iapply (waitc_step d L O W hO (dst := outP L h)) $$ [Hf HO]
  · isplitl [Hf]; · iexact Hf
    iexact HO
  iintro ⟨⟨Ho, H0⟩, Hr, HO⟩
  iapply hk
  unfold Ready OutP
  isplitr [HS HR Ho Hr]
  · isplitl [Hg]; · iexact Hg
    isplitl [Hy]; · iexact Hy
    isplitl [H0]; · rw [show v0M.view.set = Finset.univ from View.set_whole _]; iexact H0
    isplitl [H1]; · iexact H1
    isplitl [Hi0]; · iexact Hi0
    isplitl [Hi1]; · iexact Hi1
    iexact HO
  isplitl [HS]; · iexact HS
  isplitr [HR]
  · isplitl [Hr]; · iexact Hr
    have e := Entails.of_eq (pointsTo_congr (ℓ := (outP L h).view.loc (thr d L)) (q := fullShare) (Ix := HIx 1) (Name := ℕ) (U := UU) (Lvl := ℕ) (out_eq L y P0 P1 G0 G1 h f))
    iapply e; iexact Ho
  iexact HR

end Steps

end Cert.Proof.Combine
-- ==== Proof.Tile.lean ====
/-
  A TILE'S RUN: the kernel on one vector subcore, from its input arrays' shares, its scratch buffers, its semaphores at zero
  and the two blocks of the result that it writes, to the same with both blocks holding the weighted rows (`tile_run`).
-/
module

public import proofs.«01_k».proof.Proof.Steps

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore

variable {F : FTy → Type} [FloatOps F]

local notation "𝕄" => MT nD τ sig (HIx 1) (Elt F) ℕ UU ℕ

section Tile

variable (d : Dev nD) (L : grid0.Coords) (O : CellTallies nD τ sig (HIx 1)) (W : Waits sig (HIx 1))
variable (q : PosShare TreeShare) (y : FVec F S6144x1024 .f32) (P0 P1 : IVec S2048 32) (G0 G1 : FVec F S2048 .f32)

/-- The kernel at the launch's arrays and scratch. -/
abbrev kernelAt : Prog (TpuEff nD τ sig (Elt F) Λ₀ (thr d L).2) PUnit :=
  cc0_k L yM (Memref.isWhole_whole _) p0M (Memref.isWhole_whole _) p1M (Memref.isWhole_whole _) g0M (Memref.isWhole_whole _) g1M (Memref.isWhole_whole _)
    oM (Memref.isWhole_whole _) v0M (Memref.isWhole_whole _) v1M (Memref.isWhole_whole _) i0M (Memref.isWhole_whole _) i1M (Memref.isWhole_whole _)
    s0M (Memref.isWhole_whole _) s1M (Memref.isWhole_whole _) cc0_scratch6 cc0_scoped0 cc0_scoped1 cc0_scoped2 cc0_scoped3 cc0_scoped4 cc0_scoped5 cc0_scoped6
    cc0_scoped7 cc0_scoped8 cc0_scoped9

/-- One half's output semaphore at zero and its rows of the result at `f`. -/
def Dest (r : DmaSem sig) (h : Fin 2) (f : FVec F S2048x1024 .f32) : sProp 𝕄 := iprop(semVal (thr d L, .dma r) 0 ∗ OutP d L h f)

/-- The tile's semaphores other than the gathers', and its rows of the result at `f`. -/
def Cells (f : FVec F S2048x1024 .f32) : sProp 𝕄 :=
  iprop(Sems4 d L cc0_scoped0.sem cc0_scoped1.sem cc0_scoped2.sem cc0_scoped3.sem ∗ Dest d L cc0_scoped4.sem 0 f
    ∗ Sems4 d L cc0_scoped5.sem cc0_scoped6.sem cc0_scoped7.sem cc0_scoped8.sem ∗ Dest d L cc0_scoped9.sem 1 f)

theorem rotate4 (A B C E : sProp 𝕄) : iprop(A ∗ B ∗ C ∗ E) ⊢ iprop(B ∗ C ∗ E ∗ A) := by
  iintro ⟨HA, HB, HC, HE⟩
  isplitl [HB]; · iexact HB
  isplitl [HC]; · iexact HC
  isplitl [HE]; · iexact HE
  iexact HA

/-- A half's slots are in range, read as the gathers read them. -/
theorem in0 (hP0 : ∀ x, (P0 x).toNat < 6144) (h : Fin 2) (x) : (i0M.view.read (Elt F) (part P0 L h) x).toNat < S6144x128.size gathers_S6144x128_S32x128.axis := hP0 _
theorem in1 (hP1 : ∀ x, (P1 x).toNat < 6144) (h : Fin 2) (x) : (i1M.view.read (Elt F) (part P1 L h) x).toNat < S6144x128.size gathers_S6144x128_S32x128.axis := hP1 _

theorem trips1 : k0_t1_loop.trips = 32 := by decide
theorem trips2 : k0_t2_loop.trips = 32 := by decide

set_option maxHeartbeats 4000000 in
set_option maxRecDepth 65536 in
theorem tile_run (hO : ∀ g, O g none = 0) (hP0 : ∀ x, (P0 x).toNat < 6144) (hP1 : ∀ x, (P1 x).toNat < 6144)
    (i0 i1 : IVec S32 32) (x0 x1 : FVec F S32x1024 .f32) (s t : FVec F S32 .f32) (f : FVec F S2048x1024 .f32) :
    iprop(Ready d L O W q y i0 i1 x0 x1 ∗ Side d L q P0 P1 G0 G1 s t ∗ Cells d L f)
      ⊢ wpT d L (kernelAt d L) fun _ => iprop(Ready d L O W q y (part P0 L 1) (part P1 L 1) (rowsOf (pick y (part P0 L 1)) (pick y (part P1 L 1)) (part G0 L 1) (part G1 L 1)) (pick y (part P1 L 1))
          ∗ Side d L q P0 P1 G0 G1 (part G0 L 1) (part G1 L 1) ∗ Cells d L (outVal y P0 P1 G0 G1)) := by
  unfold Cells Dest kernelAt
  rw [cc0_k_eq_skeleton]
  unfold cc0_k_skel
  simp only [k0_part37_eq_skeleton, k0_part38_eq_skeleton, k0_part39_eq_skeleton, k0_part40_eq_skeleton, k0_part41_eq_skeleton, k0_part42_eq_skeleton,
    k0_part43_eq_skeleton, k0_part44_eq_skeleton, k0_part45_eq_skeleton]
  refine bind_step d L ?_
  unfold k0_part37_skel
  dsimp only
  refine fetch_step d L O W q y P0 P1 G0 G1 hO 0 (k0_off1_eq L 0) ?_
  refine reorder d L (rotate4 _ _ _ _) ?_
  refine takeOff d L O W q y _ _ _ _ (in0 (F := F) L P0 hP0 0) (in1 (F := F) L P1 hP1 0) ?_
  repeat first
    | (with_reducible refine issue0_step d L O W q y _ _ _ _ _ _ ?_ ?_ ?_
       · decide
       · rfl)
    | (with_reducible refine issue1_step d L O W q y _ _ _ _ _ _ ?_ ?_ ?_
       · decide
       · rfl)
    | (with_reducible refine wait_step d L O W q y _ _ _ _ _ _ hO ?_ ?_ ?_
       · decide
       · rfl)
    | (with_reducible refine pure_step d L ?_
       try dsimp only)
    | (refine bind_step d L ?_
       first | unfold k0_part38_skel | unfold k0_part39_skel | unfold k0_part40_skel | unfold k0_part41_skel
       dsimp only)
  refine landed d L O W q y _ _ _ _ _ _ ?_
  refine loop_step d L O W q y P0 P1 G0 G1 trips1 _ _ _ _ (row_body d L _ _ _ _ _ _ _ _ _ _ _ _ _ _ _ _) (fun acc => ?_)
  refine storeEnq_step d L O W q y P0 P1 G0 G1 _ 0 rfl ?_
  refine storeWait_step d L O W q y P0 P1 G0 G1 hO _ 0 rfl ?_
  refine reorder d L (rotate4 _ _ _ _) ?_
  refine fetch_step d L O W q y P0 P1 G0 G1 hO 1 (k0_off1_eq L 1) ?_
  refine reorder d L (rotate4 _ _ _ _) ?_
  refine takeOff d L O W q y _ _ _ _ (in0 (F := F) L P0 hP0 1) (in1 (F := F) L P1 hP1 1) ?_
  repeat first
    | (with_reducible refine issue0_step d L O W q y _ _ _ _ _ _ ?_ ?_ ?_
       · decide
       · rfl)
    | (with_reducible refine issue1_step d L O W q y _ _ _ _ _ _ ?_ ?_ ?_
       · decide
       · rfl)
    | (with_reducible refine wait_step d L O W q y _ _ _ _ _ _ hO ?_ ?_ ?_
       · decide
       · rfl)
    | (with_reducible refine pure_step d L ?_
       try dsimp only)
    | (refine bind_step d L ?_
       first | unfold k0_part42_skel | unfold k0_part43_skel | unfold k0_part44_skel | unfold k0_part45_skel
       dsimp only)
  refine landed d L O W q y _ _ _ _ _ _ ?_
  refine loop_step d L O W q y P0 P1 G0 G1 trips2 _ _ _ _ (row_body2 d L _ _ _ _ _ _ _ _ _ _ _ _ _ _ _) (fun acc => ?_)
  refine storeEnq_step d L O W q y P0 P1 G0 G1 _ 1 rfl ?_
  refine pure_step d L ?_
  try dsimp only
  refine storeWait_step d L O W q y P0 P1 G0 G1 hO _ 1 rfl ?_
  refine reorder d L (rotate4 _ _ _ _) ?_
  exact pure_step d L .rfl

end Tile

end Cert.Proof.Combine
-- ==== Proof.Task.lean ====
/-
  A TILE'S TASK FROM WHAT THE LAUNCH HANDS IT: a share of every input array, its two blocks of rows of the result, its own
  scratch buffers at any contents and its own semaphores at zero. It hands all of it back, the blocks holding the result.
-/
module

public import proofs.«01_k».proof.Proof.Tile

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore

variable {F : FTy → Type} [FloatOps F]

local notation "𝕄" => MT nD τ sig (HIx 1) (Elt F) ℕ UU ℕ

variable (m : (ℓ : Loc nD τ sig) → Buf (Elt F) ℓ)

/-- Every slot of the launch memory is a row of the expert output. -/
def PreOK : Prop := ∀ d, (∀ x, ((m (p0Loc d) : IVec S2048 32) x).toNat < 6144) ∧ ∀ x, ((m (p1Loc d) : IVec S2048 32) x).toNat < 6144

/-- The result of device `d`, from the launch memory. -/
abbrev result (d : Dev nD) : Buf (Elt F) (oLoc d) := outVal (m (yLoc d)) (m (p0Loc d)) (m (p1Loc d)) (m (g0Loc d)) (m (g1Loc d))

/-- The share of every input array that task `(c, j)` holds: one of sixteen pieces of one of two. -/
abbrev sh (c : Fin 2) (j : Fin 16) : PosShare TreeShare := pieceOf (pieceOf fullShare 2 (by decide) c) 16 (by decide) j
/-- Task `L`'s share. -/
abbrev shL (L : grid0.Coords) : PosShare TreeShare := sh (L 0) (L 1)

section Task

variable (d : Dev nD) (L : grid0.Coords)

/-- The five input arrays at share `q`. -/
def Ins (q : PosShare TreeShare) : sProp 𝕄 :=
  iprop((yLoc d ↦{q} m (yLoc d)) ∗ (p0Loc d ↦{q} m (p0Loc d)) ∗ (p1Loc d ↦{q} m (p1Loc d)) ∗ (g0Loc d ↦{q} m (g0Loc d)) ∗ (g1Loc d ↦{q} m (g1Loc d)))

/-- A task's two blocks of rows of the result, at `f`. -/
def Outs (f : Buf (Elt F) (oLoc d)) : sProp 𝕄 := iprop(OutP d L 0 f ∗ OutP d L 1 f)

/-- What a task holds of the arrays, its rows of the result at `f`. -/
def Holds (f : Buf (Elt F) (oLoc d)) : sProp 𝕄 := iprop(Ins m d (shL L) ∗ Outs d L f)

/-! ## The tile's own semaphores and buffers -/

/-- The eleven semaphores of a tile. -/
def semOf : Fin 11 → DmaSem sig :=
  ![cc0_scratch6.sem, cc0_scoped0.sem, cc0_scoped1.sem, cc0_scoped2.sem, cc0_scoped3.sem, cc0_scoped4.sem, cc0_scoped5.sem, cc0_scoped6.sem, cc0_scoped7.sem,
    cc0_scoped8.sem, cc0_scoped9.sem]

/-- The six buffers of a tile. -/
def bufOf : Fin 6 → Ref sig .scVector := ![cc0_scratch0, cc0_scratch1, cc0_scratch2, cc0_scratch3, cc0_scratch4, cc0_scratch5]

theorem semOf_inj : Function.Injective semOf := by decide
theorem bufOf_inj : Function.Injective bufOf := by decide
theorem semOf_scoped : ∀ k, (SemLoc.dma (semOf k) : SemLoc sig).isScoped .scVector = true := by decide
theorem bufOf_owner (c : Fin τ.nSC) (j : Fin τ.nSub) : ∀ k, ((Proc.scVector c j).devRef (bufOf k)).owner = .proc (.scVector c j)
  | 0 => rfl | 1 => rfl | 2 => rfl | 3 => rfl | 4 => rfl | 5 => rfl
  | ⟨_ + 6, h⟩ => absurd h (Nat.not_lt.2 (Nat.le_add_left _ _))

/-- The semaphores of the tile that the kernel does not use. -/
def RestSems : sProp 𝕄 :=
  bigSep (ownCells (thr d L) \ Finset.univ.image fun k => ((thr d L, .dma (semOf k)) : GSem nD τ sig)) fun g => semVal g 0
/-- The buffers of the tile that the kernel does not use. -/
def RestBufs : sProp 𝕄 :=
  bigSep (ownRefs (τ := τ) (thr d L).2 \ Finset.univ.image fun k => (Proc.scVector (cV L) (jV L)).devRef (bufOf k))
    fun b => iprop(∃ f, ((d, b) : Loc nD τ sig) ↦{fullShare} f)

/-- A family over `s` is its members that `f` names, and the rest. -/
theorem split_image {I J : Type} [DecidableEq I] [Fintype J] [DecidableEq J] {s : Finset I} {f : J → I} (inj : Function.Injective f) (sub : ∀ j, f j ∈ s)
    (Φ : I → sProp 𝕄) : bigSep s Φ = iprop((bigSep Finset.univ fun j => Φ (f j)) ∗ bigSep (s \ Finset.univ.image f) Φ) := by
  rw [bigSep_sdiff_split' (t := Finset.univ.image f) fun x hx => by obtain ⟨j, -, rfl⟩ := Finset.mem_image.mp hx; exact sub j,
    Idealize.SL.BI.bigSep_image_of_injOn inj.injOn]

theorem ownSems0_V : (ownSems0 (thr d L) : sProp 𝕄)
    = iprop((bigSep Finset.univ fun k => semVal (thr d L, .dma (semOf k)) 0) ∗ RestSems d L) :=
  split_image (fun a b e => semOf_inj (by injection (Prod.mk.inj e).2))
    (fun k => (mem_ownCells (g := (thr d L, .dma (semOf k)))).mpr ⟨rfl, semOf_scoped k⟩) _

theorem ownBufs_V : (ownBufs (thr d L) : sProp 𝕄)
    = iprop((bigSep Finset.univ fun k => iprop(∃ f, (thr d L).loc (bufOf k) ↦{fullShare} f)) ∗ RestBufs d L) :=
  split_image (fun a b e => bufOf_inj (Proc.devRef_injective _ e))
    (fun k => SparseCore.Cfg.mem_ownRefs_of_owner (p := Proc.scVector (cV L) (jV L)) (bufOf_owner _ _ k)) _

theorem six (Φ : Fin 6 → sProp 𝕄) : bigSep Finset.univ Φ = iprop(Φ 0 ∗ Φ 1 ∗ Φ 2 ∗ Φ 3 ∗ Φ 4 ∗ Φ 5) := by
  rw [bigSep_univ_succ, bigSep_univ_succ, bigSep_univ_succ, bigSep_univ_succ, bigSep_univ_succ, bigSep_univ_of_subsingleton (0 : Fin 1)]; rfl
theorem eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [bigSep_univ_succ, bigSep_univ_succ, bigSep_univ_succ, bigSep_univ_succ, bigSep_univ_succ, six]; rfl

/-- The tile's semaphores and scratch buffers, by name. -/
theorem sems_eq : (bigSep Finset.univ fun k => semVal (thr d L, .dma (semOf k)) 0 : sProp 𝕄)
    = iprop(semVal (thr d L, .dma semG) 0 ∗ semVal (thr d L, .dma cc0_scoped0.sem) 0 ∗ semVal (thr d L, .dma cc0_scoped1.sem) 0
      ∗ semVal (thr d L, .dma cc0_scoped2.sem) 0 ∗ semVal (thr d L, .dma cc0_scoped3.sem) 0 ∗ semVal (thr d L, .dma cc0_scoped4.sem) 0
      ∗ semVal (thr d L, .dma cc0_scoped5.sem) 0 ∗ semVal (thr d L, .dma cc0_scoped6.sem) 0 ∗ semVal (thr d L, .dma cc0_scoped7.sem) 0
      ∗ semVal (thr d L, .dma cc0_scoped8.sem) 0 ∗ semVal (thr d L, .dma cc0_scoped9.sem) 0) := eleven _
theorem bufs_eq : (bigSep Finset.univ fun k => iprop(∃ f, (thr d L).loc (bufOf k) ↦{fullShare} f) : sProp 𝕄)
    = iprop((∃ f, v0M.view.loc (thr d L) ↦{fullShare} f) ∗ (∃ f, v1M.view.loc (thr d L) ↦{fullShare} f) ∗ (∃ f, i0M.view.loc (thr d L) ↦{fullShare} f)
      ∗ (∃ f, i1M.view.loc (thr d L) ↦{fullShare} f) ∗ (∃ f, s0M.view.loc (thr d L) ↦{fullShare} f) ∗ (∃ f, s1M.view.loc (thr d L) ↦{fullShare} f)) := six _

/-! ## The task -/

set_option maxHeartbeats 1000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ Holds m d L (m (oLoc d)) ∗ scopedBufs (thr d L) ∗ scopedSems0 (thr d L) ∗ owes (thr d L) O W)
      ⊢ wp frame (wpE (defs₀ (F := F)) 𝒱₀ (thr d L) none) Set.univ (kernelAt d L)
          fun _ => iprop(Holds m d L (result m d) ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V, sems_eq, bufs_eq]
  unfold Holds Ins Outs
  iintro ⟨Hlv, -, ⟨⟨Hy, Hp0, Hp1, Hg0, Hg1⟩, Ho0, Ho1⟩, ⟨⟨⟨%x0, Hv0⟩, ⟨%x1, Hv1⟩, ⟨%i0, Hi0⟩, ⟨%i1, Hi1⟩, ⟨%s, Hs⟩, ⟨%t, Ht⟩⟩, HB⟩,
    ⟨⟨HG, H0, H1, H2, H3, H4, H5, H6, H7, H8, H9⟩, HS⟩, HO⟩
  iapply (wp_wand_r frame _ _)
  isplitr [HB HS]
  · iapply (tile_run d L O W (shL L) (m (yLoc d)) (m (p0Loc d)) (m (p1Loc d)) (m (g0Loc d)) (m (g1Loc d)) hO (hpre d).1 (hpre d).2 i0 i1 x0 x1 s t (m (oLoc d)))
    unfold Ready Side Cells Dest Sems4 Owing
    isplitl [Hlv HG Hy Hv0 Hv1 Hi0 Hi1 HO]
    · isplitl [HG]; · iexact HG
      isplitl [Hy]; · iexact Hy
      isplitl [Hv0]; · iexact Hv0
      isplitl [Hv1]; · iexact Hv1
      isplitl [Hi0]; · iexact Hi0
      isplitl [Hi1]; · iexact Hi1
      isplitl [Hlv]; · iexact Hlv
      iexists W
      isplitr
      · ipureintro; exact fun p hp => Or.inl hp
      · iexact HO
    isplitl [Hs Ht Hp0 Hp1 Hg0 Hg1]
    · isplitl [Hs]; · iexact Hs
      isplitl [Ht]; · iexact Ht
      isplitl [Hp0]; · iexact Hp0
      isplitl [Hp1]; · iexact Hp1
      isplitl [Hg0]; · iexact Hg0
      iexact Hg1
    isplitl [H0 H1 H2 H3]
    · isplitl [H0]; · iexact H0
      isplitl [H1]; · iexact H1
      isplitl [H2]; · iexact H2
      iexact H3
    isplitl [H4 Ho0]
    · isplitl [H4]; · iexact H4
      iexact Ho0
    isplitl [H5 H6 H7 H8]
    · isplitl [H5]; · iexact H5
      isplitl [H6]; · iexact H6
      isplitl [H7]; · iexact H7
      iexact H8
    isplitl [H9]; · iexact H9
    iexact Ho1
  iintro %_ ⟨HR, HD, HC⟩
  unfold Ready Side Cells Dest Sems4 Owing
  icases HR with ⟨HG, Hy, Hv0, Hv1, Hi0, Hi1, -, HO⟩
  icases HD with ⟨Hs, Ht, Hp0, Hp1, Hg0, Hg1⟩
  icases HC with ⟨⟨H0, H1, H2, H3⟩, ⟨H4, Ho0⟩, ⟨H5, H6, H7, H8⟩, H9, Ho1⟩
  isplitl [Hy Hp0 Hp1 Hg0 Hg1 Ho0 Ho1]
  · isplitl [Hy Hp0 Hp1 Hg0 Hg1]
    · isplitl [Hy]; · iexact Hy
      isplitl [Hp0]; · iexact Hp0
      isplitl [Hp1]; · iexact Hp1
      isplitl [Hg0]; · iexact Hg0
      iexact Hg1
    isplitl [Ho0]; · iexact Ho0
    iexact Ho1
  isplitl [Hv0 Hv1 Hi0 Hi1 Hs Ht HB]
  · isplitr [HB]
    · isplitl [Hv0]; · iexists _; iexact Hv0
      isplitl [Hv1]; · iexists _; iexact Hv1
      isplitl [Hi0]; · iexists _; iexact Hi0
      isplitl [Hi1]; · iexists _; iexact Hi1
      isplitl [Hs]; · iexists _; iexact Hs
      iexists _; iexact Ht
    iexact HB
  isplitr [HO]
  · isplitr [HS]
    · isplitl [HG]; · iexact HG
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact HS
  iexact HO

end Task

end Cert.Proof.Combine
-- ==== Proof.Launch.lean ====
/-
  THE LAUNCH. Task `(c, j)` takes its piece of a share of every input array and its two blocks of 32 rows of the result;
  the blocks are apart and cover the result. The run of the whole program leaves the five arguments as they were and the
  result at `result`, every semaphore at zero.
-/
module

public import Idealize.ShloMosaic.Lib.StableHlo.Run
public import proofs.«01_k».proof.Proof.Task

@[expose] public section

noncomputable section

namespace Cert.Proof.Combine

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.SparseCore

variable {F : FTy → Type} [FloatOps F]

local notation "𝕄" => MT nD τ sig (HIx 1) (Elt F) ℕ UU ℕ

variable (m : (ℓ : Loc nD τ sig) → Buf (Elt F) ℓ) (ρ : Dev nD → PrngReg)

/-- Task `(c, j)`. -/
def coordsV (c : Fin (grid0.bound 0)) (s : Fin (grid0.bound 1)) : grid0.Coords :=
  fun | 0 => c | 1 => s | ⟨_ + 2, h⟩ => absurd h (Nat.not_lt.2 (Nat.le_add_left _ _))

/-! ## The arrays split and join -/

/-- An input array whole is its thirty-two shares. -/
theorem shares_eq {ℓ : Loc nD τ sig} (f : Buf (Elt F) ℓ) :
    (ℓ ↦{fullShare} f : sProp 𝕄) = bigSep Finset.univ fun c : Fin 2 => bigSep Finset.univ fun j : Fin 16 => ℓ ↦{sh c j} f :=
  (pointsTo_piecesOf (Val := Elt F) (ℓ := ℓ) Finset.univ f (by decide : 0 < 2) fullShare).trans
    (bigSep_congr fun c _ => pointsTo_piecesOf (Val := Elt F) (ℓ := ℓ) Finset.univ f (by decide : 0 < 16) _)

/-- The elements of half `h` of task `(c, j)`'s rows of the result. -/
abbrev rowsAt (k : (Fin 2 × Fin 16) × Fin 2) : Finset S2048x1024.Idx := (outP (coordsV k.1.1 k.1.2) k.2).view.set

theorem rowsAt_eq (k : (Fin 2 × Fin 16) × Fin 2) : rowsAt k = (outR (coordsV k.1.1 k.1.2) k.2).set := by
  show ((View.whole (main_v0_scv : Ref sig .scVector)).slice (outR (coordsV k.1.1 k.1.2) k.2)).set = _
  rw [View.set_slice]; exact Finset.map_refl

theorem mem_rowsAt (k : (Fin 2 × Fin 16) × Fin 2) (x : S2048x1024.Idx) :
    x ∈ rowsAt k ↔ 128 * k.1.2.val + 64 * k.1.1.val + 32 * k.2.val ≤ (x 0).val ∧ (x 0).val < 128 * k.1.2.val + 64 * k.1.1.val + 32 * k.2.val + 32 := by
  have hoff := k0_off66_eq (coordsV k.1.1 k.1.2) k.2
  have h1 : (x 1).val < 1024 := (x 1).isLt
  rw [rowsAt_eq, Rect.mem_set_unit, hoff]
  constructor
  · intro h; exact h 0
  · intro h a
    match a with
    | 0 => exact h
    | 1 => exact ⟨Nat.zero_le _, by show (x 1).val < 0 + 1024; omega⟩

theorem rowsAt_disjoint : ∀ k ∈ (Finset.univ : Finset ((Fin 2 × Fin 16) × Fin 2)), ∀ l ∈ (Finset.univ : Finset ((Fin 2 × Fin 16) × Fin 2)),
    k ≠ l → Disjoint (rowsAt k) (rowsAt l) := by
  rintro ⟨⟨c, j⟩, h⟩ - ⟨⟨c', j'⟩, h'⟩ - hne
  refine Finset.disjoint_left.mpr fun x hx hx' => hne ?_
  have e := (mem_rowsAt _ x).mp hx
  have e' := (mem_rowsAt _ x).mp hx'
  have := c.isLt; have := c'.isLt; have := h.isLt; have := h'.isLt
  dsimp only at e e'
  rw [Prod.mk.injEq, Prod.mk.injEq, Fin.ext_iff, Fin.ext_iff, Fin.ext_iff]
  omega

theorem rowsAt_cover : (Finset.univ : Finset ((Fin 2 × Fin 16) × Fin 2)).biUnion rowsAt = Finset.univ := by
  refine Finset.eq_univ_of_forall fun x => Finset.mem_biUnion.mpr ?_
  have h0 : (x 0).val < 2048 := (x 0).isLt
  refine ⟨((⟨(x 0).val % 128 / 64, by omega⟩, ⟨(x 0).val / 128, by omega⟩), ⟨(x 0).val % 64 / 32, by omega⟩), Finset.mem_univ _, (mem_rowsAt _ x).mpr ?_⟩
  dsimp only
  omega

/-- The result whole is every task's two blocks of rows. -/
theorem outs_eq (d : Dev nD) (f : Buf (Elt F) (oLoc d)) :
    (oLoc d ↦{fullShare} f : sProp 𝕄) = bigSep Finset.univ fun c : Fin 2 => bigSep Finset.univ fun j : Fin 16 => Outs d (coordsV c j) f := by
  have e : (oLoc d ↦{fullShare} f : sProp 𝕄) = bigSep Finset.univ fun k => oLoc d ↦[rowsAt k]{fullShare} f := by
    rw [← pointsTo_biUnion Finset.univ (ℓ := oLoc d) rowsAt rowsAt_disjoint, rowsAt_cover]
  rw [e, bigSep_univ_prod, bigSep_univ_prod]
  exact bigSep_congr fun c _ => bigSep_congr fun j _ => bigSep_univ_two _

/-- All the arrays are every task's part of them. -/
theorem holds_eq (d : Dev nD) (f : Buf (Elt F) (oLoc d)) :
    (bigSep Finset.univ fun c : Fin 2 => bigSep Finset.univ fun j : Fin 16 => Holds m d (coordsV c j) f : sProp 𝕄)
      = iprop(Ins m d fullShare ∗ oLoc d ↦{fullShare} f) := by
  unfold Holds Ins
  simp only [bigSep_sep']
  rw [← outs_eq, shares_eq (ℓ := yLoc d), shares_eq (ℓ := p0Loc d), shares_eq (ℓ := p1Loc d), shares_eq (ℓ := g0Loc d), shares_eq (ℓ := g1Loc d)]
  rfl

/-! ## What the handshakes carry -/

instance holds_storable (d : Dev nD) (L : grid0.Coords) (f : Buf (Elt F) (oLoc d)) : BI.Storable (upEmb : UEmb _ 𝕄) (Holds m d L f) := by
  unfold Holds Ins Outs OutP; infer_instance

instance tasks_storable (d : Dev nD) (c : Fin (grid0.bound 0)) (f : Buf (Elt F) (oLoc d)) :
    BI.Storable (upEmb : UEmb _ 𝕄) (bigSep Finset.univ fun j : Fin 16 => Holds m d (coordsV c j) f) :=
  @BI.Storable.bigSep _ _ _ _ _ _ _ Finset.univ _ fun j => holds_storable m d (coordsV c j) f

/-- A SparseCore is handed its sixteen tasks' parts and hands them back, the rows of the result holding it. -/
def P : (K (F := F)).Pay (nD := nD) (Val := Elt F) (Name := ℕ) (U := UU) where
  st := fun q d c => match q with
    | 0 => bigSep Finset.univ fun j : Fin 16 => Holds m d (coordsV c j) (m (oLoc d))
  dn := fun q d c => match q with
    | 0 => bigSep Finset.univ fun j : Fin 16 => Holds m d (coordsV c j) (result m d)
  go := fun q d c i => match q with
    | 0 => Holds m d (coordsV c i) (m (oLoc d))
  td := fun q d c i => match q with
    | 0 => Holds m d (coordsV c i) (result m d)
  x := fun _ _ => iprop(emp)

instance P_storable : (P m).IsStorable where
  st q d c := match q with
    | 0 => tasks_storable m d c (m (oLoc d))
  dn q d c := match q with
    | 0 => tasks_storable m d c (result m d)
  go q d c i := match q with
    | 0 => holds_storable m d (coordsV c i) (m (oLoc d))
  td q d c i := match q with
    | 0 => holds_storable m d (coordsV c i) (result m d)

/-! ## The task's obligation -/

theorem defs₀_vector (c : Fin τ.nSC) (s : Fin τ.nSub) :
    defs₀ (F := F) (.scVector c s) 0 ()
      = SparseCore.onTile hcore0 hsub0 (fun c s => cc0_k (coordsV c s) yM (Memref.isWhole_whole _) p0M (Memref.isWhole_whole _) p1M (Memref.isWhole_whole _)
          g0M (Memref.isWhole_whole _) g1M (Memref.isWhole_whole _) oM (Memref.isWhole_whole _) v0M (Memref.isWhole_whole _) v1M (Memref.isWhole_whole _)
          i0M (Memref.isWhole_whole _) i1M (Memref.isWhole_whole _) s0M (Memref.isWhole_whole _) s1M (Memref.isWhole_whole _) cc0_scratch6 cc0_scoped0
          cc0_scoped1 cc0_scoped2 cc0_scoped3 cc0_scoped4 cc0_scoped5 cc0_scoped6 cc0_scoped7 cc0_scoped8 cc0_scoped9) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

theorem vecSplit : (K (F := F)).VecSplit' (P m) 0 := by
  intro d c
  show (bigSep Finset.univ fun j : Fin 16 => Holds m d (coordsV c j) (m (oLoc d))) ⊢ |={Set.univ}=> iprop(
      (bigSep Finset.univ fun j : Fin 16 => Holds m d (coordsV c j) (m (oLoc d)))
      ∗ ((bigSep Finset.univ fun j : Fin 16 => Holds m d (coordsV c j) (result m d))
          -∗ bigSep Finset.univ fun j : Fin 16 => Holds m d (coordsV c j) (result m d)))
  iintro H; imodintro
  isplitl [H]; · iexact H
  iintro H; iexact H

/-! ## The launch element of the certificate's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

theorem unscopedBufs_eq (d : Dev nD) (W : (b : Ref sig .tc) → Buf (Elt F) ((d.tc : Thread nD τ).loc b)) :
    (unscopedBufs d W : sProp 𝕄) = iprop((yLoc d ↦{fullShare} W main_arg0) ∗ (p0Loc d ↦{fullShare} W main_arg1) ∗ (p1Loc d ↦{fullShare} W main_arg2)
      ∗ (g0Loc d ↦{fullShare} W main_arg3) ∗ (g1Loc d ↦{fullShare} W main_arg4) ∗ oLoc d ↦{fullShare} W main_v0) := by
  unfold unscopedBufs
  rw [show (Finset.univ.filter fun b : Ref sig .tc => ¬ b.isScoped) = {main_arg0, main_arg1, main_arg2, main_arg3, main_arg4, main_v0} by decide,
    SparseCore.bigSep_insert' (by decide), SparseCore.bigSep_insert' (by decide), SparseCore.bigSep_insert' (by decide), SparseCore.bigSep_insert' (by decide),
    SparseCore.bigSep_insert' (by decide), bigSep_singleton]

abbrev FIN (d : Dev nD) : sProp 𝕄 := iprop((oLoc d ↦{fullShare} result m d) ∗ Ins m d fullShare)

theorem st0_eq (d : Dev nD) : (bigSep Finset.univ fun c : Fin ((K (F := F)).nCore 0) => (P m).st 0 d c) = iprop(Ins m d fullShare ∗ oLoc d ↦{fullShare} m (oLoc d)) :=
  holds_eq m d (m (oLoc d))
theorem dn0_eq (d : Dev nD) : (bigSep Finset.univ fun c : Fin ((K (F := F)).nCore 0) => (P m).dn 0 d c) = iprop(Ins m d fullShare ∗ oLoc d ↦{fullShare} result m d) :=
  holds_eq m d (result m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hy, Hp0, Hp1, Hg0, Hg1, Ho⟩, Hts, -⟩, -⟩
  iapply ((K (F := F)).wp_run (D (F := F)) 𝒱 (EH := EH) (P := P m) κ d 0) $$ [Hst Hy Hp0 Hp1 Hg0 Hg1 Ho Hb Hts]
  isplitr; · iexact Hctx
  isplitl [Hst]; · iexact Hst
  isplitl [Hy Hp0 Hp1 Hg0 Hg1 Ho]
  · rw [st0_eq]
    unfold Ins
    isplitr [Ho]
    · isplitl [Hy]; · iexact Hy
      isplitl [Hp0]; · iexact Hp0
      isplitl [Hp1]; · iexact Hp1
      isplitl [Hg0]; · iexact Hg0
      iexact Hg1
    iexact Ho
  iintro ⟨Hst, Hdn⟩
  ihave Hdn' := (Entails.of_eq (dn0_eq m d)) $$ Hdn
  icases Hdn' with ⟨HI, Ho⟩
  imodintro
  isplitl [Hst]; · iexact Hst
  isplitl [HI Ho]
  · isplitl [Ho]; · iexact Ho
    iexact HI
  isplitl [Hb] <;> iassumption

/-- What the final memory of device `d` is. -/
def fq (d : Dev nD) (s' : Phys nD τ sig (Elt F)) : Prop :=
  s'.mem.mem (oLoc d) = result m d ∧ s'.mem.mem (yLoc d) = m (yLoc d) ∧ s'.mem.mem (p0Loc d) = m (p0Loc d) ∧ s'.mem.mem (p1Loc d) = m (p1Loc d)
    ∧ s'.mem.mem (g0Loc d) = m (g0Loc d) ∧ s'.mem.mem (g1Loc d) = m (g1Loc d)

/-- An array held at `f` is `f` in the final memory; what the rest of the resources say stays. -/
theorem agree {s' : Phys nD τ sig (Elt F)} {ℓ : Loc nD τ sig} {f : Buf (Elt F) ℓ} {R : sProp (MT nD τ sig (HIx 1) (Elt F) ℕ UU ℕ)} {φ : Prop}
    (h : iprop(R ∗ SI s') ⊢ (⌜φ⌝ : sProp 𝕄)) : iprop(((ℓ ↦{fullShare} f) ∗ R) ∗ SI s') ⊢ (⌜s'.mem.mem ℓ = f ∧ φ⌝ : sProp 𝕄) := by
  iintro ⟨⟨H, HR⟩, HSI⟩
  ihave H' := (persistent_entails_right (SI_pointsTo_agree (st := s') (ℓ := ℓ) (I := Finset.univ) (q := fullShare) (f := f))) $$ [HSI H]
  · isplitl [HSI] <;> iassumption
  icases H' with ⟨%h1, HSI, -⟩
  ihave H2 := h $$ [HR HSI]
  · isplitl [HR] <;> iassumption
  icases H2 with %h2
  ipureintro; exact ⟨funext fun i => h1 i (Finset.mem_univ i), h2⟩

theorem agree_last {s' : Phys nD τ sig (Elt F)} {ℓ : Loc nD τ sig} {f : Buf (Elt F) ℓ} :
    iprop((ℓ ↦{fullShare} f) ∗ SI s') ⊢ (⌜s'.mem.mem ℓ = f⌝ : sProp 𝕄) := by
  iintro ⟨H, HSI⟩
  ihave H' := (SI_pointsTo_agree (st := s') (ℓ := ℓ) (I := Finset.univ) (q := fullShare) (f := f)) $$ [HSI H]
  · isplitl [HSI] <;> iassumption
  icases H' with %h1
  ipureintro; exact funext fun i => h1 i (Finset.mem_univ i)

set_option maxRecDepth 16384 in
theorem hfin (d : Dev nD) (s' : Phys nD τ sig (Elt F)) : iprop(FIN m d ∗ SI s') ⊢ (⌜fq m d s'⌝ : sProp 𝕄) := by
  unfold FIN Ins
  exact agree (agree (agree (agree (agree agree_last))))

/-! ## The program's run -/

def QC : PUnit × MemSt nD τ sig (Elt F) → Prop := fun r =>
  (∀ d : Dev nD, r.2.mem (oLoc d) = result m d ∧ r.2.mem (yLoc d) = m (yLoc d) ∧ r.2.mem (p0Loc d) = m (p0Loc d) ∧ r.2.mem (p1Loc d) = m (p1Loc d)
    ∧ r.2.mem (g0Loc d) = m (g0Loc d) ∧ r.2.mem (g1Loc d) = m (g1Loc d)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Combine
-- ==== Proof.Ref.lean ====
/-
  THE REFERENCE'S RUN. `y[pos0] * g1[:, None] + y[pos1] * g2[:, None]` is a straight line of array operations. Its result is
  `refOut` of the five arguments, which are left as they were. An index that is negative counts from the end, and one out of
  range is clamped; with every slot in range neither happens, and `refOut` is `outVal`, the kernel's result (`refOut_eq`).
-/
module

public import proofs.«01_k».proof.Proof.Setup
public import proofs.«01_k».proof.Proof.Gen.Reference
public import Idealize.ShloMosaic.Lib.StableHlo.Run
public import Idealize.ShloMosaic.Lib.Affine

@[expose] public section

noncomputable section

namespace Cert.Proof.Ref

open Cert.Reference Cert.Reference.Gen
open Idealize.ShloMosaic Idealize.ShloMosaic.TcCoe Idealize.ShloMosaic.StableHlo Idealize.SL.Sem
open Cert.Proof.Combine (at2048 atY slotRow outVal mixE)

variable {F : FTy → Type} [FloatOps F]

/-! ## The value -/

/-- The slots as the gather takes them: a negative one has 6144 added, and the list is made a column. -/
def starts (p : IVec S2048 32) : IVec S2048x1 32 :=
  broadcastInDim S2048x1 ![0] Facts₀.bcast_S2048_S2048x1_0
    (select (cmpi .slt p (broadcastInDim S2048 ![] Facts₀.bcast_S_S2048 (constantI S_ 32 0#32)))
      (addi p (broadcastInDim S2048 ![] Facts₀.bcast_S_S2048 (constantI S_ 32 6144#32))) p)

/-- The gates, spread over the columns. -/
def spread (g : FVec F S2048 .f32) : FVec F S2048x1024 .f32 :=
  broadcastInDim S2048x1024 ![0, 1] Facts₀.bcast_S2048x1_S2048x1024_0_1 (broadcastInDim S2048x1 ![0] Facts₀.bcast_S2048_S2048x1_0 g)

/-- The rows at the slots. -/
def rows (y : FVec F S6144x1024 .f32) (p : IVec S2048 32) : FVec F S2048x1024 .f32 :=
  Host.gather gather_S6144x1024_S2048x1_S2048x1024_1_0_n_n_0_1_11024 y (starts p)

/-- The reference's result. -/
def refOut (y : FVec F S6144x1024 .f32) (p0 p1 : IVec S2048 32) (g0 g1 : FVec F S2048 .f32) : FVec F S2048x1024 .f32 :=
  addf (mulf (rows y p0) (spread g0)) (mulf (rows y p1) (spread g1))

/-- A word below 6144 is not negative. -/
theorem toInt_of_lt {w : BitVec 32} (h : w.toNat < 6144) : w.toInt = w.toNat := by
  rw [BitVec.toInt_eq_toNat_cond]
  omega

/-- The gather's row `i` starts at slot `i` when the slot is in range. -/
theorem starts_eq (p : IVec S2048 32) (hp : ∀ i, (p i).toNat < 6144) (b : S2048x1.Idx) : starts p b = p (at2048 (b 0)) := by
  have hi : ∀ i : S2048.Idx, select (cmpi .slt p (broadcastInDim S2048 ![] Facts₀.bcast_S_S2048 (constantI S_ 32 0#32)))
      (addi p (broadcastInDim S2048 ![] Facts₀.bcast_S_S2048 (constantI S_ 32 6144#32))) p i = p i := fun i => by
    refine if_neg fun h => ?_
    have := (IntOp.cmpi_slt (x := p i) (y := 0#32)).1 h
    rw [toInt_of_lt (hp i)] at this
    have h0 : (0#32 : BitVec 32).toInt = 0 := by decide
    omega
  show select _ _ p _ = _
  rw [hi]
  congr 1
  funext a
  match a with
  | ⟨0, _⟩ => rfl

theorem spread_eq (g : FVec F S2048 .f32) (x : S2048x1024.Idx) : spread g x = g (at2048 (x 0)) := by
  show g _ = _
  congr 1
  funext a
  match a with
  | ⟨0, _⟩ => rfl

theorem rows_eq (y : FVec F S6144x1024 .f32) (p : IVec S2048 32) (hp : ∀ i, (p i).toNat < 6144) (x : S2048x1024.Idx) :
    rows y p x = y (atY (slotRow (p (at2048 (x 0)))) (x 1)) := by
  show y _ = _
  congr 1
  funext a
  match a with
  | ⟨0, h⟩ =>
    refine Fin.ext ?_
    show min (starts p _).toInt.toNat (6144 - 1) + 0 + 0 = (p (at2048 (x 0))).toNat % 6144
    rw [starts_eq p hp]
    have e : ∀ b : S2048x1.Idx, b 0 = x 0 → min (p (at2048 (b 0))).toInt.toNat (6144 - 1) + 0 + 0 = (p (at2048 (x 0))).toNat % 6144 := by
      intro b hb
      rw [hb, toInt_of_lt (hp _), Nat.mod_eq_of_lt (hp _)]
      have := hp (at2048 (x 0))
      omega
    exact e _ rfl
  | ⟨1, h⟩ =>
    refine Fin.ext ?_
    show 0 + 0 + (x 1).val = (x 1).val
    omega

/-- With every slot in range, the reference's result is the kernel's. -/
theorem refOut_eq (y : FVec F S6144x1024 .f32) (p0 p1 : IVec S2048 32) (g0 g1 : FVec F S2048 .f32)
    (h0 : ∀ i, (p0 i).toNat < 6144) (h1 : ∀ i, (p1 i).toNat < 6144) : refOut y p0 p1 g0 g1 = outVal y p0 p1 g0 g1 := by
  funext x
  show mixE (rows y p0 x) (spread g0 x) (rows y p1 x) (spread g1 x) = _
  rw [rows_eq y p0 h0, rows_eq y p1 h1, spread_eq, spread_eq]
  rfl

/-! ## The run -/

/-- The operations, in order. -/
abbrev ops : List (HloOp τ sig (Elt F)) :=
  [ nullary main_c (constantI S_ 32 0#32),
    unary main_c main_v0 (broadcastInDim S2048 ![] Facts₀.bcast_S_S2048 : (⟨S_, .i32⟩ : BufTy).Contents (Elt F) → (⟨S2048, .i32⟩ : BufTy).Contents (Elt F)),
    binary main_arg1 main_v0 main_v1 (cmpi .slt : (⟨S2048, .i32⟩ : BufTy).Contents (Elt F) → (⟨S2048, .i32⟩ : BufTy).Contents (Elt F) → (⟨S2048, .i1⟩ : BufTy).Contents (Elt F)),
    nullary main_c_0 (constantI S_ 32 6144#32),
    unary main_c_0 main_v2 (broadcastInDim S2048 ![] Facts₀.bcast_S_S2048 : (⟨S_, .i32⟩ : BufTy).Contents (Elt F) → (⟨S2048, .i32⟩ : BufTy).Contents (Elt F)),
    binary main_arg1 main_v2 main_v3 (addi : (⟨S2048, .i32⟩ : BufTy).Contents (Elt F) → (⟨S2048, .i32⟩ : BufTy).Contents (Elt F) → (⟨S2048, .i32⟩ : BufTy).Contents (Elt F)),
    ternary main_v1 main_v3 main_arg1 main_v4 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v4 main_v5 (broadcastInDim S2048x1 ![0] Facts₀.bcast_S2048_S2048x1_0 : (⟨S2048, .i32⟩ : BufTy).Contents (Elt F) → (⟨S2048x1, .i32⟩ : BufTy).Contents (Elt F)),
    binary main_arg0 main_v5 main_v6 ((fun x i => Host.gather gather_S6144x1024_S2048x1_S2048x1024_1_0_n_n_0_1_11024 x i) : (⟨S6144x1024, .f32⟩ : BufTy).Contents (Elt F) → (⟨S2048x1, .i32⟩ : BufTy).Contents (Elt F) → (⟨S2048x1024, .f32⟩ : BufTy).Contents (Elt F)),
    unary main_arg3 main_v7 (broadcastInDim S2048x1 ![0] Facts₀.bcast_S2048_S2048x1_0 : (⟨S2048, .f32⟩ : BufTy).Contents (Elt F) → (⟨S2048x1, .f32⟩ : BufTy).Contents (Elt F)),
    unary main_v7 main_v8 (broadcastInDim S2048x1024 ![0, 1] Facts₀.bcast_S2048x1_S2048x1024_0_1 : (⟨S2048x1, .f32⟩ : BufTy).Contents (Elt F) → (⟨S2048x1024, .f32⟩ : BufTy).Contents (Elt F)),
    binary main_v6 main_v8 main_v9 (mulf : (⟨S2048x1024, .f32⟩ : BufTy).Contents (Elt F) → (⟨S2048x1024, .f32⟩ : BufTy).Contents (Elt F) → (⟨S2048x1024, .f32⟩ : BufTy).Contents (Elt F)),
    nullary main_c_1 (constantI S_ 32 0#32),
    unary main_c_1 main_v10 (broadcastInDim S2048 ![] Facts₀.bcast_S_S2048 : (⟨S_, .i32⟩ : BufTy).Contents (Elt F) → (⟨S2048, .i32⟩ : BufTy).Contents (Elt F)),
    binary main_arg2 main_v10 main_v11 (cmpi .slt : (⟨S2048, .i32⟩ : BufTy).Contents (Elt F) → (⟨S2048, .i32⟩ : BufTy).Contents (Elt F) → (⟨S2048, .i1⟩ : BufTy).Contents (Elt F)),
    nullary main_c_2 (constantI S_ 32 6144#32),
    unary main_c_2 main_v12 (broadcastInDim S2048 ![] Facts₀.bcast_S_S2048 : (⟨S_, .i32⟩ : BufTy).Contents (Elt F) → (⟨S2048, .i32⟩ : BufTy).Contents (Elt F)),
    binary main_arg2 main_v12 main_v13 (addi : (⟨S2048, .i32⟩ : BufTy).Contents (Elt F) → (⟨S2048, .i32⟩ : BufTy).Contents (Elt F) → (⟨S2048, .i32⟩ : BufTy).Contents (Elt F)),
    ternary main_v11 main_v13 main_arg2 main_v14 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v14 main_v15 (broadcastInDim S2048x1 ![0] Facts₀.bcast_S2048_S2048x1_0 : (⟨S2048, .i32⟩ : BufTy).Contents (Elt F) → (⟨S2048x1, .i32⟩ : BufTy).Contents (Elt F)),
    binary main_arg0 main_v15 main_v16 ((fun x i => Host.gather gather_S6144x1024_S2048x1_S2048x1024_1_0_n_n_0_1_11024 x i) : (⟨S6144x1024, .f32⟩ : BufTy).Contents (Elt F) → (⟨S2048x1, .i32⟩ : BufTy).Contents (Elt F) → (⟨S2048x1024, .f32⟩ : BufTy).Contents (Elt F)),
    unary main_arg4 main_v17 (broadcastInDim S2048x1 ![0] Facts₀.bcast_S2048_S2048x1_0 : (⟨S2048, .f32⟩ : BufTy).Contents (Elt F) → (⟨S2048x1, .f32⟩ : BufTy).Contents (Elt F)),
    unary main_v17 main_v18 (broadcastInDim S2048x1024 ![0, 1] Facts₀.bcast_S2048x1_S2048x1024_0_1 : (⟨S2048x1, .f32⟩ : BufTy).Contents (Elt F) → (⟨S2048x1024, .f32⟩ : BufTy).Contents (Elt F)),
    binary main_v16 main_v18 main_v19 (mulf : (⟨S2048x1024, .f32⟩ : BufTy).Contents (Elt F) → (⟨S2048x1024, .f32⟩ : BufTy).Contents (Elt F) → (⟨S2048x1024, .f32⟩ : BufTy).Contents (Elt F)),
    binary main_v9 main_v19 main_v20 (addf : (⟨S2048x1024, .f32⟩ : BufTy).Contents (Elt F) → (⟨S2048x1024, .f32⟩ : BufTy).Contents (Elt F) → (⟨S2048x1024, .f32⟩ : BufTy).Contents (Elt F)) ]

theorem main_eq (c : Dev nD) : main (F := F) c = seq ops := rfl

/-- The result's contents. -/
theorem out_eq (V : Valuation τ sig (Elt F)) :
    after ops V (main_v20 : DevRef τ sig) = refOut (V (main_arg0 : DevRef τ sig)) (V (main_arg1 : DevRef τ sig))
      (V (main_arg2 : DevRef τ sig)) (V (main_arg3 : DevRef τ sig)) (V (main_arg4 : DevRef τ sig)) := by
  after_results
  rfl

/-- What the operations write, in order. -/
abbrev written : List (Ref sig .tc) :=
  [ main_c, main_v0, main_v1, main_c_0, main_v2, main_v3, main_v4, main_v5, main_v6, main_v7, main_v8, main_v9, main_c_1, main_v10, main_v11, main_c_2, main_v12, main_v13, main_v14, main_v15, main_v16, main_v17, main_v18, main_v19, main_v20 ]

/-- An array that no operation writes keeps its contents. -/
theorem kept (V : Valuation τ sig (Elt F)) (r : Ref sig .tc) (hr : r ∉ written) :
    after ops V (Proc.devRef .tc r : DevRef τ sig) = V (Proc.devRef .tc r : DevRef τ sig) :=
  after_of_writes_sub (W := written) ops V (forall_writes_sub_of_map rfl) hr

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub ..⟩

/-- From any memory the reference ends with its result at `refOut` of its arguments, the arguments as they were, and every
    counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v20) = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.sem = fun _ => 0 :=
  (θ_run defs _ _).mono (fun r h => ⟨fun c => ⟨(h c main_v20).trans (out_eq _), (h c main_arg0).trans (kept _ _ (by decide)),
      (h c main_arg1).trans (kept _ _ (by decide)), (h c main_arg2).trans (kept _ _ (by decide)),
      (h c main_arg3).trans (kept _ _ (by decide)), (h c main_arg4).trans (kept _ _ (by decide))⟩,
      sem_eq_zero_of_no_sems (by decide) r.2⟩)
    (run_seq scopedRefs_eq scopedSems_eq defs main (fun _ => ops) main_eq (fun _ => ops_sub) m ρ)

end Cert.Proof.Ref

end
-- ==== Proof.Range.lean ====
/-
  THE PRECONDITION, READ. `slots_in_range` is four conjuncts, each an `all` over a list of 2048 words; where it holds, every
  word of both slot lists is below 6144.
-/
module

public import proofs.«01_k».proof.Pre_slots_in_range
public import proofs.«01_k».proof.Proof.Gen.Pre_slots_in_range
public import Idealize.ShloMosaic.Lib.ReduceAll

@[expose] public section

noncomputable section

namespace Cert.Proof.Range

open Cert.Pre_slots_in_range
open Idealize.ShloMosaic

variable {F : FTy → Type} [FloatOps F]

instance : Subsingleton S_.Idx := ⟨fun a b => funext fun i => i.elim0⟩

/-- A word between 0 and 6144 as a signed number is below 6144 as a plain one. -/
theorem lt_of_bits {w : BitVec 32} (h0 : IntOp.cmpi .sge w 0#32 = 1#1) (h1 : IntOp.cmpi .slt w 6144#32 = 1#1) : w.toNat < 6144 := by
  have a := IntOp.cmpi_sge.1 h0
  have b := IntOp.cmpi_slt.1 h1
  have e0 : (0#32 : BitVec 32).toInt = 0 := by decide
  have e1 : (6144#32 : BitVec 32).toInt = 6144 := by decide
  rw [e0, BitVec.toInt_eq_toNat_cond] at a
  rw [e1, BitVec.toInt_eq_toNat_cond] at b
  omega

theorem slots_lt (y : FVec F S6144x1024 .f32) (p0 p1 : IVec S2048 32) (g0 g1 : FVec F S2048 .f32)
    (h : fn y p0 p1 g0 g1 = fun _ => 1#1) : (∀ x, (p0 x).toNat < 6144) ∧ ∀ x, (p1 x).toNat < 6144 := by
  have e := congrFun h (fun i => i.elim0)
  dsimp only [fn] at e
  obtain ⟨e, e4⟩ := IntOp.andi_eq_one.1 e
  obtain ⟨e, e3⟩ := IntOp.andi_eq_one.1 e
  obtain ⟨e1, e2⟩ := IntOp.andi_eq_one.1 e
  exact ⟨fun x => lt_of_bits (Host.reduce_andi_all _ _ _ _ _ e1 x) (Host.reduce_andi_all _ _ _ _ _ e2 x),
    fun x => lt_of_bits (Host.reduce_andi_all _ _ _ _ _ e3 x) (Host.reduce_andi_all _ _ _ _ _ e4 x)⟩

end Cert.Proof.Range

end
-- ==== Proof.RouterRow.lean ====
/-
  ONE TOKEN'S ROW OF THE ROUTER. The kernel takes the row's greatest value, overwrites the first lane that holds it with −∞ and
  takes the greatest value again; the reference sorts the row. Both name the same two values (`top0`, `top1`). A softmax over
  those two and the token's entropy follow, over the extended reals.
-/
module

public import Idealize.ShloMosaic.PureOps.Ideal.Laws
public import Idealize.ShloMosaic.Lib.SortFacts

@[expose] public section

noncomputable section

namespace Cert.Proof.Row

open Idealize.ShloMosaic

/-! ## The two greatest values -/

/-- The position that the reference's sort puts at `k`: greater values first. -/
def ranked (y : Fin 8 → EReal) (k : Fin 8) : Fin 8 :=
  sortedFrom (fun a b => Ideal.cmpTotal .gt (y a) (y b) == 1#1) k

theorem before_eq (y : Fin 8 → EReal) (a b : Fin 8) : (Ideal.cmpTotal .gt (y a) (y b) == 1#1) = decide (y b < y a) := by
  show (BitVec.ofBool (decide (y b < y a)) == 1#1) = _
  cases decide (y b < y a) <;> rfl

theorem ranked_antitone (y : Fin 8 → EReal) {i j : Fin 8} (h : i ≤ j) : y (ranked y j) ≤ y (ranked y i) := by
  rcases h.eq_or_lt with rfl | h
  · exact le_rfl
  · have e := sortedFrom_noInversion (fun a b => Ideal.cmpTotal .gt (y a) (y b) == 1#1) (fun a b => Ideal.cmpTotal .gt (y a) (y b) == 1#1)
      (fun a b hab => by rw [before_eq] at hab ⊢; exact decide_eq_false (not_lt.2 (of_decide_eq_true hab).le))
      (fun _ _ h => h)
      (fun a b c hab hbc => by
        rw [before_eq] at hab hbc ⊢
        exact decide_eq_false (not_lt.2 ((not_lt.1 (of_decide_eq_false hab)).trans (not_lt.1 (of_decide_eq_false hbc))))) i j h
    rw [before_eq] at e
    exact not_lt.1 (of_decide_eq_false e)

theorem ranked_surjective (y : Fin 8 → EReal) : Function.Surjective (ranked y) := sortedFrom_surjective _

theorem ranked_injective (y : Fin 8 → EReal) : Function.Injective (ranked y) := sortedFrom_injective _

/-- The greatest of eight values, −∞ where there is none. -/
def greatest (y : Fin 8 → EReal) : EReal := (Finset.univ : Finset (Fin 8)).fold max ⊥ y

theorem le_greatest (y : Fin 8 → EReal) (i : Fin 8) : y i ≤ greatest y := by
  rw [greatest, Finset.le_fold_max]
  exact .inr ⟨i, Finset.mem_univ _, le_rfl⟩

theorem greatest_le {y : Fin 8 → EReal} {b : EReal} (h : ∀ i, y i ≤ b) : greatest y ≤ b := by
  rw [greatest, Finset.fold_max_le]
  exact ⟨bot_le, fun i _ => h i⟩

/-- The row's greatest value is the one that the sort puts first. -/
theorem greatest_eq (y : Fin 8 → EReal) : greatest y = y (ranked y 0) := by
  refine le_antisymm (greatest_le fun i => ?_) (le_greatest y _)
  obtain ⟨k, rfl⟩ := ranked_surjective y i
  exact ranked_antitone y (Fin.zero_le k)

/-- With one lane that holds the greatest value overwritten, the greatest is the one that the sort puts second. -/
theorem second_eq (y : Fin 8 → EReal) (f : Fin 8) (hf : y f = greatest y) :
    greatest (fun i => if i = f then ⊥ else y i) = y (ranked y 1) := by
  refine le_antisymm (greatest_le fun i => ?_) ?_
  · show (if i = f then (⊥ : EReal) else y i) ≤ _
    split
    · exact bot_le
    · next hi =>
      obtain ⟨k, rfl⟩ := ranked_surjective y i
      obtain ⟨j, rfl⟩ := ranked_surjective y f
      by_cases hk : (1 : Fin 8) ≤ k
      · exact ranked_antitone y hk
      · have hj : (1 : Fin 8) ≤ j := by
          by_contra hj
          exact hi (congrArg _ (Fin.ext (by simp only [Fin.le_def, Fin.val_one] at hk hj; omega)))
        exact (le_greatest y _).trans (hf ▸ ranked_antitone y hj)
  · have hg : ∀ i, i ≠ f → y i ≤ greatest (fun i => if i = f then ⊥ else y i) := fun i hi => by
      have := le_greatest (fun i => if i = f then ⊥ else y i) i
      rwa [if_neg hi] at this
    by_cases h1 : ranked y 1 = f
    · have h0 : ranked y 0 ≠ f := fun h0 => absurd (ranked_injective y (h0.trans h1.symm)) (by decide)
      exact (ranked_antitone y (Fin.zero_le 1)).trans (hg _ h0)
    · exact hg _ h1

/-! ## The first lane that holds the greatest value -/

/-- The least of the numbers of the marked lanes is the number of one of them. -/
theorem first_marked : ∀ p : Fin 8 → Bool, (∃ i, p i = true) →
    ∃ f, p f = true ∧ (Finset.univ : Finset (Fin 8)).fold IntOp.minsi 2147483647#32
      (fun i => if p i then BitVec.ofNat 32 i.val else 8#32) = BitVec.ofNat 32 f.val := by
  decide +kernel

/-! ## A softmax over two values, and the entropy -/

/-- The first gate, of the two greatest values. -/
def gateA (a b : EReal) : EReal := Ideal.div 1 (1 + Ideal.exp (b - a))
/-- The second gate. -/
def gateB (a b : EReal) : EReal := Ideal.div (Ideal.exp (b - a)) (1 + Ideal.exp (b - a))

/-- A gate times the logarithm of the gate, which is taken to be no less than `c`. -/
def plogp (c g : EReal) : EReal := g * Ideal.log (max c g)

theorem gates_real (a b : ℝ) : ∃ g h : ℝ, gateA a b = g ∧ gateB a b = h := by
  have hp : (1 + Real.exp (b - a)) ≠ 0 := by positivity
  refine ⟨1 * (1 / (1 + Real.exp (b - a))), Real.exp (b - a) * (1 / (1 + Real.exp (b - a))), ?_, ?_⟩
  · show Ideal.div 1 (1 + ((Real.exp (b - a) : ℝ) : EReal)) = _
    rw [show (1 : EReal) + ((Real.exp (b - a) : ℝ) : EReal) = ((1 + Real.exp (b - a) : ℝ) : EReal) by push_cast; rfl, Ideal.div_coe hp]
    push_cast; rfl
  · show Ideal.div ((Real.exp (b - a) : ℝ) : EReal) (1 + ((Real.exp (b - a) : ℝ) : EReal)) = _
    rw [show (1 : EReal) + ((Real.exp (b - a) : ℝ) : EReal) = ((1 + Real.exp (b - a) : ℝ) : EReal) by push_cast; rfl, Ideal.div_coe hp]
    push_cast; rfl

theorem plogp_real {c : ℝ} (hc : 0 < c) (g : ℝ) : ∃ r : ℝ, plogp c g = r := by
  refine ⟨g * Real.log (max c g), ?_⟩
  have : max (c : EReal) (g : EReal) = ((max c g : ℝ) : EReal) := (EReal.coe_strictMono.monotone.map_max).symm
  rw [plogp, this]
  show (g : EReal) * (if max c g ≤ 0 then (⊥ : EReal) else ((Real.log (max c g) : ℝ) : EReal)) = _
  rw [if_neg (not_le.2 (lt_max_of_lt_left hc))]
  push_cast; rfl

theorem coe_sum {ι : Type} [Fintype ι] (r : ι → ℝ) : ((∑ i, r i : ℝ) : EReal) = ∑ i, ((r i : ℝ) : EReal) :=
  map_sum (⟨⟨((↑) : ℝ → EReal), EReal.coe_zero⟩, EReal.coe_add⟩ : ℝ →+ EReal) r _

/-- A mean of negated numbers is the negated mean. -/
theorem mean_neg {ι : Type} [Fintype ι] (s : ι → EReal) (hs : ∀ i, ∃ r : ℝ, s i = r) {n : ℝ} (hn : n ≠ 0) :
    Ideal.div (∑ i, (0 - s i)) (n : EReal) = -Ideal.div (0 + ∑ i, (0 + s i)) (n : EReal) := by
  choose r hr using hs
  have e1 : ∑ i, (0 - s i) = ((-(∑ i, r i) : ℝ) : EReal) := by
    rw [← Finset.sum_neg_distrib, coe_sum]
    exact Finset.sum_congr rfl fun i _ => by rw [hr, zero_sub, EReal.coe_neg]
  have e2 : ∑ i, (0 + s i) = ((∑ i, r i : ℝ) : EReal) := by
    rw [coe_sum]
    exact Finset.sum_congr rfl fun i _ => by rw [hr, zero_add]
  rw [e1, e2, zero_add, Ideal.div_coe hn, Ideal.div_coe hn, ← EReal.coe_mul, ← EReal.coe_mul, ← EReal.coe_neg, neg_mul]

/-! ## Real numbers stay real -/

theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩

theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩

theorem real_sum {ι : Type} [Fintype ι] {s : ι → EReal} (h : ∀ i, ∃ r : ℝ, s i = r) : ∃ r : ℝ, ∑ i, s i = r :=
  Finset.sum_induction s (fun a => ∃ r : ℝ, a = r) (fun _ _ => real_add) ⟨0, rfl⟩ fun i _ => h i

end Cert.Proof.Row

end
-- ==== Proof.RouterPay.lean ====
/-
  THE ROUTER KERNEL'S VALUES, READ AT A TOKEN. For a token `t`, the kernel's scores are a row of eight; what the kernel's
  statements make of it is put in the words of `Row` (Proof/RouterRow.lean): the two gates of the row's two greatest values, and
  the mean over the tokens of the entropy of the two gates.
-/
module

public import proofs.«01_k».proof.Proof.RouterRow
public import proofs.«01_k».proof.Proof.Gen.RouterIdeal.Skeleton
public import Idealize.ShloMosaic.Lib.ValueIdx
public import Idealize.ShloMosaic.Lib.ValueIdxRank1
public import Idealize.ShloMosaic.Lib.ValueLayout
public import Idealize.ShloMosaic.Lib.ValueLayoutCasts
public import Idealize.ShloMosaic.Lib.IdealHost
public import Idealize.ShloMosaic.Lib.WordCmp

@[expose] public section

noncomputable section

namespace Cert.Proof.RouterPay

open Cert.RouterIdeal Cert.RouterIdeal.Gen
open Idealize.ShloMosaic
open Idealize.ShloMosaic.ValueIdx
open Cert.Proof.Row

/-! ## Constants -/

theorem ofBits_bot : Ideal.ofBits .f32 0xFF800000#32 = ⊥ := by simp [Ideal.ofBits, Ideal.ieee]

theorem ofBits_2048 : Ideal.ofBits .f32 0x45000000#32 = ((2048 : ℝ) : EReal) := by
  simp [Ideal.ofBits, Ideal.ieee, -EReal.coe_mul]; norm_num

theorem ofBits_clip : ∃ c : ℝ, 0 < c ∧ Ideal.ofBits .f32 0x322BCC77#32 = c := by
  refine ⟨_, ?_, by simp [Ideal.ofBits, Ideal.ieee, -EReal.coe_mul]; rfl⟩
  positivity

/-- The least probability that the entropy takes the logarithm of. -/
def clip : EReal := Ideal.ofBits .f32 0x322BCC77#32

/-! ## The scores -/

/-- Token `t`'s scores: the token's features against each expert's weights, and the expert's bias. -/
def score (x : FVec Ideal S2048x1024 .f32) (w : FVec Ideal S1024x8 .f32) (b : Fin 8 → EReal) (t : Fin 2048) (k : Fin 8) : EReal :=
  (∑ j : dot_S2048x1024_S1024x8_S2048x8_1_0_0_1_n_n.contr.Idx,
    x (dot_S2048x1024_S1024x8_S2048x8_1_0_0_1_n_n.lhsIdx (ix2 t k) j) * w (dot_S2048x1024_S1024x8_S2048x8_1_0_0_1_n_n.rhsIdx (ix2 t k) j))
    + b k

variable (x : FVec Ideal S2048x1024 .f32) (w : FVec Ideal S1024x8 .f32) (b : FVec Ideal S1x8 .f32)

/-- The bias as the kernel holds it, a row of eight. -/
def biasOf (b : FVec Ideal S1x8 .f32) (k : Fin 8) : EReal := b (ix2 (0 : Fin 1) k)

theorem pay2_apply (t : Fin 2048) (k : Fin 8) : k0_pay2 (F := Ideal) x w b (ix2 t k) = score x w (biasOf b) t k := by
  dsimp only [k0_pay2]
  rw [addf_apply, broadcastTo_1b_ab_apply, shapeCast_self]
  exact congrArg (· + b (ix2 (0 : Fin 1) k)) (Ideal.matmul_constant_zero_apply _ _ _ _ _)

theorem lift_ix (h : S2048x8.Reduces [1] S2048) (t : Fin 2048) (k : Fin 8) : h.lift (ix1 t) k = ix2 t k :=
  Shape.idx_ext₂ rfl rfl

/-- A row's maximum. -/
theorem rowMax (v : FVec Ideal S2048x8 .f32) (h : S2048x8.Reduces [1] S2048) (hφ : FKind.Formats .f32)
    (hacc : (0xFF800000#32 : BitVec 32) = FKind.maximumf.neutral .f32 hφ) (t : Fin 2048) :
    multiReduction .maximumf [1] S2048 v 0xFF800000#32 h hφ hacc (ix1 t) = greatest fun k => v (ix2 t k) := by
  rw [Ideal.multiReduction_maximumf_single]
  show Finset.fold max (Ideal.ofBits .f32 0xFF800000#32) _ _ = _
  rw [ofBits_bot, greatest]
  congr 1
  exact funext fun k => congrArg v (lift_ix h t k)

theorem col_apply {α : Type} (v : S2048x1.Idx → α) (h : S2048x1.Broadcasts S2048x8) (t : Fin 2048) (k : Fin 8) :
    broadcastTo S2048x8 v h (ix2 t k) = v (ix2 t (0 : Fin 1)) :=
  broadcastTo_apply v h _ _ fun a => match a with | ⟨0, _⟩ => rfl | ⟨1, _⟩ => rfl

theorem pay3_apply (t : Fin 2048) : k0_pay3 (F := Ideal) x w b (ix2 t (0 : Fin 1)) = greatest (score x w (biasOf b) t) := by
  dsimp only [k0_pay3]
  rw [shapeCast_a_a1_apply]
  refine (rowMax _ _ _ _ t).trans ?_
  exact congrArg greatest (funext fun k => pay2_apply x w b t k)

/-- The lane that the kernel takes first holds the row's greatest score. -/
theorem pay4_apply (t : Fin 2048) : ∃ f : Fin 8, score x w (biasOf b) t f = greatest (score x w (biasOf b) t)
    ∧ k0_pay4 (F := Ideal) x w b (ix2 t (0 : Fin 1)) = BitVec.ofNat 32 f.val := by
  obtain ⟨f, hf, e⟩ := first_marked (fun k => decide (score x w (biasOf b) t k = greatest (score x w (biasOf b) t)))
    ⟨ranked (score x w (biasOf b) t) 0, decide_eq_true (greatest_eq _).symm⟩
  refine ⟨f, of_decide_eq_true hf, ?_⟩
  dsimp only [k0_pay4]
  rw [shapeCast_a_a1_apply]
  refine (multiReductionI_eq_fold _ _ _ _ _ _).trans ?_
  rw [Shape.Reduces.fold_filter_drop_single]
  refine (Finset.fold_congr fun k _ => (?_ : ∀ k : Fin 8, select _ _ _ (reduces_S2048x8_S2048.lift (ix1 t) k)
    = if decide (score x w (biasOf b) t k = greatest (score x w (biasOf b) t)) then BitVec.ofNat 32 k.val else 8#32) k).trans e
  intro k
  rw [lift_ix, select_apply, cmpf_apply, col_apply, pay2_apply, pay3_apply, iota_single_apply, broadcast_apply, Ideal.cmpf_def]
  show Scalar.select (BitVec.ofBool (decide (score x w (biasOf b) t k = greatest (score x w (biasOf b) t)))) _ _ = _
  cases decide (score x w (biasOf b) t k = greatest (score x w (biasOf b) t)) <;> rfl

theorem pay7_apply (t : Fin 2048) : k0_pay7 (F := Ideal) x w b (ix2 t (0 : Fin 1)) = score x w (biasOf b) t (ranked (score x w (biasOf b) t) 1) := by
  obtain ⟨f, hf, e⟩ := pay4_apply x w b t
  dsimp only [k0_pay7]
  rw [shapeCast_a_a1_apply, ← second_eq _ f hf]
  refine (rowMax _ _ _ _ t).trans ?_
  refine congrArg greatest (funext fun k => ?_)
  dsimp only [k0_pay6]
  rw [select_apply, broadcast_apply, pay2_apply]
  show Scalar.select (IntOp.cmpi .eq (iota .tc S2048x8 32 [1] _ (ix2 t k)) (broadcastTo S2048x8 (k0_pay4 (F := Ideal) x w b) _ (ix2 t k))) _ _ = _
  rw [col_apply, e, iota_single_apply]
  have hk : (IntOp.cmpi .eq (BitVec.ofNat 32 k.val) (BitVec.ofNat 32 f.val)) = BitVec.ofBool (decide (k = f)) :=
    (by decide : ∀ k f : Fin 8, (IntOp.cmpi .eq (BitVec.ofNat 32 k.val) (BitVec.ofNat 32 f.val)) = BitVec.ofBool (decide (k = f))) k f
  show Scalar.select (IntOp.cmpi .eq (BitVec.ofNat 32 k.val) (BitVec.ofNat 32 f.val)) _ _ = _
  rw [hk]
  show Scalar.select _ (Ideal.ofBits .f32 0xFF800000#32) _ = _
  rw [ofBits_bot]
  by_cases h : k = f
  · rw [if_pos h, decide_eq_true h]; rfl
  · rw [if_neg h, decide_eq_false h]; rfl

/-! ## The gates -/

/-- Token `t`'s greatest score and its second. -/
def topA (x : FVec Ideal S2048x1024 .f32) (w : FVec Ideal S1024x8 .f32) (b : Fin 8 → EReal) (t : Fin 2048) : EReal :=
  score x w b t (ranked (score x w b t) 0)
def topB (x : FVec Ideal S2048x1024 .f32) (w : FVec Ideal S1024x8 .f32) (b : Fin 8 → EReal) (t : Fin 2048) : EReal :=
  score x w b t (ranked (score x w b t) 1)

theorem exp_apply {s : Shape} (v : FVec Ideal s .f32) (i : s.Idx) : exp v i = Ideal.exp (v i) := rfl

theorem pay9_apply (t : Fin 2048) :
    k0_pay9 (F := Ideal) x w b (ix2 t (0 : Fin 1)) = Ideal.exp (topB x w (biasOf b) t - topA x w (biasOf b) t) := by
  dsimp only [k0_pay9]
  rw [exp_apply, subf_apply, pay7_apply, pay3_apply, greatest_eq, topA, topB]

theorem pay10_apply (t : Fin 2048) :
    k0_pay10 (F := Ideal) x w b (ix2 t (0 : Fin 1)) = 1 + Ideal.exp (topB x w (biasOf b) t - topA x w (biasOf b) t) := by
  dsimp only [k0_pay10]
  rw [addf_apply, pay9_apply, broadcast_apply]
  exact congrArg (· + _) Ideal.ofBits_one_f32

theorem pay11_apply (t : Fin 2048) :
    k0_pay11 (F := Ideal) x w b (ix2 t (0 : Fin 1)) = gateA (topA x w (biasOf b) t) (topB x w (biasOf b) t) := by
  dsimp only [k0_pay11]
  rw [divf_apply, pay10_apply, broadcast_apply]
  exact congrArg (Ideal.div · _) Ideal.ofBits_one_f32

theorem pay12_apply (t : Fin 2048) :
    k0_pay12 (F := Ideal) x w b (ix2 t (0 : Fin 1)) = gateB (topA x w (biasOf b) t) (topB x w (biasOf b) t) := by
  dsimp only [k0_pay12]
  rw [divf_apply, pay10_apply, pay9_apply]
  rfl

/-! ## The entropy -/

/-- A column as a sum over the tokens: the kernel lays it out as a `1 × 2048 × 1` block before summing it. -/
def blockEquiv : Fin 2048 ≃ S1x2048x1.Idx where
  toFun t := ix3 (0 : Fin 1) t (0 : Fin 1)
  invFun i := i 1
  left_inv _ := rfl
  right_inv i := funext fun a => match a with
    | ⟨0, _⟩ => Subsingleton.elim (α := Fin 1) _ _
    | ⟨1, _⟩ => rfl
    | ⟨2, _⟩ => Subsingleton.elim (α := Fin 1) _ _

theorem block_sum (v : FVec Ideal S2048x1 .f32) (h : S2048x1.ShapeCasts S1x2048x1) :
    ∑ i : S1x2048x1.Idx, shapeCast S1x2048x1 v h i = ∑ t : Fin 2048, v (ix2 t (0 : Fin 1)) :=
  (Fintype.sum_equiv blockEquiv _ _ fun t => (shapeCast_ab_1ab_apply v h (0 : Fin 1) t (0 : Fin 1)).symm).symm

/-- Token by token, what the two gates add to the entropy. -/
def part (g h : EReal) : EReal := plogp clip g + plogp clip h

theorem pay13_apply (p q : FVec Ideal S2048x1 .f32) (i : S1x1.Idx) :
    k0_pay13 (F := Ideal) p q i
      = Ideal.div (∑ t : Fin 2048, (0 - part (p (ix2 t (0 : Fin 1))) (q (ix2 t (0 : Fin 1))))) ((2048 : ℝ) : EReal) := by
  dsimp only [k0_pay13]
  rw [broadcast_apply]
  refine congrArg₂ Ideal.div ?_ ofBits_2048
  dsimp only [extractAt, shapeCast]
  refine (Ideal.multiReduction_add_total _ _ _ (by decide) _ _ _).trans ?_
  refine (block_sum _ _).trans (Finset.sum_congr rfl fun t _ => ?_)
  show Ideal.ofBits .f32 0x00000000#32 - part _ _ = _
  rw [Ideal.ofBits_zero_f32]

end Cert.Proof.RouterPay

end
-- ==== Proof.RouterKernel.lean ====
/-
  WHAT THE ROUTER'S LAUNCH LEAVES: its three float results as functions of the arguments. The grid has one point and every
  window is the whole of its array, so each result is what the body stores, read of the argument arrays.
-/
module

public import proofs.«01_k».proof.Proof.RouterPay
public import proofs.«01_k».proof.Proof.Gen.RouterIdeal.Value

@[expose] public section

noncomputable section

namespace Cert.Proof.RouterKernel

open Cert.RouterIdeal Cert.RouterIdeal.Gen Cert.RouterIdeal.Value
open Idealize.ShloMosaic Idealize.ShloMosaic.ValueIdx Idealize.SL.Sem
open Cert.Proof.Row Cert.Proof.RouterPay

/-- A vector of eight, by its place. -/
def flat (b : FVec Ideal S8 .f32) (k : Fin 8) : EReal := b (ix1 k)

/-- The gate of each token's greatest score. -/
def first (x : FVec Ideal S2048x1024 .f32) (w : FVec Ideal S1024x8 .f32) (b : FVec Ideal S8 .f32) (t : Fin 2048) : EReal :=
  gateA (topA x w (flat b) t) (topB x w (flat b) t)

/-- The gate of each token's second score. -/
def second (x : FVec Ideal S2048x1024 .f32) (w : FVec Ideal S1024x8 .f32) (b : FVec Ideal S8 .f32) (t : Fin 2048) : EReal :=
  gateB (topA x w (flat b) t) (topB x w (flat b) t)

/-- The mean over the tokens of the two gates' entropy. -/
def entropy (x : FVec Ideal S2048x1024 .f32) (w : FVec Ideal S1024x8 .f32) (b : FVec Ideal S8 .f32) : EReal :=
  Ideal.div (∑ t : Fin 2048, (0 - part (first x w b t) (second x w b t))) ((2048 : ℝ) : EReal)

/-! ## The whole-array reads -/

theorem r0 : (![0, 0] : Fin 2 → ℕ) = fun _ => 0 := funext fun a => by fin_cases a <;> rfl

theorem out5_eq (x0 : Vec Ideal S2048x1024 .f32) (x1 : Vec Ideal S1024x8 .f32) (x2 : Vec Ideal S1x8 .f32) :
    out0_5 x0 x1 x2 = k0_pay11 x0 x1 x2 := by
  unfold out0_5 k0_pay41
  rw [View.canon_unit_zero r0, View.ld_unit_zero r0, View.ld_unit_zero r0, View.ld_unit_zero r0]

theorem out6_eq (x0 : Vec Ideal S2048x1024 .f32) (x1 : Vec Ideal S1024x8 .f32) (x2 : Vec Ideal S1x8 .f32) :
    out0_6 x0 x1 x2 = k0_pay12 x0 x1 x2 := by
  unfold out0_6 k0_pay42
  rw [View.canon_unit_zero r0, View.ld_unit_zero r0, View.ld_unit_zero r0, View.ld_unit_zero r0]

theorem out8_eq (x0 : Vec Ideal S2048x1024 .f32) (x1 : Vec Ideal S1024x8 .f32) (x2 : Vec Ideal S1x8 .f32) :
    out0_8 x0 x1 x2 = k0_pay13 (k0_pay11 x0 x1 x2) (k0_pay12 x0 x1 x2) := by
  unfold out0_8 k0_pay41 k0_pay42
  rw [View.canon_unit_zero r0, View.ld_unit_zero r0, View.ld_unit_zero r0, View.ld_unit_zero r0]

variable (m : (ℓ : Loc nD τ sig) → Buf (Elt Ideal) ℓ) (c : Dev nD)

/-- The bias, laid out as a row before the launch. -/
theorem V_bias : V m c main_v0 = shapeCast S1x8 (m ((c.tc : Thread nD τ).loc main_arg2)) shapeCasts_S8_S1x8 := by
  show StableHlo.after hostOps0 (fun b => m (c, b)) _ = _
  simp only [hostOps0]
  after_results_simp
  rfl

/-- The one grid point. -/
def pt : Fin cfg0.N := ⟨0, by decide⟩

theorem iblk0 : iblk m c 0 pt = m ((c.tc : Thread nD τ).loc main_arg0) := by
  have hz : (fun a => (win0_0.index (0 : Fin 1)) a * main_arg0.ty.shape.size a) = fun _ => 0 := funext fun a => by fin_cases a <;> decide
  exact (Memref.read_access_unit_zero (Elt Ideal) main_arg0 hz (fun a => by fin_cases a <;> decide) _).trans (V_main_arg0 m c)

theorem iblk1 : iblk m c 1 pt = m ((c.tc : Thread nD τ).loc main_arg1) := by
  have hz : (fun a => (win0_1.index (0 : Fin 1)) a * main_arg1.ty.shape.size a) = fun _ => 0 := funext fun a => by fin_cases a <;> decide
  exact (Memref.read_access_unit_zero (Elt Ideal) main_arg1 hz (fun a => by fin_cases a <;> decide) _).trans (V_main_arg1 m c)

theorem iblk2 : iblk m c 2 pt = shapeCast S1x8 (m ((c.tc : Thread nD τ).loc main_arg2)) shapeCasts_S8_S1x8 := by
  have hz : (fun a => (win0_2.index (0 : Fin 1)) a * main_v0.ty.shape.size a) = fun _ => 0 := funext fun a => by fin_cases a <;> decide
  exact (Memref.read_access_unit_zero (Elt Ideal) main_v0 hz (fun a => by fin_cases a <;> decide) _).trans (V_bias m c)

/-! ## The three results -/

/-- The arguments as launched. -/
abbrev X : FVec Ideal S2048x1024 .f32 := m ((c.tc : Thread nD τ).loc main_arg0)
abbrev W : FVec Ideal S1024x8 .f32 := m ((c.tc : Thread nD τ).loc main_arg1)
abbrev B : FVec Ideal S8 .f32 := m ((c.tc : Thread nD τ).loc main_arg2)

theorem bias_flat : biasOf (shapeCast S1x8 (B m c) shapeCasts_S8_S1x8) = flat (B m c) :=
  funext fun k => shapeCast_a_1a_apply _ _ _ _

theorem pay11_first (t : Fin 2048) :
    k0_pay11 (F := Ideal) (X m c) (W m c) (shapeCast S1x8 (B m c) shapeCasts_S8_S1x8) (ix2 t (0 : Fin 1)) = first (X m c) (W m c) (B m c) t := by
  rw [pay11_apply, bias_flat, first]

theorem pay12_second (t : Fin 2048) :
    k0_pay12 (F := Ideal) (X m c) (W m c) (shapeCast S1x8 (B m c) shapeCasts_S8_S1x8) (ix2 t (0 : Fin 1)) = second (X m c) (W m c) (B m c) t := by
  rw [pay12_apply, bias_flat, second]

/-- A column read at an index is its entry at the token. -/
theorem col_ext {v : FVec Ideal S2048x1 .f32} {g : Fin 2048 → EReal} (h : ∀ t, v (ix2 t (0 : Fin 1)) = g t) : v = fun i => g (i 0) :=
  funext fun i => (congrArg v ((eq_ix2 i).trans (congrArg (ix2 (i 0)) (Subsingleton.elim (α := Fin 1) _ _)))).trans (h (i 0))

theorem arr5 : (dats m 0 c).arrAt 5 cfg0.N = fun i : S2048x1.Idx => first (X m c) (W m c) (B m c) (i 0) := by
  have hz : (fun a => (win0_5.index (0 : Fin 1)) a * main_v1_2.ty.shape.size a) = fun _ => 0 := funext fun a => by fin_cases a <;> decide
  have e := (Memref.read_access_unit_zero (Elt Ideal) main_v1_2 hz (fun a => by fin_cases a <;> decide) _).symm.trans
    ((blocks5 m c pt (by decide)).trans (flushed5 m c pt))
  refine e.trans ?_
  rw [iblk0, iblk1, iblk2, out5_eq]
  exact col_ext fun t => pay11_first m c t

theorem arr6 : (dats m 0 c).arrAt 6 cfg0.N = fun i : S2048x1.Idx => second (X m c) (W m c) (B m c) (i 0) := by
  have hz : (fun a => (win0_6.index (0 : Fin 1)) a * main_v1_3.ty.shape.size a) = fun _ => 0 := funext fun a => by fin_cases a <;> decide
  have e := (Memref.read_access_unit_zero (Elt Ideal) main_v1_3 hz (fun a => by fin_cases a <;> decide) _).symm.trans
    ((blocks6 m c pt (by decide)).trans (flushed6 m c pt))
  refine e.trans ?_
  rw [iblk0, iblk1, iblk2, out6_eq]
  exact col_ext fun t => pay12_second m c t

theorem arr8 : (dats m 0 c).arrAt 8 cfg0.N = fun _ : S1x1.Idx => entropy (X m c) (W m c) (B m c) := by
  have hz : (fun a => (win0_8.index (0 : Fin 1)) a * main_v1_5.ty.shape.size a) = fun _ => 0 := funext fun a => by fin_cases a <;> decide
  have e := (Memref.read_access_unit_zero (Elt Ideal) main_v1_5 hz (fun a => by fin_cases a <;> decide) _).symm.trans
    ((blocks8 m c pt (by decide)).trans (flushed8 m c pt))
  refine e.trans ?_
  rw [iblk0, iblk1, iblk2, out8_eq]
  refine funext fun i => (pay13_apply _ _ i).trans ?_
  rw [entropy, Finset.sum_congr rfl fun t _ => by rw [pay11_first, pay12_second]]

end Cert.Proof.RouterKernel

end
-- ==== Proof.RouterRef.lean ====
/-
  THE ROUTER'S REFERENCE, READ AT A TOKEN. It takes the two greatest of a token's eight scores, the softmax of those two, and the
  mean over the tokens of the softmax's entropy. At a token whose scores are real numbers the softmax is the pair of gates of
  `Row`: the greatest score less itself is zero, so its exponential is one.
-/
module

public import proofs.«01_k».proof.Proof.RouterKernel
public import proofs.«01_k».proof.Proof.Gen.RouterReferenceIdeal.Run

@[expose] public section

noncomputable section

namespace Cert.Proof.RouterRef

open Cert.RouterReferenceIdeal Cert.RouterReferenceIdeal.Gen
open Idealize.ShloMosaic Idealize.ShloMosaic.ValueIdx
open Cert.Proof.Row Cert.Proof.RouterPay Cert.Proof.RouterKernel

/-! ## The reference's arrays -/

/-- The scores. -/
def scores (x : FVec Ideal S2048x1024 .f32) (w : FVec Ideal S1024x8 .f32) (b : FVec Ideal S8 .f32) : FVec Ideal S2048x8 .f32 :=
  addf (Host.dotGeneral dot_S2048x1024_S1024x8_S2048x8_1_0_0_1_n_n none x w)
    (broadcastInDim S2048x8 ![0, 1] bcast_S1x8_S2048x8_0_1 (broadcastInDim S1x8 ![1] bcast_S8_S1x8_1 b))

/-- The two greatest of each row. -/
def best (s : FVec Ideal S2048x8 .f32) : FVec Ideal S2048x2 .f32 :=
  (Host.topK S2048x2 1 (FloatOps.cmpfTotal (F := Ideal) (φ := .f32) .gt) s sliceFits_S2048x8_S2048x2).1

/-- A column beside itself. -/
def wide (v : FVec Ideal S2048 .f32) : FVec Ideal S2048x2 .f32 :=
  broadcastInDim S2048x2 ![0, 1] bcast_S2048x1_S2048x2_0_1 (broadcastInDim S2048x1 ![0] bcast_S2048_S2048x1_0 v)

/-- Each row's greatest. -/
def rowMax (v : FVec Ideal S2048x2 .f32) : FVec Ideal S2048 .f32 :=
  maximumf (broadcastInDim S2048 ![] bcast_S_S2048 (constant S_ .f32 0xFF800000#32))
    (Host.reduce (FloatOps.maximumf (F := Ideal) (φ := .f32)) v (constant S_ .f32 0xFF800000#32) reducesTo_S2048x2_S2048_d1 h_S_)

/-- Each row's sum. -/
def rowSum (v : FVec Ideal S2048x2 .f32) : FVec Ideal S2048 .f32 :=
  Host.reduceAdd v (constant S_ .f32 0x00000000#32) reducesTo_S2048x2_S2048_d1 h_S_

/-- The exponentials of a row less its greatest, and the softmax they give. -/
def shifted (v : FVec Ideal S2048x2 .f32) : FVec Ideal S2048x2 .f32 := Host.exp (subf v (wide (rowMax v)))
def soft (v : FVec Ideal S2048x2 .f32) : FVec Ideal S2048x2 .f32 := Host.divf (shifted v) (wide (rowSum (shifted v)))

/-- Each gate by the logarithm of itself, not below the least one. -/
def logged (g : FVec Ideal S2048x2 .f32) : FVec Ideal S2048x2 .f32 :=
  mulf g (Host.log (maximumf (broadcastInDim S2048x2 ![] bcast_S_S2048x2 (id (constant S_ .f32 0x322BCC77#32))) g))

/-- The mean of the rows' entropy. -/
def meanEntropy (g : FVec Ideal S2048x2 .f32) : FVec Ideal S1x1 .f32 :=
  shapeCast _ (Host.negf (Host.divf (Host.reduceAdd (rowSum (logged g)) (constant S_ .f32 0x00000000#32) reducesTo_S2048_S_d0 h_S_)
    (constant S_ .f32 0x45000000#32))) shapeCasts_S_S1x1

/-! ## At a token -/

variable (x : FVec Ideal S2048x1024 .f32) (w : FVec Ideal S1024x8 .f32) (b : FVec Ideal S8 .f32)

theorem scores_apply (t : Fin 2048) (k : Fin 8) : scores x w b (ix2 t k) = score x w (flat b) t k := by
  unfold scores score
  rw [addf_apply]
  refine congrArg₂ (fun p q : EReal => p + q) ?_ ?_
  · simp only [Host.dotGeneral]
    exact Ideal.dotGeneral_apply _ _ _ _ _ _
  · refine (broadcastInDim_apply ![0, 1] _ _ (ix2 t k) (ix2 (0 : Fin 1) k) fun a => ?_).trans
      (broadcastInDim_apply ![1] _ _ _ (ix1 k) fun a => ?_)
    · match a with | ⟨0, _⟩ => rfl | ⟨1, _⟩ => rfl
    · match a with | ⟨0, _⟩ => rfl

theorem along_eq (t : Fin 2048) (k k' : Fin 8) : (ix2 t k : S2048x8.Idx).along 1 k' = ix2 t k' :=
  Shape.idx_ext₂ rfl rfl

theorem best_apply (s : FVec Ideal S2048x8 .f32) (t : Fin 2048) (j : Fin 2) :
    best s (ix2 t j) = s (ix2 t (ranked (fun k => s (ix2 t k)) (Fin.castLE (by decide) j))) := by
  unfold best Host.topK
  dsimp only
  refine (extractStridedSlice_apply _ _ _ (ix2 t j) (ix2 t (Fin.castLE (by decide) j : Fin 8)) fun a => ?_).trans ?_
  · match a with | ⟨0, _⟩ => exact (Nat.zero_add _).symm | ⟨1, _⟩ => exact (Nat.zero_add _).symm
  · show s ((ix2 t (Fin.castLE (by decide) j : Fin 8) : S2048x8.Idx).along 1 (sortedFrom (fun k k' : Fin 8 =>
      Ideal.cmpTotal .gt (s ((ix2 t (Fin.castLE (by decide) j : Fin 8) : S2048x8.Idx).along 1 k))
        (s ((ix2 t (Fin.castLE (by decide) j : Fin 8) : S2048x8.Idx).along 1 k')) == 1#1) (Fin.castLE (by decide) j))) = _
    simp only [along_eq]
    exact congrArg s (along_eq _ _ _)

theorem wide_apply (v : FVec Ideal S2048 .f32) (t : Fin 2048) (j : Fin 2) : wide v (ix2 t j) = v (ix1 t) := by
  unfold wide
  refine (broadcastInDim_apply ![0, 1] _ _ (ix2 t j) (ix2 t (0 : Fin 1)) fun a => ?_).trans
    (broadcastInDim_apply ![0] _ _ _ (ix1 t) fun a => ?_)
  · match a with | ⟨0, _⟩ => rfl | ⟨1, _⟩ => rfl
  · match a with | ⟨0, _⟩ => rfl

theorem red : S2048x2.Reduces [1] S2048 := by decide

theorem lift_eq (t : Fin 2048) (j : Fin 2) : red.lift (ix1 t) j = ix2 t j := Shape.idx_ext₂ rfl rfl

theorem rowSum_apply (v : FVec Ideal S2048x2 .f32) (t : Fin 2048) : rowSum v (ix1 t) = 0 + (v (ix2 t 0) + v (ix2 t 1)) := by
  unfold rowSum
  rw [hostReduceAdd_apply, Ideal.hostReduceAdd_single _ red]
  show Ideal.ofBits .f32 0x00000000#32 + ∑ j : Fin 2, v (red.lift (ix1 t) j) = _
  rw [Ideal.ofBits_zero_f32, Fin.sum_univ_two, lift_eq, lift_eq]

theorem rowMax_apply (v : FVec Ideal S2048x2 .f32) (t : Fin 2048) : rowMax v (ix1 t) = max (v (ix2 t 0)) (v (ix2 t 1)) := by
  unfold rowMax
  show max (broadcastInDim S2048 ![] bcast_S_S2048 (constant (F := Ideal) S_ .f32 0xFF800000#32) (ix1 t)) _ = _
  rw [broadcastInDim_scalar_apply]
  show max (Ideal.ofBits .f32 0xFF800000#32) (Host.reduce (max : EReal → EReal → EReal) v _ _ _ _) = _
  rw [ofBits_bot, bot_sup_eq, Host.reduce_eq_fold_single _ _ _ _ red]
  show Finset.fold max (Ideal.ofBits .f32 0xFF800000#32) (fun j : Fin 2 => v (red.lift (ix1 t) j)) Finset.univ = _
  rw [ofBits_bot, show (Finset.univ : Finset (Fin 2)) = {0, 1} from by decide, Finset.fold_insert (by decide), Finset.fold_singleton,
    lift_eq, lift_eq, max_bot_right]

theorem shifted_apply (v : FVec Ideal S2048x2 .f32) (t : Fin 2048) (j : Fin 2) :
    shifted v (ix2 t j) = Ideal.exp (v (ix2 t j) - max (v (ix2 t 0)) (v (ix2 t 1))) := by
  unfold shifted
  show Ideal.exp (v (ix2 t j) - wide (rowMax v) (ix2 t j)) = _
  rw [wide_apply, rowMax_apply]

/-- The softmax of two numbers, the first real and no less than the second. -/
theorem soft_apply (v : FVec Ideal S2048x2 .f32) (t : Fin 2048) (r : ℝ) (hr : v (ix2 t 0) = r) (h : v (ix2 t 1) ≤ v (ix2 t 0)) :
    soft v (ix2 t 0) = gateA (v (ix2 t 0)) (v (ix2 t 1)) ∧ soft v (ix2 t 1) = gateB (v (ix2 t 0)) (v (ix2 t 1)) := by
  have e1 : Ideal.exp (v (ix2 t 0) - v (ix2 t 0)) = 1 := by
    rw [hr, ← EReal.coe_sub, sub_self]
    show ((Real.exp 0 : ℝ) : EReal) = 1
    rw [Real.exp_zero]; rfl
  unfold soft
  rw [hostDivf_apply, hostDivf_apply, wide_apply, wide_apply, rowSum_apply, shifted_apply, shifted_apply, max_eq_left h, e1, zero_add]
  exact ⟨rfl, rfl⟩

theorem logged_apply (g : FVec Ideal S2048x2 .f32) (t : Fin 2048) (j : Fin 2) : logged g (ix2 t j) = plogp clip (g (ix2 t j)) := by
  unfold logged
  show g (ix2 t j) * Ideal.log (max (broadcastInDim S2048x2 ![] bcast_S_S2048x2 (constant (F := Ideal) S_ .f32 0x322BCC77#32) (ix2 t j)) (g (ix2 t j))) = _
  rw [broadcastInDim_scalar_apply]
  rfl

theorem meanEntropy_apply (g : FVec Ideal S2048x2 .f32) (i : S1x1.Idx) :
    meanEntropy g i = -Ideal.div (0 + ∑ t : Fin 2048, (0 + part (g (ix2 t 0)) (g (ix2 t 1)))) ((2048 : ℝ) : EReal) := by
  unfold meanEntropy
  refine (shapeCast_apply _ _ i ix0 ?_).trans ?_
  · have h0 : (i 0).val = 0 := Nat.lt_one_iff.1 (i 0).isLt
    have h1 : (i 1).val = 0 := Nat.lt_one_iff.1 (i 1).isLt
    rw [Shape.rowMajor_val_two, h0, h1]; rfl
  · show -Ideal.div (Host.reduceAdd (rowSum (logged g)) (constant S_ .f32 0x00000000#32) reducesTo_S2048_S_d0 h_S_ ix0) (Ideal.ofBits .f32 0x45000000#32) = _
    rw [ofBits_2048, hostReduceAdd_apply, Ideal.hostReduceAdd_total _ (fun b => b.elim0)]
    show -Ideal.div (Ideal.ofBits .f32 0x00000000#32 + _) _ = _
    rw [Ideal.ofBits_zero_f32]
    have e : ∑ k : S2048.Idx, rowSum (logged g) k = ∑ t : Fin 2048, (0 + part (g (ix2 t 0)) (g (ix2 t 1))) :=
      (Fintype.sum_equiv idxEquiv1.symm _ _ fun t => by
        show _ = rowSum (logged g) (ix1 t)
        rw [rowSum_apply, logged_apply, logged_apply]; rfl).symm
    rw [e]

/-! ## The results -/

/-- A token's scores are real numbers where the arguments are. -/
theorem score_real (hx : ∀ i, ∃ r : ℝ, x i = r) (hw : ∀ i, ∃ r : ℝ, w i = r) (hb : ∀ i, ∃ r : ℝ, b i = r) (t : Fin 2048) (k : Fin 8) :
    ∃ r : ℝ, score x w (flat b) t k = r :=
  real_add (real_sum fun j => real_mul (hx _) (hw _)) (hb _)

variable (hx : ∀ i, ∃ r : ℝ, x i = r) (hw : ∀ i, ∃ r : ℝ, w i = r) (hb : ∀ i, ∃ r : ℝ, b i = r)

include hx hw hb

theorem gates_apply (t : Fin 2048) :
    soft (best (scores x w b)) (ix2 t 0) = first x w b t ∧ soft (best (scores x w b)) (ix2 t 1) = second x w b t := by
  have e : (fun k => scores x w b (ix2 t k)) = score x w (flat b) t := funext fun k => scores_apply x w b t k
  have e0 : best (scores x w b) (ix2 t 0) = topA x w (flat b) t := by rw [best_apply, e, scores_apply, topA]; rfl
  have e1 : best (scores x w b) (ix2 t 1) = topB x w (flat b) t := by rw [best_apply, e, scores_apply, topB]; rfl
  obtain ⟨r, hr⟩ := score_real x w b hx hw hb t (ranked (score x w (flat b) t) 0)
  have h := soft_apply (best (scores x w b)) t r (e0.trans hr) (by rw [e0, e1]; exact ranked_antitone _ (by decide))
  rw [e0, e1] at h
  exact h

theorem part_real (t : Fin 2048) : ∃ r : ℝ, part (first x w b t) (second x w b t) = r := by
  obtain ⟨p, hp⟩ := score_real x w b hx hw hb t (ranked (score x w (flat b) t) 0)
  obtain ⟨q, hq⟩ := score_real x w b hx hw hb t (ranked (score x w (flat b) t) 1)
  obtain ⟨g, h, hg, hh⟩ := gates_real p q
  obtain ⟨c, hc, ec⟩ := ofBits_clip
  unfold part first second topA topB clip
  rw [hp, hq, hg, hh, ec]
  exact real_add (plogp_real hc g) (plogp_real hc h)

theorem entropy_eq : meanEntropy (soft (best (scores x w b))) = fun _ => entropy x w b := by
  funext i
  rw [meanEntropy_apply, entropy, mean_neg _ (part_real x w b hx hw hb) (by norm_num)]
  simp only [(gates_apply x w b hx hw hb _).1, (gates_apply x w b hx hw hb _).2]

theorem first_eq : extractStridedSlice S2048x1 ![0, 0] (soft (best (scores x w b))) slices_S2048x2_S2048x1_0_0 = fun i => first x w b (i 0) :=
  col_ext fun t => (extractStridedSlice_apply _ _ _ _ (ix2 t (0 : Fin 2)) fun a => by
    match a with | ⟨0, _⟩ => exact (Nat.zero_add _).symm | ⟨1, _⟩ => rfl).trans (gates_apply x w b hx hw hb t).1

theorem second_eq : extractStridedSlice S2048x1 ![0, 1] (soft (best (scores x w b))) slices_S2048x2_S2048x1_0_1 = fun i => second x w b (i 0) :=
  col_ext fun t => (extractStridedSlice_apply _ _ _ _ (ix2 t (1 : Fin 2)) fun a => by
    match a with | ⟨0, _⟩ => exact (Nat.zero_add _).symm | ⟨1, _⟩ => rfl).trans (gates_apply x w b hx hw hb t).2

end Cert.Proof.RouterRef

end
-- ==== Proof.Finite.lean ====
/-
  THE ROUTER'S PRECONDITION, READ. `finite_inputs` is three conjuncts, each an `all` over one argument's elements; where it holds,
  every element of the three is a real number.
-/
module

public import proofs.«01_k».proof.Pre_finite_inputs
public import proofs.«01_k».proof.Proof.Gen.Pre_finite_inputs
public import Idealize.ShloMosaic.PureOps.Ideal.Laws
public import Idealize.ShloMosaic.Lib.IdealHost
public import Idealize.ShloMosaic.Lib.ReduceAll

@[expose] public section

noncomputable section

namespace Cert.Proof.Finite

open Cert.Pre_finite_inputs
open Idealize.ShloMosaic Idealize.ShloMosaic.ValueIdx

instance : Subsingleton S_.Idx := ⟨fun a b => funext fun i => i.elim0⟩

theorem ofBits_top : Ideal.ofBits .f32 0x7F800000#32 = ⊤ := by simp [Ideal.ofBits, Ideal.ieee]

/-- An element whose magnitude is below the infinity is a real number. -/
theorem real_of_lt {T : Shape} (v : FVec Ideal T .f32) (h : S_.BroadcastsInDim T ![]) (i : T.Idx)
    (e : cmpf .olt (Host.absf v) (broadcastInDim T ![] h (constant (F := Ideal) S_ .f32 0x7F800000#32)) i = 1#1) : ∃ r : ℝ, v i = r := by
  have e' : BitVec.ofBool (decide (max (v i) (-(v i)) < broadcastInDim T ![] h (constant (F := Ideal) S_ .f32 0x7F800000#32) i)) = 1#1 := e
  rw [broadcastInDim_scalar_apply] at e'
  have hlt : max (v i) (-(v i)) < Ideal.ofBits .f32 0x7F800000#32 := by
    by_contra hn
    have e2 : BitVec.ofBool (decide (max (v i) (-(v i)) < Ideal.ofBits .f32 0x7F800000#32)) = 1#1 := e'
    rw [decide_eq_false hn] at e2
    exact absurd e2 (by decide)
  rw [ofBits_top] at hlt
  refine ⟨(v i).toReal, (EReal.coe_toReal (fun ht => ?_) (fun hb => ?_)).symm⟩
  · rw [ht] at hlt; simp at hlt
  · rw [hb] at hlt; simp at hlt

theorem reals (x : FVec Ideal S2048x1024 .f32) (w : FVec Ideal S1024x8 .f32) (b : FVec Ideal S8 .f32) (h : fn x w b = fun _ => 1#1) :
    (∀ i, ∃ r : ℝ, x i = r) ∧ (∀ i, ∃ r : ℝ, w i = r) ∧ ∀ i, ∃ r : ℝ, b i = r := by
  have e := congrFun h (fun i => i.elim0)
  dsimp only [fn] at e
  obtain ⟨e, e3⟩ := IntOp.andi_eq_one.1 e
  obtain ⟨e1, e2⟩ := IntOp.andi_eq_one.1 e
  exact ⟨fun i => real_of_lt x _ i (Host.reduce_andi_all _ _ _ _ _ e1 i), fun i => real_of_lt w _ i (Host.reduce_andi_all _ _ _ _ _ e2 i),
    fun i => real_of_lt b _ i (Host.reduce_andi_all _ _ _ _ _ e3 i)⟩

end Cert.Proof.Finite

end
-- ==== Proof.ExpertsCopy.lean ====
/-
  THE EXPERTS' CALL: THE COPIES OF THE WEIGHTS. The two scratch buffers have two slots each; a tile's expert has its two weight
  matrices in one slot of each. The kernel starts the two copies of an expert's weights on one semaphore and waits for both
  before it reads either, so the pair is one counted batch of two transfers. Here: the slots and the experts' matrices as
  parts of their buffers, what a slot that holds an expert's matrix says, and the two triples: `start_pair` gives up a slot of
  each scratch buffer and the expert's matrices to the pair in flight, `wait_pair` takes them back, the matrices landed.
-/
module

public import Idealize.ShloMosaic.Lib.Batch
public import Idealize.ShloMosaic.Lib.Pipeline.Frame
public import Idealize.ShloMosaic.Lib.Tactic
public import proofs.«01_k».proof.Proof.Gen.ExpertsIdeal
public import proofs.«01_k».proof.Proof.Gen.ExpertsIdeal.Launch
public import proofs.«01_k».proof.Proof.Gen.ExpertsIdeal.Skeleton

@[expose] public section

noncomputable section

namespace Cert.Proof.Experts

open Cert.ExpertsIdeal Cert.ExpertsIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

abbrev UX : Type := Pipeline.UD sig nD τ

local notation "𝕄" => MT nD τ sig Unit (Elt F) ℕ UX ℕ

abbrev EC : UEmb Counters (MT nD τ sig Unit (Elt F) ℕ UX ℕ) := countersEmb

/-! ## The buffers, the slots and the experts' matrices -/

abbrev w1M : Memref sig .tc .hbm S8x1024x2048 .f32 := Memref.whole main_arg2
abbrev w2M : Memref sig .tc .hbm S8x2048x1024 .f32 := Memref.whole main_arg4
abbrev b1M : Memref sig .tc .vmem S2x1024x2048 .f32 := Memref.whole cc0_scratch0
abbrev b2M : Memref sig .tc .vmem S2x2048x1024 .f32 := Memref.whole cc0_scratch1

theorem inb_slot1 (s : Fin 2) : ∀ a, (![s.val, 0, 0] : Fin 3 → Nat) a + S1x1024x2048.size a ≤ S2x1024x2048.size a := by
  have := s.isLt; intro a; fin_cases a
  · show s.val + 1 ≤ 2; omega
  · show 0 + 1024 ≤ 1024; omega
  · show 0 + 2048 ≤ 2048; omega
theorem inb_slot2 (s : Fin 2) : ∀ a, (![s.val, 0, 0] : Fin 3 → Nat) a + S1x2048x1024.size a ≤ S2x2048x1024.size a := by
  have := s.isLt; intro a; fin_cases a
  · show s.val + 1 ≤ 2; omega
  · show 0 + 2048 ≤ 2048; omega
  · show 0 + 1024 ≤ 1024; omega
theorem inb_mat1 (e : Fin 8) : ∀ a, (![e.val, 0, 0] : Fin 3 → Nat) a + S1x1024x2048.size a ≤ S8x1024x2048.size a := by
  have := e.isLt; intro a; fin_cases a
  · show e.val + 1 ≤ 8; omega
  · show 0 + 1024 ≤ 1024; omega
  · show 0 + 2048 ≤ 2048; omega
theorem inb_mat2 (e : Fin 8) : ∀ a, (![e.val, 0, 0] : Fin 3 → Nat) a + S1x2048x1024.size a ≤ S8x2048x1024.size a := by
  have := e.isLt; intro a; fin_cases a
  · show e.val + 1 ≤ 8; omega
  · show 0 + 2048 ≤ 2048; omega
  · show 0 + 1024 ≤ 1024; omega

/-- Slot `s` of each scratch buffer and expert `e`'s matrix of each weight array, as rectangles -/
abbrev slotR1 (s : Fin 2) : Rect S2x1024x2048 := Rect.unit ![s.val, 0, 0] S1x1024x2048.size (inb_slot1 s)
abbrev slotR2 (s : Fin 2) : Rect S2x2048x1024 := Rect.unit ![s.val, 0, 0] S1x2048x1024.size (inb_slot2 s)
abbrev matR1 (e : Fin 8) : Rect S8x1024x2048 := Rect.unit ![e.val, 0, 0] S1x1024x2048.size (inb_mat1 e)
abbrev matR2 (e : Fin 8) : Rect S8x2048x1024 := Rect.unit ![e.val, 0, 0] S1x2048x1024.size (inb_mat2 e)

/-- and as the matrices that the copies go between. -/
abbrev slot1 (s : Fin 2) : Memref sig .tc .vmem S1024x2048 .f32 :=
  (b1M.slice (slotR1 s) (fun _ => rfl)).squeeze S1024x2048 squeezes_S1x1024x2048_S1024x2048
abbrev slot2 (s : Fin 2) : Memref sig .tc .vmem S2048x1024 .f32 :=
  (b2M.slice (slotR2 s) (fun _ => rfl)).squeeze S2048x1024 squeezes_S1x2048x1024_S2048x1024
abbrev mat1 (e : Fin 8) : Memref sig .tc .hbm S1024x2048 .f32 :=
  (w1M.slice (matR1 e) (fun _ => rfl)).squeeze S1024x2048 squeezes_S1x1024x2048_S1024x2048
abbrev mat2 (e : Fin 8) : Memref sig .tc .hbm S2048x1024 .f32 :=
  (w2M.slice (matR2 e) (fun _ => rfl)).squeeze S2048x1024 squeezes_S1x2048x1024_S2048x1024

/-- Slot `s` of the first scratch buffer holds expert `e`'s first matrix; of the second, its second. -/
def Has1 (s : Fin 2) (e : Fin 8) (w : FVec F S8x1024x2048 .f32) (f : FVec F S2x1024x2048 .f32) : Prop :=
  (b1M.access (slotR1 s)).read (Elt F) f = (w1M.access (matR1 e)).read (Elt F) w
def Has2 (s : Fin 2) (e : Fin 8) (w : FVec F S8x2048x1024 .f32) (f : FVec F S2x2048x1024 .f32) : Prop :=
  (b2M.access (slotR2 s)).read (Elt F) f = (w2M.access (matR2 e)).read (Elt F) w

/-- A copy between two views re-indexed alike leaves in the one what the other reads. -/
theorem read_of_reshaped {sp sp' : Space} {s s' : Shape} {el : EltTy} (v : View sig .tc sp s el) (u : View sig .tc sp' s el) (h : s'.numel = s.numel)
    (f : v.ty.Contents (Elt F)) (g : u.ty.Contents (Elt F)) :
    v.read (Elt F) ((v.reshape s' h).write (Elt F) f ((u.reshape s' h).read (Elt F) g) Finset.univ) = u.read (Elt F) g := by
  funext y
  obtain ⟨x, rfl⟩ := (Shape.reshapeEquiv h).surjective y
  exact congrFun (View.read_write_univ (v := v.reshape s' h) (Val := Elt F) f ((u.reshape s' h).read (Elt F) g)) x

/-- What a slot holds is read off its own elements. -/
theorem read_congr {sp : Space} {s : Shape} {el : EltTy} (v : View sig .tc sp s el) {f g : v.ty.Contents (Elt F)} (h : ∀ i ∈ v.set, f i = g i) :
    v.read (Elt F) f = v.read (Elt F) g := by
  funext x
  rw [View.read_apply, View.read_apply, h _ (Finset.mem_map_of_mem _ (Finset.mem_univ x))]

/-! ## The pair of copies in flight -/

variable (c : Dev nD)

abbrev thr : Thread nD τ := c.tc

abbrev pairSem : SemLoc sig := .dma cc0_scratch2.sem
/-- The units that each copy of the pair pays. -/
abbrev unitsOf : ℕ := (slot1 0).view.dmaCredit

variable (w1 : FVec F S8x1024x2048 .f32) (w2 : FVec F S8x2048x1024 .f32)

/-- What the two copies deliver: the slot of each scratch buffer holding the expert's matrix, and that matrix's elements of
    the weight array. -/
def Got1 (s : Fin 2) (e : Fin 8) : sProp 𝕄 :=
  iprop((∃ f, ⌜Has1 s e w1 f⌝ ∗ b1M.view.loc (thr c) ↦[(slot1 s).view.set]{fullShare} f) ∗ w1M.view.loc (thr c) ↦[(mat1 e).view.set]{fullShare} w1)
def Got2 (s : Fin 2) (e : Fin 8) : sProp 𝕄 :=
  iprop((∃ f, ⌜Has2 s e w2 f⌝ ∗ b2M.view.loc (thr c) ↦[(slot2 s).view.set]{fullShare} f) ∗ w2M.view.loc (thr c) ↦[(mat2 e).view.set]{fullShare} w2)

def pairD (s : Fin 2) (e : Fin 8) : Fin 2 → sProp 𝕄 := ![Got1 c w1 s e, Got2 c w2 s e]

instance pairD_storable (s : Fin 2) (e : Fin 8) (t : Fin 2) : Storable (upEmb : UEmb _ 𝕄) (pairD c w1 w2 s e t) := by
  match t with
  | 0 => show Storable _ (Got1 c w1 s e); unfold Got1; infer_instance
  | 1 => show Storable _ (Got2 c w2 s e); unfold Got2; infer_instance

/-- Expert `e`'s pair in flight into slot `s`: the batch, and of each buffer the elements that the pair does not have. -/
def Flying (s : Fin 2) (e : Fin 8) (f1 : FVec F S2x1024x2048 .f32) (f2 : FVec F S2x2048x1024 .f32) : sProp 𝕄 :=
  iprop(Transfers.Batch EC (thr c) pairSem () unitsOf (pairD c w1 w2 s e) 2 0
    ∗ (b1M.view.loc (thr c) ↦[Finset.univ \ (slot1 s).view.set]{fullShare} f1) ∗ (b2M.view.loc (thr c) ↦[Finset.univ \ (slot2 s).view.set]{fullShare} f2)
    ∗ (w1M.view.loc (thr c) ↦[Finset.univ \ (mat1 e).view.set]{fullShare} w1) ∗ (w2M.view.loc (thr c) ↦[Finset.univ \ (mat2 e).view.set]{fullShare} w2))

/-- No pair in flight: the counter at zero and every buffer whole. -/
def Still (f1 : FVec F S2x1024x2048 .f32) (f2 : FVec F S2x2048x1024 .f32) : sProp 𝕄 :=
  iprop(semVal (thr c, pairSem) 0
    ∗ (b1M.view.loc (thr c) ↦{fullShare} f1) ∗ (b2M.view.loc (thr c) ↦{fullShare} f2)
    ∗ (w1M.view.loc (thr c) ↦{fullShare} w1) ∗ (w2M.view.loc (thr c) ↦{fullShare} w2))

variable {α : Type} {Q : α → sProp (MT nD τ sig Unit (Elt F) ℕ UX ℕ)}

/-- The weakest precondition of a piece of the call's body. -/
abbrev wpX {α : Type} (p : Prog (TpuEff nD τ sig (Elt F) Λ₀ .tc) α) (Q : α → sProp 𝕄) : sProp 𝕄 :=
  wp frame (wpE (defs₀ (F := F)) Variants.none (thr c) none) Set.univ p Q

/-- What each copy leaves is what it delivers. -/
theorem landed1 (s : Fin 2) (e : Fin 8) (f : FVec F S2x1024x2048 .f32) :
    iprop((b1M.view.loc (thr c) ↦[(slot1 s).view.set]{fullShare} ((slot1 s).view.write (Elt F) f ((mat1 e).view.read (Elt F) w1) Finset.univ))
      ∗ w1M.view.loc (thr c) ↦[(mat1 e).view.set]{fullShare} w1) ⊢ Got1 c w1 s e := by
  unfold Got1
  iintro ⟨H, Hw⟩
  isplitl [H]
  · iexists ((slot1 s).view.write (Elt F) f ((mat1 e).view.read (Elt F) w1) Finset.univ)
    isplitr
    · ipureintro; exact read_of_reshaped (b1M.access (slotR1 s)) (w1M.access (matR1 e)) _ f w1
    iexact H
  iexact Hw

theorem landed2 (s : Fin 2) (e : Fin 8) (f : FVec F S2x2048x1024 .f32) :
    iprop((b2M.view.loc (thr c) ↦[(slot2 s).view.set]{fullShare} ((slot2 s).view.write (Elt F) f ((mat2 e).view.read (Elt F) w2) Finset.univ))
      ∗ w2M.view.loc (thr c) ↦[(mat2 e).view.set]{fullShare} w2) ⊢ Got2 c w2 s e := by
  unfold Got2
  iintro ⟨H, Hw⟩
  isplitl [H]
  · iexists ((slot2 s).view.write (Elt F) f ((mat2 e).view.read (Elt F) w2) Finset.univ)
    isplitr
    · ipureintro; exact read_of_reshaped (b2M.access (slotR2 s)) (w2M.access (matR2 e)) _ f w2
    iexact H
  iexact Hw

theorem start_pair (s : Fin 2) (e : Fin 8) (f1 : FVec F S2x1024x2048 .f32) (f2 : FVec F S2x2048x1024 .f32)
    {h1 h2 h3 h4 h5 h6} {Q : PUnit → sProp 𝕄} :
    iprop(Still c w1 w2 f1 f2 ∗ (Flying c w1 w2 s e f1 f2 -∗ Q ⟨⟩))
      ⊢ wpX c (do
          Prog.lift (.enqueueDma (mat1 e) (.here (slot1 s)) pairSem h1 h2 h3)
          Prog.lift (.enqueueDma (mat2 e) (.here (slot2 s)) pairSem h4 h5 h6)
          pure ⟨⟩) Q := by
  unfold Still
  iintro ⟨⟨Hv, H1, H2, H3, H4⟩, Hk⟩
  imod (Transfers.batch_alloc' (Lvl := ℕ) EC (thr c) () unitsOf (pairD c w1 w2 s e) (sm := pairSem) (E := Set.univ)) $$ Hv with HB
  ihave H1' := ((pointsTo_split_subset (Finset.subset_univ (slot1 s).view.set)).1) $$ H1
  icases H1' with ⟨H1, H1c⟩
  ihave H2' := ((pointsTo_split_subset (Finset.subset_univ (slot2 s).view.set)).1) $$ H2
  icases H2' with ⟨H2, H2c⟩
  ihave H3' := ((pointsTo_split_subset (Finset.subset_univ (mat1 e).view.set)).1) $$ H3
  icases H3' with ⟨H3, H3c⟩
  ihave H4' := ((pointsTo_split_subset (Finset.subset_univ (mat2 e).view.set)).1) $$ H4
  icases H4' with ⟨H4, H4c⟩
  iapply (Transfers.wp_dmaBatch EC Variants.none (thr c) none (src := mat1 e) (dst := slot1 s) (via := .same) (Sd := (slot1 s).view.set) (fd := f1) (fs := w1) (q := fullShare)
    (D := pairD c w1 w2 s e) (j := 0) (u := 0) () unitsOf rfl (Finset.Subset.refl _) (by decide) (by decide) ?_) $$ [H3 H1 HB]
  · exact landed1 c w1 s e f1
  · isplitl [H3]; · iexact H3
    isplitl [H1]; · iexact H1
    iexact HB
  iintro HB
  iapply (Transfers.wp_dmaBatch EC Variants.none (thr c) none (src := mat2 e) (dst := slot2 s) (via := .same) (Sd := (slot2 s).view.set) (fd := f2) (fs := w2) (q := fullShare)
    (D := pairD c w1 w2 s e) (j := 1) (u := 0) () unitsOf rfl (Finset.Subset.refl _) (by decide) (by decide) ?_) $$ [H4 H2 HB]
  · exact landed2 c w2 s e f2
  · isplitl [H4]; · iexact H4
    isplitl [H2]; · iexact H2
    iexact HB
  iintro HB
  iapply (le_wp_ret frame (wpE (defs₀ (F := F)) Variants.none (thr c) none) Set.univ PUnit.unit Q)
  iapply Hk
  unfold Flying
  isplitl [HB]; · iexact HB
  isplitl [H1c]; · iexact H1c
  isplitl [H2c]; · iexact H2c
  isplitl [H3c]; · iexact H3c
  iexact H4c

theorem slot1_set (s : Fin 2) : (slot1 s).view.set = (b1M.access (slotR1 s)).set := View.set_reshape ..
theorem slot2_set (s : Fin 2) : (slot2 s).view.set = (b2M.access (slotR2 s)).set := View.set_reshape ..

/-- What a slot holds is read off the slot's own elements. -/
theorem has1_of_agree (s : Fin 2) (e : Fin 8) (f g : FVec F S2x1024x2048 .f32) (h : ∀ i ∈ (slot1 s).view.set, f i = g i) (hg : Has1 s e w1 g) : Has1 s e w1 f := by
  unfold Has1 at hg ⊢
  rw [← hg]
  exact read_congr (b1M.access (slotR1 s)) (fun i hi => h i (by rw [slot1_set]; exact hi))
theorem has2_of_agree (s : Fin 2) (e : Fin 8) (f g : FVec F S2x2048x1024 .f32) (h : ∀ i ∈ (slot2 s).view.set, f i = g i) (hg : Has2 s e w2 g) : Has2 s e w2 f := by
  unfold Has2 at hg ⊢
  rw [← hg]
  exact read_congr (b2M.access (slotR2 s)) (fun i hi => h i (by rw [slot2_set]; exact hi))

/-- What a copy delivered, joined with the rest of its two buffers. -/
theorem join1 (s : Fin 2) (e : Fin 8) (f : FVec F S2x1024x2048 .f32) :
    iprop(Got1 c w1 s e ∗ (b1M.view.loc (thr c) ↦[Finset.univ \ (slot1 s).view.set]{fullShare} f) ∗ (w1M.view.loc (thr c) ↦[Finset.univ \ (mat1 e).view.set]{fullShare} w1))
      ⊢ (iprop(∃ h, ⌜Has1 s e w1 h⌝ ∗ (b1M.view.loc (thr c) ↦{fullShare} h) ∗ (w1M.view.loc (thr c) ↦{fullShare} w1)) : sProp 𝕄) := by
  unfold Got1
  iintro ⟨⟨⟨%g, %hg, Hg⟩, Hw⟩, Hf, Hv⟩
  iexists ((slot1 s).view.set.piecewise g f)
  isplitr
  · ipureintro
    exact has1_of_agree w1 s e _ g (fun i hi => Finset.piecewise_eq_of_mem _ g f hi) hg
  isplitl [Hg Hf]
  · iapply (pointsTo_join_subset (Finset.subset_univ (slot1 s).view.set))
    isplitl [Hg]; · iexact Hg
    iexact Hf
  · iapply ((pointsTo_split_subset (Finset.subset_univ (mat1 e).view.set)).2)
    isplitl [Hw]; · iexact Hw
    iexact Hv

theorem join2 (s : Fin 2) (e : Fin 8) (f : FVec F S2x2048x1024 .f32) :
    iprop(Got2 c w2 s e ∗ (b2M.view.loc (thr c) ↦[Finset.univ \ (slot2 s).view.set]{fullShare} f) ∗ (w2M.view.loc (thr c) ↦[Finset.univ \ (mat2 e).view.set]{fullShare} w2))
      ⊢ (iprop(∃ h, ⌜Has2 s e w2 h⌝ ∗ (b2M.view.loc (thr c) ↦{fullShare} h) ∗ (w2M.view.loc (thr c) ↦{fullShare} w2)) : sProp 𝕄) := by
  unfold Got2
  iintro ⟨⟨⟨%g, %hg, Hg⟩, Hw⟩, Hf, Hv⟩
  iexists ((slot2 s).view.set.piecewise g f)
  isplitr
  · ipureintro
    exact has2_of_agree w2 s e _ g (fun i hi => Finset.piecewise_eq_of_mem _ g f hi) hg
  isplitl [Hg Hf]
  · iapply (pointsTo_join_subset (Finset.subset_univ (slot2 s).view.set))
    isplitl [Hg]; · iexact Hg
    iexact Hf
  · iapply ((pointsTo_split_subset (Finset.subset_univ (mat2 e).view.set)).2)
    isplitl [Hw]; · iexact Hw
    iexact Hv

/-- The two copies are of as many bytes. -/
theorem units2 : (slot2 0).view.dmaCredit = unitsOf := by
  show RefSig.tileCredit S2048x1024 .f32 = RefSig.tileCredit S1024x2048 .f32
  decide
theorem units_pos : 0 < unitsOf := View.dmaCredit_pos _ (by show 0 < S1024x2048.numel; decide)

/-- No pair in flight and a slot of each buffer holding expert `e`'s matrices. -/
def Held (s : Fin 2) (e : Fin 8) : sProp 𝕄 :=
  iprop(∃ f1 f2, ⌜Has1 s e w1 f1 ∧ Has2 s e w2 f2⌝ ∗ Still c w1 w2 f1 f2)

theorem wait_pair (s : Fin 2) (e : Fin 8) (f1 : FVec F S2x1024x2048 .f32) (f2 : FVec F S2x2048x1024 .f32) (W : Waits sig Unit)
    {h1 h2 h3 h4} {Q : PUnit → sProp 𝕄} :
    iprop(Flying c w1 w2 s e f1 f2 ∗ owes (thr c) 0 W ∗ (∀ W', Held c w1 w2 s e -∗ owes (thr c) 0 W' -∗ Q ⟨⟩))
      ⊢ wpX c (do
          Prog.lift (.waitDma2 cc0_scratch2.sem (mat1 e) (slot1 s) h1 h2)
          Prog.lift (.waitDma2 cc0_scratch2.sem (mat2 e) (slot2 s) h3 h4)
          pure ⟨⟩) Q := by
  unfold Flying
  iintro ⟨⟨HB, H1c, H2c, H3c, H4c⟩, HO, Hk⟩
  iapply (Transfers.wp_waitBatch EC Variants.none (thr c) none (srcw := mat1 e) (dstw := slot1 s) (hsrc := h1) (hdst := h2) (D := pairD c w1 w2 s e) (u := 0) (W := W)
    () (N := unitsOf) rfl (by have := units_pos; omega)) $$ [HB HO]
  · isplitl [HB]; · iexact HB
    iexact HO
  iintro ⟨HB, HO⟩
  iapply (Transfers.wp_waitBatchLast EC Variants.none (thr c) none (srcw := mat2 e) (dstw := slot2 s) (hsrc := h3) (hdst := h4) (D := pairD c w1 w2 s e) (u := 0 + unitsOf)
    () (N := unitsOf) units2 units_pos (by omega)) $$ [HB HO]
  · isplitl [HB]; · iexact HB
    iexact HO
  iintro ⟨HD, Hv, HO⟩
  ihave HD' := (show bigSep Finset.univ (pairD c w1 w2 s e) ⊢ iprop(Got1 c w1 s e ∗ Got2 c w2 s e) from
    Entails.of_eq (by
      rw [show (Finset.univ : Finset (Fin 2)) = {0, 1} from rfl, bigSep_insert (by decide), bigSep_singleton]; rfl)) $$ HD
  icases HD' with ⟨HD1, HD2⟩
  ihave HA := (join1 c w1 s e f1) $$ [HD1 H1c H3c]
  · isplitl [HD1]; · iexact HD1
    isplitl [H1c]; · iexact H1c
    iexact H3c
  ihave HC := (join2 c w2 s e f2) $$ [HD2 H2c H4c]
  · isplitl [HD2]; · iexact HD2
    isplitl [H2c]; · iexact H2c
    iexact H4c
  icases HA with ⟨%k1, %hk1, H1, H3⟩
  icases HC with ⟨%k2, %hk2, H2, H4⟩
  iapply (le_wp_ret frame (wpE (defs₀ (F := F)) Variants.none (thr c) none) Set.univ PUnit.unit Q)
  iapply Hk $$ [Hv H1 H2 H3 H4] [HO]
  · unfold Held Still
    iexists k1, k2
    isplitr
    · ipureintro; exact ⟨hk1, hk2⟩
    isplitl [Hv]; · iexact Hv
    isplitl [H1]; · iexact H1
    isplitl [H2]; · iexact H2
    isplitl [H3]; · iexact H3
    iexact H4
  iexact HO

end Cert.Proof.Experts

end
-- ==== Proof.ExpertsBody.lean ====
/-
  THE EXPERTS' CALL: THE BODY OF ONE TILE. A tile that is in use finds its expert's weights in its slot or on their way there,
  starts the next expert's pair of copies into the other slot when the next expert is another one, and multiplies. Here: the
  four conditions of the body in terms of the table's words, the states that the weights are in before and after the tile, and
  the triple of the whole body, its output's value named.
-/
module

public import proofs.«01_k».proof.Proof.ExpertsCopy
public import Idealize.ShloMosaic.Lib.StableHlo.Predicate

@[expose] public section

noncomputable section

namespace Cert.Proof.Experts

open Cert.ExpertsIdeal Cert.ExpertsIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig Unit (Elt F) ℕ UX ℕ

/-! ## The conditions -/

/-- Tile `i` is in use: its first row is below the number of used rows. -/
def Live (i : grid0.Coords) (total : BitVec 32) : Prop :=
  Scalar.cmpi .slt (Scalar.muli (BitVec.ofNat 32 (i 0).val) 256#32) total = 1#1

theorem bit_of : ∀ x : BitVec 1, Scalar.cmpi .ne (Scalar.extui x) 0#32 = 1#1 ↔ x = 1#1 := by decide
theorem bit_and : ∀ x y : BitVec 1, Scalar.andi x y = 1#1 ↔ x = 1#1 ∧ y = 1#1 := by decide
theorem eq_bit (a b : BitVec 32) : Scalar.cmpi .eq a b = 1#1 ↔ a = b := StableHlo.Predicate.cmpi_eq_iff
theorem ne_bit (a b : BitVec 32) : Scalar.cmpi .ne a b = 1#1 ↔ a ≠ b := by
  show BitVec.ofBool (a != b) = 1#1 ↔ _
  rw [StableHlo.Predicate.ofBool_eq_one_iff]
  exact bne_iff_ne

theorem cond1_iff (i : grid0.Coords) (total : BitVec 32) : k0_cond1 i total = 1#1 ↔ Live i total ∧ (i 0).val = 0 := by
  have h : BitVec.ofNat 32 (i 0).val = 0#32 ↔ (i 0).val = 0 := by
    have : (i 0).val < 24 := (i 0).isLt
    constructor
    · intro h
      have := congrArg BitVec.toNat h
      simp only [BitVec.toNat_ofNat] at this
      omega
    · intro h; rw [h]
  unfold k0_cond1 Live
  simp only [bit_of, bit_and, eq_bit, h]
theorem cond2_iff (i : grid0.Coords) (first total : BitVec 32) : k0_cond2 i first total = 1#1 ↔ Live i total ∧ first = 1#32 := by
  unfold k0_cond2 Live; simp only [bit_of, bit_and, eq_bit]
theorem cond3_iff (i : grid0.Coords) (te first nx total : BitVec 32) :
    k0_cond3 i te first nx total = 1#1 ↔ (Live i total ∧ first = 1#32) ∧ nx ≠ te := by
  unfold k0_cond3 Live
  refine (bit_of _).trans ?_
  simp only [bit_and, eq_bit, ne_bit]
theorem cond4_iff (i : grid0.Coords) (total : BitVec 32) : k0_cond4 i total = 1#1 ↔ Live i total := by
  unfold k0_cond4 Live; simp only [bit_of]

/-! ## The states of the weights -/

variable (c : Dev nD) (w1 : FVec F S8x1024x2048 .f32) (w2 : FVec F S8x2048x1024 .f32)

/-- Expert `e`'s weights in slot `s`, and expert `e'`'s on their way to slot `s'`. -/
def Ahead (s : Fin 2) (e : Fin 8) (s' : Fin 2) (e' : Fin 8) : sProp 𝕄 :=
  iprop(∃ f1 f2, ⌜Has1 s e w1 f1 ∧ Has2 s e w2 f2⌝ ∗ Flying c w1 w2 s' e' f1 f2)

/-- After a tile in use: its expert's weights in its slot, and the next expert's, if that is another one, on their way. -/
def After (s : Fin 2) (e : Fin 8) (s' : Fin 2) (e' : Fin 8) : sProp 𝕄 :=
  if e' = e then Held c w1 w2 s e else Ahead c w1 w2 s e s' e'

/-- No copy in flight, whatever the scratch holds. -/
def Idle : sProp 𝕄 := iprop(∃ f1 f2, Still c w1 w2 f1 f2)

/-- A pair in flight, whatever the other slot holds. -/
def Coming (s : Fin 2) (e : Fin 8) : sProp 𝕄 := iprop(∃ f1 f2, Flying c w1 w2 s e f1 f2)

theorem held_idle (s : Fin 2) (e : Fin 8) : Held c w1 w2 s e ⊢ Idle c w1 w2 := by
  unfold Held Idle
  iintro ⟨%f1, %f2, -, H⟩
  iexists f1, f2; iexact H

theorem ahead_coming (s : Fin 2) (e : Fin 8) (s' : Fin 2) (e' : Fin 8) : Ahead c w1 w2 s e s' e' ⊢ Coming c w1 w2 s' e' := by
  unfold Ahead Coming
  iintro ⟨%f1, %f2, -, H⟩
  iexists f1, f2; iexact H

/-! ## Steps -/

variable {α : Type} {Q : α → sProp (MT nD τ sig Unit (Elt F) ℕ UX ℕ)} {R : sProp (MT nD τ sig Unit (Elt F) ℕ UX ℕ)}

theorem bind_step {β : Type} {p : Prog (TpuEff nD τ sig (Elt F) Λ₀ .tc) β} {k : β → Prog (TpuEff nD τ sig (Elt F) Λ₀ .tc) α}
    (h : R ⊢ wpX c p (fun x => wpX c (k x) Q)) : R ⊢ wpX c (p >>= k) Q :=
  h.trans (Entails.of_eq (wp_bind frame (wpE (defs₀ (F := F)) Variants.none (thr c) none) Set.univ p k Q).symm)

theorem ret_step {x : α} (h : R ⊢ Q x) : R ⊢ wpX c (pure x) Q :=
  h.trans (le_wp_ret frame (wpE (defs₀ (F := F)) Variants.none (thr c) none) Set.univ x Q)

theorem assume_step {P : Prop} {dec : Decidable P} {k : PLift P → Prog (TpuEff nD τ sig (Elt F) Λ₀ .tc) α} (hP : P)
    (h : R ⊢ wpX c (k ⟨hP⟩) Q) : R ⊢ wpX c (Prog.lift (.assume P dec) >>= k) Q :=
  h.trans (wp_assume (defs := defs₀ (F := F)) Variants.none (thr c) none Set.univ (k := k) hP)

/-- A slot is apart from the other one. -/
theorem slots_apart1 (s s' : Fin 2) (h : s ≠ s') : (b1M.access (slotR1 s)).set ⊆ Finset.univ \ (slot1 s').view.set := by
  intro i hi
  refine Finset.mem_sdiff.mpr ⟨Finset.mem_univ _, fun hi' => h (Fin.ext ?_)⟩
  rw [slot1_set] at hi'
  obtain ⟨y, -, rfl⟩ := Finset.mem_map.mp hi
  obtain ⟨y', -, e⟩ := Finset.mem_map.mp hi'
  have e0 : s'.val + 1 * (y' 0).val = s.val + 1 * (y 0).val := congrArg Fin.val (congrFun e (0 : Fin 3))
  have h1 : (y 0).val < 1 := (y 0).isLt
  have h2 : (y' 0).val < 1 := (y' 0).isLt
  omega
theorem slots_apart2 (s s' : Fin 2) (h : s ≠ s') : (b2M.access (slotR2 s)).set ⊆ Finset.univ \ (slot2 s').view.set := by
  intro i hi
  refine Finset.mem_sdiff.mpr ⟨Finset.mem_univ _, fun hi' => h (Fin.ext ?_)⟩
  rw [slot2_set] at hi'
  obtain ⟨y, -, rfl⟩ := Finset.mem_map.mp hi
  obtain ⟨y', -, e⟩ := Finset.mem_map.mp hi'
  have e0 : s'.val + 1 * (y' 0).val = s.val + 1 * (y 0).val := congrArg Fin.val (congrFun e (0 : Fin 3))
  have h1 : (y 0).val < 1 := (y 0).isLt
  have h2 : (y' 0).val < 1 := (y' 0).isLt
  omega

/-- Loading the tile's slot yields the expert's matrix, the next pair in flight or not. -/
theorem slot_load1 {s s' : Fin 2} {e e' : Fin 8} (hs : s ≠ s') {o : Fin 3 → ℕ} (ho : o = ![s.val, 0, 0]) {inb : ∀ a, o a + S1x1024x2048.size a ≤ S2x1024x2048.size a} {hl : b1M.view.LoadsAt (Rect.unit (s := S2x1024x2048) o S1x1024x2048.size inb).toLoadRect} {k : (S1x1024x2048.Idx → Elt F .f32) → Prog (TpuEff nD τ sig (Elt F) Λ₀ .tc) α}
    (h : iprop(After c w1 w2 s e s' e' ∗ R) ⊢ wpX c (k ((w1M.access (matR1 e)).read (Elt F) w1)) Q) :
    iprop(After c w1 w2 s e s' e' ∗ R) ⊢ wpX c (Prog.lift (.load b1M (Rect.unit (s := S2x1024x2048) o S1x1024x2048.size inb).toLoadRect hl) >>= k) Q := by
  subst ho
  unfold After at h ⊢
  split at h
  · rename_i he
    rw [if_pos he]
    unfold Held Still at h ⊢
    iintro ⟨⟨%f1, %f2, %hf, Hv, H1, H⟩, HR⟩
    iapply (wp_load_rect (defs := defs₀ (F := F)) Variants.none (thr c) none Set.univ (m := b1M) (r := slotR1 s) (hl := hl) (k := k) (S := Finset.univ) (Finset.subset_univ _)) $$ H1
    iintro H1
    rw [show (b1M.access (slotR1 s)).read (Elt F) f1 = _ from hf.1]
    iapply h
    isplitr [HR]
    · iexists f1, f2
      isplitr; · ipureintro; exact hf
      isplitl [Hv]; · iexact Hv
      isplitl [H1]; · iexact H1
      iexact H
    iexact HR
  · rename_i he
    rw [if_neg he]
    unfold Ahead Flying at h ⊢
    iintro ⟨⟨%f1, %f2, %hf, Hv, H1, H⟩, HR⟩
    iapply (wp_load_rect (defs := defs₀ (F := F)) Variants.none (thr c) none Set.univ (m := b1M) (r := slotR1 s) (hl := hl) (k := k) (S := _) (slots_apart1 s s' hs)) $$ H1
    iintro H1
    rw [show (b1M.access (slotR1 s)).read (Elt F) f1 = _ from hf.1]
    iapply h
    isplitr [HR]
    · iexists f1, f2
      isplitr; · ipureintro; exact hf
      isplitl [Hv]; · iexact Hv
      isplitl [H1]; · iexact H1
      iexact H
    iexact HR

theorem slot_load2 {s s' : Fin 2} {e e' : Fin 8} (hs : s ≠ s') {o : Fin 3 → ℕ} (ho : o = ![s.val, 0, 0]) {inb : ∀ a, o a + S1x2048x1024.size a ≤ S2x2048x1024.size a} {hl : b2M.view.LoadsAt (Rect.unit (s := S2x2048x1024) o S1x2048x1024.size inb).toLoadRect} {k : (S1x2048x1024.Idx → Elt F .f32) → Prog (TpuEff nD τ sig (Elt F) Λ₀ .tc) α}
    (h : iprop(After c w1 w2 s e s' e' ∗ R) ⊢ wpX c (k ((w2M.access (matR2 e)).read (Elt F) w2)) Q) :
    iprop(After c w1 w2 s e s' e' ∗ R) ⊢ wpX c (Prog.lift (.load b2M (Rect.unit (s := S2x2048x1024) o S1x2048x1024.size inb).toLoadRect hl) >>= k) Q := by
  subst ho
  unfold After at h ⊢
  split at h
  · rename_i he
    rw [if_pos he]
    unfold Held Still at h ⊢
    iintro ⟨⟨%f1, %f2, %hf, Hv, H1, H2, H⟩, HR⟩
    iapply (wp_load_rect (defs := defs₀ (F := F)) Variants.none (thr c) none Set.univ (m := b2M) (r := slotR2 s) (hl := hl) (k := k) (S := Finset.univ) (Finset.subset_univ _)) $$ H2
    iintro H2
    rw [show (b2M.access (slotR2 s)).read (Elt F) f2 = _ from hf.2]
    iapply h
    isplitr [HR]
    · iexists f1, f2
      isplitr; · ipureintro; exact hf
      isplitl [Hv]; · iexact Hv
      isplitl [H1]; · iexact H1
      isplitl [H2]; · iexact H2
      iexact H
    iexact HR
  · rename_i he
    rw [if_neg he]
    unfold Ahead Flying at h ⊢
    iintro ⟨⟨%f1, %f2, %hf, Hv, H1, H2, H⟩, HR⟩
    iapply (wp_load_rect (defs := defs₀ (F := F)) Variants.none (thr c) none Set.univ (m := b2M) (r := slotR2 s) (hl := hl) (k := k) (S := _) (slots_apart2 s s' hs)) $$ H2
    iintro H2
    rw [show (b2M.access (slotR2 s)).read (Elt F) f2 = _ from hf.2]
    iapply h
    isplitr [HR]
    · iexists f1, f2
      isplitr; · ipureintro; exact hf
      isplitl [Hv]; · iexact Hv
      isplitl [H1]; · iexact H1
      isplitl [H2]; · iexact H2
      iexact H
    iexact HR

/-- The same, as a step from what is owned. -/
theorem slot_get1 {s s' : Fin 2} {e e' : Fin 8} (hs : s ≠ s') {o : Fin 3 → ℕ} (ho : o = ![s.val, 0, 0]) {inb : ∀ a, o a + S1x1024x2048.size a ≤ S2x1024x2048.size a}
    {hl : b1M.view.LoadsAt (Rect.unit (s := S2x1024x2048) o S1x1024x2048.size inb).toLoadRect} {k : (S1x1024x2048.Idx → Elt F .f32) → Prog (TpuEff nD τ sig (Elt F) Λ₀ .tc) α} :
    After c w1 w2 s e s' e' ⊢ iprop((After c w1 w2 s e s' e' -∗ wpX c (k ((w1M.access (matR1 e)).read (Elt F) w1)) Q)
      -∗ wpX c (Prog.lift (.load b1M (Rect.unit (s := S2x1024x2048) o S1x1024x2048.size inb).toLoadRect hl) >>= k) Q) := by
  iintro HA HK
  iapply (slot_load1 c w1 w2 hs ho (inb := inb) (hl := hl) (k := k) (R := iprop(After c w1 w2 s e s' e' -∗ wpX c (k ((w1M.access (matR1 e)).read (Elt F) w1)) Q)) (by
    iintro ⟨HA, HK⟩
    iapply HK $$ HA))
  isplitl [HA]; · iexact HA
  iexact HK

theorem slot_get2 {s s' : Fin 2} {e e' : Fin 8} (hs : s ≠ s') {o : Fin 3 → ℕ} (ho : o = ![s.val, 0, 0]) {inb : ∀ a, o a + S1x2048x1024.size a ≤ S2x2048x1024.size a}
    {hl : b2M.view.LoadsAt (Rect.unit (s := S2x2048x1024) o S1x2048x1024.size inb).toLoadRect} {k : (S1x2048x1024.Idx → Elt F .f32) → Prog (TpuEff nD τ sig (Elt F) Λ₀ .tc) α} :
    After c w1 w2 s e s' e' ⊢ iprop((After c w1 w2 s e s' e' -∗ wpX c (k ((w2M.access (matR2 e)).read (Elt F) w2)) Q)
      -∗ wpX c (Prog.lift (.load b2M (Rect.unit (s := S2x2048x1024) o S1x2048x1024.size inb).toLoadRect hl) >>= k) Q) := by
  iintro HA HK
  iapply (slot_load2 c w1 w2 hs ho (inb := inb) (hl := hl) (k := k) (R := iprop(After c w1 w2 s e s' e' -∗ wpX c (k ((w2M.access (matR2 e)).read (Elt F) w2)) Q)) (by
    iintro ⟨HA, HK⟩
    iapply HK $$ HA))
  isplitl [HA]; · iexact HA
  iexact HK

/-- A rectangle at the origin of the array's own extents has each index in its own place. -/
theorem emb_origin {s : Shape} {off : Fin s.rank → ℕ} (h0 : ∀ a, off a = 0) (inb : ∀ a, off a + s.size a ≤ s.size a) (y : s.Idx) :
    (Rect.unit (s := s) off s.size inb).emb y = y := by
  funext a
  refine Fin.ext ?_
  show off a + 1 * (y a).val = (y a).val
  rw [h0 a]; omega

/-- Loading a window whole yields what it holds. -/
theorem win_load {s : Shape} {el : EltTy} {m : Memref sig .tc .vmem s el} {X : s.Idx → Elt F el} {off : Fin s.rank → ℕ} (h0 : ∀ a, off a = 0)
    {inb : ∀ a, off a + s.size a ≤ s.size a} {hl} {k : (s.Idx → Elt F el) → Prog (TpuEff nD τ sig (Elt F) Λ₀ .tc) α} :
    owns (thr c) m fullShare X ⊢ iprop((owns (thr c) m fullShare X -∗ wpX c (k X) Q)
      -∗ wpX c (Prog.lift (.load m (Rect.unit (s := s) off s.size inb).toLoadRect hl) >>= k) Q) := by
  unfold owns
  iintro ⟨%f, %hf, H⟩ HK
  iapply (wp_load_rect (defs := defs₀ (F := F)) Variants.none (thr c) none Set.univ (m := m) (r := Rect.unit (s := s) off s.size inb) (hl := hl) (k := k) (S := m.view.set)
    (View.set_slice_subset ..)) $$ H
  iintro H
  rw [show (m.access (Rect.unit (s := s) off s.size inb)).read (Elt F) f = X from by
    funext y
    refine Eq.trans ?_ (congrFun hf y)
    show m.view.read (Elt F) f ((Rect.unit (s := s) off s.size inb).emb y) = _
    rw [emb_origin h0]]
  iapply HK
  iexists f
  isplitr; · ipureintro; exact hf
  iexact H

/-- Storing a window whole leaves what is stored. -/
theorem win_store {s : Shape} {el : EltTy} {m : Memref sig .tc .vmem s el} {X X' : s.Idx → Elt F el} {off : Fin s.rank → ℕ} (h0 : ∀ a, off a = 0)
    {inb : ∀ a, off a + s.size a ≤ s.size a} {hx} {hm} {k : PUnit → Prog (TpuEff nD τ sig (Elt F) Λ₀ .tc) α} :
    owns (thr c) m fullShare X ⊢ iprop((owns (thr c) m fullShare X' -∗ wpX c (k ⟨⟩) Q)
      -∗ wpX c (Prog.lift (.store m (Rect.unit (s := s) off s.size inb) X' Finset.univ hx hm) >>= k) Q) := by
  unfold owns
  iintro ⟨%f, -, H⟩ HK
  iapply (wp_store (defs := defs₀ (F := F)) Variants.none (thr c) none Set.univ (m := m) (r := Rect.unit (s := s) off s.size inb) (w := X') (k := k) (S := m.view.set)
    (View.set_slice_subset ..)) $$ H
  iintro H
  iapply HK
  iexists ((m.access (Rect.unit (s := s) off s.size inb)).write (Elt F) f X' Finset.univ)
  isplitr
  · ipureintro
    funext y
    have e := View.read_slice_write_emb (v := m.view) (Val := Elt F) (Rect.unit (s := s) off s.size inb) f X' (Finset.mem_univ y)
    rw [emb_origin h0] at e
    exact e
  iexact H

/-- Word `n` of the table. -/
def word (tb : Vec F S97 .i32) (n : Fin 97) : BitVec 32 := tb (fun a => ⟨n.val, by obtain rfl : a = 0 := Fin.eq_zero a; exact n.isLt⟩)

/-- Reading a word of the table, of which any share is owned. -/
theorem word_step {q : PosShare TreeShare} {tb : Vec F S97 .i32} {off : Fin 1 → ℕ} {inb : ∀ a, off a + S1.size a ≤ S97.size a} (n : Fin 97) (hn : off 0 = n.val)
    {h1 h2} {k : Elt F .i32 → Prog (TpuEff nD τ sig (Elt F) Λ₀ .tc) α}
    (h : iprop(((thr c).loc main_arg0 ↦{q} tb) ∗ R) ⊢ wpX c (k (word tb n)) Q) :
    iprop(((thr c).loc main_arg0 ↦{q} tb) ∗ R) ⊢ wpX c (smemLoad (Memref.whole main_arg0) (Rect.unit (s := S97) off S1.size inb) h1 h2 >>= k) Q := by
  iintro ⟨H, HR⟩
  iapply (wp_smemLoadElt (defs := defs₀ (F := F)) Variants.none (thr c) none Set.univ (m := Memref.whole main_arg0) (r := Rect.unit (s := S97) off S1.size inb)
    (hw := View.loads_smem_one h2 h1) (x := Shape.Idx.first (h1.symm ▸ Nat.one_pos)) (k := k) (S := Finset.univ) (Finset.subset_univ _)) $$ H
  iintro H
  rw [show ((Memref.whole main_arg0).access (Rect.unit (s := S97) off S1.size inb)).read (Elt F) tb (Shape.Idx.first (h1.symm ▸ Nat.one_pos)) = word tb n from by
    refine congrArg tb (funext fun a => Fin.ext ?_)
    obtain rfl : a = 0 := Fin.eq_zero a
    show off 0 + 1 * (Shape.Idx.first (s := S1) (h1.symm ▸ Nat.one_pos) 0).val = n.val
    have : (Shape.Idx.first (s := S1) (h1.symm ▸ Nat.one_pos) 0).val < 1 := Fin.isLt _
    omega]
  iapply h
  isplitl [H]; · iexact H
  iexact HR

/-- The matrices at given offsets of the weights and of the scratch. -/
abbrev to1 (off : Fin 3 → ℕ) (inb : ∀ a, off a + S1x1024x2048.size a ≤ S2x1024x2048.size a) : Memref sig .tc .vmem S1024x2048 .f32 :=
  (b1M.slice (Rect.unit off S1x1024x2048.size inb) (fun _ => rfl)).squeeze S1024x2048 squeezes_S1x1024x2048_S1024x2048
abbrev to2 (off : Fin 3 → ℕ) (inb : ∀ a, off a + S1x2048x1024.size a ≤ S2x2048x1024.size a) : Memref sig .tc .vmem S2048x1024 .f32 :=
  (b2M.slice (Rect.unit off S1x2048x1024.size inb) (fun _ => rfl)).squeeze S2048x1024 squeezes_S1x2048x1024_S2048x1024
abbrev from1 (off : Fin 3 → ℕ) (inb : ∀ a, off a + S1x1024x2048.size a ≤ S8x1024x2048.size a) : Memref sig .tc .hbm S1024x2048 .f32 :=
  (w1M.slice (Rect.unit off S1x1024x2048.size inb) (fun _ => rfl)).squeeze S1024x2048 squeezes_S1x1024x2048_S1024x2048
abbrev from2 (off : Fin 3 → ℕ) (inb : ∀ a, off a + S1x2048x1024.size a ≤ S8x2048x1024.size a) : Memref sig .tc .hbm S2048x1024 .f32 :=
  (w2M.slice (Rect.unit off S1x2048x1024.size inb) (fun _ => rfl)).squeeze S2048x1024 squeezes_S1x2048x1024_S2048x1024

/-- Starting a pair, with the program that follows. -/
theorem start_step {s : Fin 2} {e : Fin 8} {f1 : FVec F S2x1024x2048 .f32} {f2 : FVec F S2x2048x1024 .f32}
    {o1 o2 o3 o4 : Fin 3 → ℕ} (ho1 : o1 = ![s.val, 0, 0]) (ho2 : o2 = ![e.val, 0, 0]) (ho3 : o3 = ![s.val, 0, 0]) (ho4 : o4 = ![e.val, 0, 0])
    {i1 i2 i3 i4 h1 h2 h3 h4 h5 h6}
    {K : Prog (TpuEff nD τ sig (Elt F) Λ₀ .tc) α} (h : iprop(Flying c w1 w2 s e f1 f2 ∗ R) ⊢ wpX c K Q) :
    iprop(Still c w1 w2 f1 f2 ∗ R) ⊢ wpX c (do
      Prog.lift (.enqueueDma (from1 o2 i2) (.here (to1 o1 i1)) pairSem h1 h2 h3)
      Prog.lift (.enqueueDma (from2 o4 i4) (.here (to2 o3 i3)) pairSem h4 h5 h6)
      K) Q := by
  subst ho1 ho2 ho3 ho4
  refine bind_step c (p := do
      Prog.lift (.enqueueDma (mat1 e) (.here (slot1 s)) pairSem h1 h2 h3)
      Prog.lift (.enqueueDma (mat2 e) (.here (slot2 s)) pairSem h4 h5 h6)
      pure PUnit.unit) (k := fun _ => K) ?_
  iintro ⟨HS, HR⟩
  iapply (start_pair c w1 w2 s e f1 f2 (Q := fun _ => wpX c K Q))
  isplitl [HS]; · iexact HS
  iintro HF
  iapply h
  isplitl [HF]; · iexact HF
  iexact HR

/-- The same from whatever the scratch holds. -/
theorem start_idle {s : Fin 2} {e : Fin 8}
    {o1 o2 o3 o4 : Fin 3 → ℕ} (ho1 : o1 = ![s.val, 0, 0]) (ho2 : o2 = ![e.val, 0, 0]) (ho3 : o3 = ![s.val, 0, 0]) (ho4 : o4 = ![e.val, 0, 0])
    {i1 i2 i3 i4 h1 h2 h3 h4 h5 h6}
    {K : Prog (TpuEff nD τ sig (Elt F) Λ₀ .tc) α} (h : iprop(Coming c w1 w2 s e ∗ R) ⊢ wpX c K Q) :
    iprop(Idle c w1 w2 ∗ R) ⊢ wpX c (do
      Prog.lift (.enqueueDma (from1 o2 i2) (.here (to1 o1 i1)) pairSem h1 h2 h3)
      Prog.lift (.enqueueDma (from2 o4 i4) (.here (to2 o3 i3)) pairSem h4 h5 h6)
      K) Q := by
  unfold Idle
  iintro ⟨⟨%f1, %f2, HS⟩, HR⟩
  iapply (start_step c w1 w2 (s := s) (e := e) (f1 := f1) (f2 := f2) ho1 ho2 ho3 ho4 (K := K) (R := R) (Q := Q) (by
    unfold Coming at h
    iintro ⟨HF, HR⟩
    iapply h
    isplitl [HF]; · iexists f1, f2; iexact HF
    iexact HR))
  isplitl [HS]; · iexact HS
  iexact HR

/-- The same where an expert's weights are in the other slot. -/
theorem start_held {s : Fin 2} {e : Fin 8} {s' : Fin 2} {e' : Fin 8}
    {o1 o2 o3 o4 : Fin 3 → ℕ} (ho1 : o1 = ![s'.val, 0, 0]) (ho2 : o2 = ![e'.val, 0, 0]) (ho3 : o3 = ![s'.val, 0, 0]) (ho4 : o4 = ![e'.val, 0, 0])
    {i1 i2 i3 i4 h1 h2 h3 h4 h5 h6}
    {K : Prog (TpuEff nD τ sig (Elt F) Λ₀ .tc) α} (h : iprop(Ahead c w1 w2 s e s' e' ∗ R) ⊢ wpX c K Q) :
    iprop(Held c w1 w2 s e ∗ R) ⊢ wpX c (do
      Prog.lift (.enqueueDma (from1 o2 i2) (.here (to1 o1 i1)) pairSem h1 h2 h3)
      Prog.lift (.enqueueDma (from2 o4 i4) (.here (to2 o3 i3)) pairSem h4 h5 h6)
      K) Q := by
  unfold Held
  iintro ⟨⟨%f1, %f2, %hf, HS⟩, HR⟩
  iapply (start_step c w1 w2 (s := s') (e := e') (f1 := f1) (f2 := f2) ho1 ho2 ho3 ho4 (K := K) (R := R) (Q := Q) (by
    unfold Ahead at h
    iintro ⟨HF, HR⟩
    iapply h
    isplitl [HF]
    · iexists f1, f2
      isplitr; · ipureintro; exact hf
      iexact HF
    iexact HR))
  isplitl [HS]; · iexact HS
  iexact HR

/-- Waiting for a pair, with the program that follows. -/
theorem wait_step {s : Fin 2} {e : Fin 8}
    {o1 o2 o3 o4 : Fin 3 → ℕ} (ho1 : o1 = ![s.val, 0, 0]) (ho2 : o2 = ![e.val, 0, 0]) (ho3 : o3 = ![s.val, 0, 0]) (ho4 : o4 = ![e.val, 0, 0])
    {i1 i2 i3 i4 h1 h2 h3 h4} {K : Prog (TpuEff nD τ sig (Elt F) Λ₀ .tc) α}
    (h : iprop(Held c w1 w2 s e ∗ (∃ W, owes (thr c) 0 W) ∗ R) ⊢ wpX c K Q) :
    iprop(Coming c w1 w2 s e ∗ (∃ W, owes (thr c) 0 W) ∗ R) ⊢ wpX c (do
      Prog.lift (.waitDma2 cc0_scratch2.sem (from1 o2 i2) (to1 o1 i1) h1 h2)
      Prog.lift (.waitDma2 cc0_scratch2.sem (from2 o4 i4) (to2 o3 i3) h3 h4)
      K) Q := by
  subst ho1 ho2 ho3 ho4
  refine bind_step c (p := do
      Prog.lift (.waitDma2 cc0_scratch2.sem (mat1 e) (slot1 s) h1 h2)
      Prog.lift (.waitDma2 cc0_scratch2.sem (mat2 e) (slot2 s) h3 h4)
      pure PUnit.unit) (k := fun _ => K) ?_
  unfold Coming
  iintro ⟨⟨%f1, %f2, HF⟩, ⟨%W, HO⟩, HR⟩
  iapply (wait_pair c w1 w2 s e f1 f2 W (Q := fun _ => wpX c K Q))
  isplitl [HF]; · iexact HF
  isplitl [HO]; · iexact HO
  iintro %W' HH HO
  iapply h
  isplitl [HH]; · iexact HH
  isplitl [HO]; · iexists W'; iexact HO
  iexact HR

/-- A conditional block before a program: what the block does where it is run, what holds already where it is not. -/
theorem branch_step {P P' : sProp 𝕄} {t : Prop} [Decidable t] {A : t → Prog (TpuEff nD τ sig (Elt F) Λ₀ .tc) α} {K : Prog (TpuEff nD τ sig (Elt F) Λ₀ .tc) α}
    (hK : P' ⊢ wpX c K Q) (yes : ∀ h, (P' ⊢ wpX c K Q) → P ⊢ wpX c (A h) Q) (no : ¬ t → P ⊢ P') :
    P ⊢ wpX c (dite t A fun _ => K) Q := by
  by_cases h : t
  · rw [dif_pos h]; exact yes h hK
  · rw [dif_neg h]; exact (no h).trans hK

/-! ## The tile's words -/

/-- Where tile `i`'s word of row `r` of the table lies: the expert, the slot, whether it is the first of its expert's tiles, the
    next expert. -/
def pos (i : grid0.Coords) (r : Fin 4) : Fin 97 := ⟨24 * r.val + (i 0).val, by have : (i 0).val < 24 := (i 0).isLt; omega⟩

variable (tb : Vec F S97 .i32)

abbrev expertW (i : grid0.Coords) : BitVec 32 := word tb (pos i 0)
abbrev slotW (i : grid0.Coords) : BitVec 32 := word tb (pos i 1)
abbrev firstW (i : grid0.Coords) : BitVec 32 := word tb (pos i 2)
abbrev nextW (i : grid0.Coords) : BitVec 32 := word tb (pos i 3)
/-- The number of rows in use. -/
abbrev usedW : BitVec 32 := word tb (96 : Fin 97)

theorem off1_at (i : grid0.Coords) : k0_off1 i 0 = (pos i 0).val := by
  have : (i 0).val < 24 := (i 0).isLt
  show (BitVec.ofNat 32 (i 0).val).toNat = 24 * 0 + (i 0).val
  rw [BitVec.toNat_ofNat]; omega
theorem off2_at (i : grid0.Coords) (b : BitVec 32) (r : Fin 4) (h : b.toNat = 24 * r.val) : k0_off2 i b 0 = (pos i r).val := by
  have : (i 0).val < 24 := (i 0).isLt
  show (b + BitVec.ofNat 32 (i 0).val).toNat = 24 * r.val + (i 0).val
  rw [BitVec.toNat_add, BitVec.toNat_ofNat, h]
  have := r.isLt
  omega

/-- What the table says of a tile in use: an expert, a slot and a next expert there are. -/
structure InUse (i : grid0.Coords) : Prop where
  live : Live i (usedW tb)
  expert : (expertW tb i).toNat < 8
  slot : (slotW tb i).toNat < 2
  other : (Scalar.subi 1#32 (slotW tb i)).toNat < 2
  apart : (slotW tb i).toNat ≠ (Scalar.subi 1#32 (slotW tb i)).toNat
  next : (nextW tb i).toNat < 8
  first : (i 0).val = 0 → firstW tb i = 1#32

variable {tb} {i : grid0.Coords} (u : InUse tb i)

def InUse.e : Fin 8 := ⟨(expertW tb i).toNat, u.expert⟩
def InUse.s : Fin 2 := ⟨(slotW tb i).toNat, u.slot⟩
def InUse.s' : Fin 2 := ⟨(Scalar.subi 1#32 (slotW tb i)).toNat, u.other⟩
def InUse.e' : Fin 8 := ⟨(nextW tb i).toNat, u.next⟩

theorem InUse.e_eq : u.e' = u.e ↔ nextW tb i = expertW tb i :=
  ⟨fun h => BitVec.eq_of_toNat_eq (Fin.mk.inj h), fun h => Fin.ext (by show (nextW tb i).toNat = _; rw [h]; rfl)⟩
theorem InUse.s_ne : u.s ≠ u.s' := fun h => u.apart (Fin.mk.inj h)

/-- The weights after the tile. -/
def InUse.after : sProp 𝕄 := After c w1 w2 u.s u.e u.s' u.e'
/-- The weights after the tile's own start: on their way at the first tile of an expert, as after the tile at a further one. -/
def InUse.started : sProp 𝕄 := if firstW tb i = 1#32 then Coming c w1 w2 u.s u.e else u.after c w1 w2
/-- The weights before the tile. -/
def InUse.before : sProp 𝕄 := if (i 0).val = 0 then Idle c w1 w2 else u.started c w1 w2
/-- The weights after the tile's own wait. -/
def InUse.waited : sProp 𝕄 := if firstW tb i = 1#32 then Held c w1 w2 u.s u.e else u.after c w1 w2

/-- The product of the tile's rows. -/
def InUse.product (X : Vec F S256x1024 .f32) (B1 : Vec F S1x1x2048 .f32) (B2 : Vec F S1x1x1024 .f32) : Vec F S256x1024 .f32 :=
  k0_pay1 X ((w1M.access (matR1 u.e)).read (Elt F) w1) B1 ((w2M.access (matR2 u.e)).read (Elt F) w2) B2

include u in
theorem InUse.check : k0_chk1 i (expertW tb i) (slotW tb i) (firstW tb i) (nextW tb i) (usedW tb) := by
  have a1 := inb_slot1 u.s
  have a2 := inb_slot2 u.s
  have b1 := inb_slot1 u.s'
  have b2 := inb_slot2 u.s'
  have c1 := inb_mat1 u.e
  have c2 := inb_mat2 u.e
  have d1 := inb_mat1 u.e'
  have d2 := inb_mat2 u.e'
  exact ⟨fun _ => a1, fun _ => c1, fun _ => a2, fun _ => c2, fun _ => a1, fun _ => c1, fun _ => a2, fun _ => c2, fun _ => b1, fun _ => d1, fun _ => b2,
    fun _ => d2, fun _ => a1, fun _ => a2⟩

seal Scalar.subi in
set_option maxHeartbeats 400000 in
/-- The body of a tile in use. -/
theorem body_used {q : PosShare TreeShare} (xs : Memref sig .tc .vmem S256x1024 .f32) (hxs : xs.IsWhole) (b1 : Memref sig .tc .vmem S1x1x2048 .f32) (hb1 : b1.IsWhole)
    (b2 : Memref sig .tc .vmem S1x1x1024 .f32) (hb2 : b2.IsWhole) (o : Memref sig .tc .vmem S256x1024 .f32) (ho : o.IsWhole) {g0 g1 g2 g3 g4}
    (X O : Vec F S256x1024 .f32) (B1 : Vec F S1x1x2048 .f32) (B2 : Vec F S1x1x1024 .f32) :
    iprop(((thr c).loc main_arg0 ↦{q} tb) ∗ u.before c w1 w2 ∗ (∃ W, owes (thr c) 0 W) ∗ owns (thr c) xs fullShare X ∗ owns (thr c) b1 fullShare B1
        ∗ owns (thr c) b2 fullShare B2 ∗ owns (thr c) o fullShare O)
      ⊢ wpX c (cc0__ffn_kernel_skel i (Memref.whole main_arg0) g0 xs hxs w1M g1 b1 hb1 w2M g2 b2 hb2 o ho b1M g3 b2M g4 cc0_scratch2) fun _ =>
        iprop(((thr c).loc main_arg0 ↦{q} tb) ∗ u.after c w1 w2 ∗ (∃ W, owes (thr c) 0 W) ∗ owns (thr c) xs fullShare X ∗ owns (thr c) b1 fullShare B1
          ∗ owns (thr c) b2 fullShare B2 ∗ owns (thr c) o fullShare (u.product w1 w2 X B1 B2)) := by
  unfold cc0__ffn_kernel_skel
  refine word_step c (pos i 0) (off1_at i) (word_step c (pos i 1) (off2_at i _ 1 rfl) (word_step c (pos i 2) (off2_at i _ 2 rfl)
    (word_step c (pos i 3) (off2_at i _ 3 rfl) (word_step c (96 : Fin 97) rfl (assume_step c u.check ?_)))))
  have reorder : ∀ {A B C D : sProp 𝕄}, iprop(A ∗ B ∗ C ∗ D) ⊢ iprop(B ∗ C ∗ A ∗ D) := fun {A B C D} => by
    iintro ⟨HA, HB, HC, HD⟩
    isplitl [HB]; · iexact HB
    isplitl [HC]; · iexact HC
    isplitl [HA]; · iexact HA
    iexact HD
  refine reorder.trans ?_
  -- the tile's own start, run by the first tile alone
  refine branch_step c (P' := iprop(u.started c w1 w2 ∗ (∃ W, owes (thr c) 0 W) ∗ ((thr c).loc main_arg0 ↦{q} tb) ∗ owns (thr c) xs fullShare X
    ∗ owns (thr c) b1 fullShare B1 ∗ owns (thr c) b2 fullShare B2 ∗ owns (thr c) o fullShare O)) ?_ ?_ ?_
  rotate_left
  · intro h hK
    have h0 := ((cond1_iff i _).mp h).2
    unfold InUse.before
    rw [if_pos h0]
    unfold InUse.started at hK
    rw [if_pos (u.first h0)] at hK
    exact start_idle c w1 w2 (s := u.s) (e := u.e) rfl rfl rfl rfl hK
  · intro h
    have h0 : ¬ (i 0).val = 0 := fun h0 => h ((cond1_iff i _).mpr ⟨u.live, h0⟩)
    unfold InUse.before
    rw [if_neg h0]
  -- the tile's own wait, run by the first tile of an expert
  refine branch_step c (P' := iprop(u.waited c w1 w2 ∗ (∃ W, owes (thr c) 0 W) ∗ ((thr c).loc main_arg0 ↦{q} tb) ∗ owns (thr c) xs fullShare X
    ∗ owns (thr c) b1 fullShare B1 ∗ owns (thr c) b2 fullShare B2 ∗ owns (thr c) o fullShare O)) ?_ ?_ ?_
  rotate_left
  · intro h hK
    have h0 := ((cond2_iff i _ _).mp h).2
    unfold InUse.started
    rw [if_pos h0]
    unfold InUse.waited at hK
    rw [if_pos h0] at hK
    exact wait_step c w1 w2 (s := u.s) (e := u.e) rfl rfl rfl rfl hK
  · intro h
    have h0 : ¬ firstW tb i = 1#32 := fun h0 => h ((cond2_iff i _ _).mpr ⟨u.live, h0⟩)
    unfold InUse.started InUse.waited
    rw [if_neg h0, if_neg h0]
  -- the next expert's start, run by the first tile of an expert if there is another one
  refine branch_step c (P' := iprop(u.after c w1 w2 ∗ (∃ W, owes (thr c) 0 W) ∗ ((thr c).loc main_arg0 ↦{q} tb) ∗ owns (thr c) xs fullShare X
    ∗ owns (thr c) b1 fullShare B1 ∗ owns (thr c) b2 fullShare B2 ∗ owns (thr c) o fullShare O)) ?_ ?_ ?_
  rotate_left
  · intro h hK
    obtain ⟨⟨-, h0⟩, hn⟩ := (cond3_iff i _ _ _ _).mp h
    unfold InUse.waited
    rw [if_pos h0]
    have ha : u.after c w1 w2 = Ahead c w1 w2 u.s u.e u.s' u.e' := if_neg fun he => hn (u.e_eq.mp he)
    refine start_held c w1 w2 (s := u.s) (e := u.e) (s' := u.s') (e' := u.e') rfl rfl rfl rfl ?_
    rw [← ha]
    exact hK
  · intro h
    unfold InUse.waited
    by_cases h0 : firstW tb i = 1#32
    · have hn : nextW tb i = expertW tb i := by
        by_contra hn
        exact h ((cond3_iff i _ _ _ _).mpr ⟨⟨u.live, h0⟩, hn⟩)
      rw [if_pos h0]
      unfold InUse.after After
      rw [if_pos (u.e_eq.mpr hn)]
    · rw [if_neg h0]
  -- the product
  refine branch_step c (P' := iprop(u.after c w1 w2 ∗ (∃ W, owes (thr c) 0 W) ∗ ((thr c).loc main_arg0 ↦{q} tb) ∗ owns (thr c) xs fullShare X
    ∗ owns (thr c) b1 fullShare B1 ∗ owns (thr c) b2 fullShare B2 ∗ owns (thr c) o fullShare (u.product w1 w2 X B1 B2))) ?_ ?_ ?_
  · refine ret_step c ?_
    iintro ⟨HA, HO, HT, HR⟩
    isplitl [HT]; · iexact HT
    isplitl [HA]; · iexact HA
    isplitl [HO]; · iexact HO
    iexact HR
  · intro h hK
    unfold InUse.after at hK ⊢
    iintro ⟨HA, HO, HT, HX, H1, H2, HOut⟩
    iapply (win_load c (fun a => by fin_cases a <;> rfl)) $$ HX
    iintro HX
    iapply (slot_get1 c w1 w2 (s := u.s) (e := u.e) (s' := u.s') (e' := u.e') u.s_ne (o := k0_off15 (slotW tb i)) rfl) $$ HA
    iintro HA
    iapply (win_load c (fun a => by fin_cases a <;> rfl)) $$ H1
    iintro H1
    iapply (slot_get2 c w1 w2 (s := u.s) (e := u.e) (s' := u.s') (e' := u.e') u.s_ne (o := k0_off16 (slotW tb i)) rfl) $$ HA
    iintro HA
    iapply (win_load c (fun a => by fin_cases a <;> rfl)) $$ H2
    iintro H2
    iapply (win_load c (fun a => by fin_cases a <;> rfl)) $$ HOut
    iintro HOut
    iapply (win_store c (fun a => by fin_cases a <;> rfl)) $$ HOut
    iintro HOut
    iapply hK
    isplitl [HA]; · iexact HA
    isplitl [HO]; · iexact HO
    isplitl [HT]; · iexact HT
    isplitl [HX]; · iexact HX
    isplitl [H1]; · iexact H1
    isplitl [H2]; · iexact H2
    iexact HOut
  · intro h
    exact absurd ((cond4_iff i _).mpr u.live) h

/-- The body of a tile that is not in use: it does nothing. -/
theorem body_unused {q : PosShare TreeShare} (hl : ¬ Live i (usedW tb)) (xs : Memref sig .tc .vmem S256x1024 .f32) (hxs : xs.IsWhole)
    (b1 : Memref sig .tc .vmem S1x1x2048 .f32) (hb1 : b1.IsWhole) (b2 : Memref sig .tc .vmem S1x1x1024 .f32) (hb2 : b2.IsWhole)
    (o : Memref sig .tc .vmem S256x1024 .f32) (ho : o.IsWhole) {g0 g1 g2 g3 g4} {R : sProp 𝕄} :
    iprop(((thr c).loc main_arg0 ↦{q} tb) ∗ R)
      ⊢ wpX c (cc0__ffn_kernel_skel i (Memref.whole main_arg0) g0 xs hxs w1M g1 b1 hb1 w2M g2 b2 hb2 o ho b1M g3 b2M g4 cc0_scratch2) fun _ =>
        iprop(((thr c).loc main_arg0 ↦{q} tb) ∗ R) := by
  have n1 : ¬ k0_cond1 i (usedW tb) = 1#1 := fun h => hl ((cond1_iff i _).mp h).1
  have n2 : ¬ k0_cond2 i (firstW tb i) (usedW tb) = 1#1 := fun h => hl ((cond2_iff i _ _).mp h).1
  have n3 : ¬ k0_cond3 i (expertW tb i) (firstW tb i) (nextW tb i) (usedW tb) = 1#1 := fun h => hl ((cond3_iff i _ _ _ _).mp h).1.1
  have n4 : ¬ k0_cond4 i (usedW tb) = 1#1 := fun h => hl ((cond4_iff i _).mp h)
  have chk : k0_chk1 i (expertW tb i) (slotW tb i) (firstW tb i) (nextW tb i) (usedW tb) :=
    ⟨fun h => absurd h n1, fun h => absurd h n1, fun h => absurd h n1, fun h => absurd h n1, fun h => absurd h n2, fun h => absurd h n2,
      fun h => absurd h n2, fun h => absurd h n2, fun h => absurd h n3, fun h => absurd h n3, fun h => absurd h n3, fun h => absurd h n3,
      fun h => absurd h n4, fun h => absurd h n4⟩
  unfold cc0__ffn_kernel_skel
  refine word_step c (pos i 0) (off1_at i) (word_step c (pos i 1) (off2_at i _ 1 rfl) (word_step c (pos i 2) (off2_at i _ 2 rfl)
    (word_step c (pos i 3) (off2_at i _ 3 rfl) (word_step c (96 : Fin 97) rfl (assume_step c chk ?_)))))
  refine branch_step c ?_ (fun h => absurd h n1) (fun _ => .rfl)
  refine branch_step c ?_ (fun h => absurd h n2) (fun _ => .rfl)
  refine branch_step c ?_ (fun h => absurd h n3) (fun _ => .rfl)
  refine branch_step c ?_ (fun h => absurd h n4) (fun _ => .rfl)
  exact ret_step c .rfl

end Cert.Proof.Experts

end
-- ==== Proof.ExpertsTiles.lean ====
/-
  THE EXPERTS' CALL: FROM ONE TILE TO THE NEXT. What the call asks of its table, and with it the state of the weights between two
  tiles: before the first tile, and after a tile that is not in use, no copy is in flight; after a tile in use its expert's
  weights are in its slot and the next expert's, if that is another one, are on their way to the other slot.
-/
module

public import proofs.«01_k».proof.Proof.ExpertsBody

@[expose] public section

noncomputable section

namespace Cert.Proof.Experts

open Cert.ExpertsIdeal Cert.ExpertsIdeal.Gen

open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UX ℕ

/-- What the call asks of its table. A tile is named by its grid coordinate; `j` follows `i` where its number is one greater. -/
structure Tiles (tb : Vec F S97 .i32) : Prop where
  expert : ∀ i : grid0.Coords, (expertW tb i).toNat < 8
  next : ∀ i : grid0.Coords, (nextW tb i).toNat < 8
  slot : ∀ i : grid0.Coords, slotW tb i = 0#32 ∨ slotW tb i = 1#32
  start : ∀ i : grid0.Coords, (i 0).val = 0 → Live i (usedW tb) → firstW tb i = 1#32
  step : ∀ i j : grid0.Coords, (j 0).val = (i 0).val + 1 → Live j (usedW tb) →
    (firstW tb j ≠ 1#32 ∧ expertW tb j = expertW tb i ∧ slotW tb j = slotW tb i ∧ nextW tb j = nextW tb i)
      ∨ (firstW tb j = 1#32 ∧ expertW tb j = nextW tb i ∧ slotW tb j = Scalar.subi 1#32 (slotW tb i) ∧ nextW tb i ≠ expertW tb i)
  stop : ∀ i j : grid0.Coords, (j 0).val = (i 0).val + 1 → Live i (usedW tb) → ¬ Live j (usedW tb) → nextW tb i = expertW tb i
  last : ∀ i : grid0.Coords, (i 0).val = 23 → Live i (usedW tb) → nextW tb i = expertW tb i

/-- Tile `i` is in use exactly where its first row's number is below the number of used rows. -/
theorem live_iff (i : grid0.Coords) (total : BitVec 32) : Live i total ↔ ((256 * (i 0).val : ℕ) : ℤ) < total.toInt := by
  have hi : (i 0).val < 24 := (i 0).isLt
  have e : (BitVec.ofNat 32 (i 0).val * 256#32).toInt = ((256 * (i 0).val : ℕ) : ℤ) := by
    have hn : (BitVec.ofNat 32 (i 0).val * 256#32).toNat = 256 * (i 0).val := by
      rw [BitVec.toNat_mul, BitVec.toNat_ofNat, BitVec.toNat_ofNat]; omega
    rw [BitVec.toInt_eq_toNat_of_lt (by rw [hn]; omega), hn]
  have h : Live i total ↔ (BitVec.ofNat 32 (i 0).val * 256#32).slt total = true := StableHlo.Predicate.ofBool_eq_one_iff _
  rw [h, BitVec.slt_eq_decide, decide_eq_true_iff, e]

theorem live_of_next {i j : grid0.Coords} (hij : (j 0).val = (i 0).val + 1) {total : BitVec 32} (h : Live j total) : Live i total := by
  rw [live_iff] at h ⊢
  rw [hij] at h
  push_cast at h ⊢
  omega

variable {tb : Vec F S97 .i32} (T : Tiles tb)

include T in
theorem Tiles.use (i : grid0.Coords) (h : Live i (usedW tb)) : InUse tb i where
  live := h
  expert := T.expert i
  slot := by rcases T.slot i with e | e <;> rw [e] <;> decide
  other := by rcases T.slot i with e | e <;> rw [e] <;> decide
  apart := by rcases T.slot i with e | e <;> rw [e] <;> decide
  next := T.next i
  first h0 := T.start i h0 h

variable (c : Dev nD) (w1 : FVec F S8x1024x2048 .f32) (w2 : FVec F S8x2048x1024 .f32)

open Classical in
/-- The weights after tile `i`. -/
def Tiles.past (i : grid0.Coords) : sProp 𝕄 := if h : Live i (usedW tb) then (T.use i h).after c w1 w2 else Idle c w1 w2

theorem Tiles.past_live {i : grid0.Coords} (h : Live i (usedW tb)) : T.past c w1 w2 i = (T.use i h).after c w1 w2 := dif_pos h
theorem Tiles.past_dead {i : grid0.Coords} (h : ¬ Live i (usedW tb)) : T.past c w1 w2 i = Idle c w1 w2 := dif_neg h

/-- A tile whose expert is the last one leaves no copy in flight. -/
theorem InUse.after_idle {i : grid0.Coords} (u : InUse tb i) (hn : nextW tb i = expertW tb i) : u.after c w1 w2 ⊢ Idle c w1 w2 := by
  unfold InUse.after After
  rw [if_pos (u.e_eq.mpr hn)]
  exact held_idle c w1 w2 u.s u.e

theorem Tiles.past_last {i : grid0.Coords} (hi : (i 0).val = 23) : T.past c w1 w2 i ⊢ Idle c w1 w2 := by
  by_cases h : Live i (usedW tb)
  · rw [T.past_live c w1 w2 h]
    exact (T.use i h).after_idle c w1 w2 (T.last i hi h)
  · rw [T.past_dead c w1 w2 h]

/-- What a tile leaves is no copy in flight for a tile after it that is not in use. -/
theorem Tiles.past_stop {i j : grid0.Coords} (hij : (j 0).val = (i 0).val + 1) (hj : ¬ Live j (usedW tb)) : T.past c w1 w2 i ⊢ Idle c w1 w2 := by
  by_cases h : Live i (usedW tb)
  · rw [T.past_live c w1 w2 h]
    exact (T.use i h).after_idle c w1 w2 (T.stop i j hij h hj)
  · rw [T.past_dead c w1 w2 h]

/-- The state after a tile depends on the words of the tile alone. -/
theorem after_congr {s s₁ : Fin 2} {e e₁ : Fin 8} {s' s₁' : Fin 2} {e' e₁' : Fin 8} (h1 : s = s₁) (h2 : e = e₁) (h3 : s' = s₁') (h4 : e' = e₁') :
    After c w1 w2 s e s' e' = After c w1 w2 s₁ e₁ s₁' e₁' := by rw [h1, h2, h3, h4]

/-- What a tile leaves is what a tile after it that is in use asks for. -/
theorem Tiles.past_next {i j : grid0.Coords} (hij : (j 0).val = (i 0).val + 1) (hj : Live j (usedW tb)) :
    T.past c w1 w2 i ⊢ (T.use j hj).before c w1 w2 := by
  rw [T.past_live c w1 w2 (live_of_next hij hj)]
  unfold InUse.before InUse.started
  rw [if_neg (by omega : ¬ (j 0).val = 0)]
  rcases T.step i j hij hj with ⟨hf, he, hs, hn⟩ | ⟨hf, he, hs, hn⟩
  · rw [if_neg hf]
    unfold InUse.after
    rw [after_congr c w1 w2 (s₁ := (T.use j hj).s) (e₁ := (T.use j hj).e) (s₁' := (T.use j hj).s') (e₁' := (T.use j hj).e')
      (Fin.ext (congrArg BitVec.toNat hs.symm)) (Fin.ext (congrArg BitVec.toNat he.symm))
      (Fin.ext (congrArg (fun x => (Scalar.subi 1#32 x).toNat) hs.symm)) (Fin.ext (congrArg BitVec.toNat hn.symm))]
  · rw [if_pos hf]
    unfold InUse.after After
    rw [if_neg fun h => hn ((T.use i (live_of_next hij hj)).e_eq.mp h)]
    have a : (T.use j hj).s = (T.use i (live_of_next hij hj)).s' := Fin.ext (by
      show (slotW tb j).toNat = (Scalar.subi 1#32 (slotW tb i)).toNat
      rw [hs])
    have b : (T.use j hj).e = (T.use i (live_of_next hij hj)).e' := Fin.ext (by
      show (expertW tb j).toNat = (nextW tb i).toNat
      rw [he])
    rw [a, b]
    exact ahead_coming c w1 w2 _ _ _ _

/-- The first tile, in use, finds no copy in flight. -/
theorem Tiles.before_first {j : grid0.Coords} (h0 : (j 0).val = 0) (hj : Live j (usedW tb)) : (T.use j hj).before c w1 w2 = Idle c w1 w2 := by
  unfold InUse.before
  rw [if_pos h0]

end Cert.Proof.Experts

end
-- ==== Proof.ExpertsLaunch.lean ====
/-
  THE EXPERTS' CALL: THE LAUNCH. What the pipeline hands the body at each tile, the state kept between the tiles, and the run of
  the whole call: its arguments are left as they were, and each tile in use writes its product to its rows of the result.
-/
module

public import proofs.«01_k».proof.Proof.ExpertsTiles
public import Idealize.ShloMosaic.Lib.Pipeline.Frame
public import Idealize.ShloMosaic.Lib.Pipeline.FrameBody
public import Idealize.ShloMosaic.Lib.Pipeline.DatRel

@[expose] public section

noncomputable section

namespace Cert.Proof.Experts

open Cert.ExpertsIdeal Cert.ExpertsIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F] [∀ e, Nonempty (Elt F e)]

local notation "𝕄" => MT nD τ sig Unit (Elt F) ℕ UX ℕ

variable (m : (ℓ : Loc nD τ sig) → Buf (Elt F) ℓ) (ρ : Dev nD → PrngReg)

/-! ## The memory when the region is entered -/

abbrev V (c : Dev nD) (b : Ref sig .tc) : Buf (Elt F) ((thr c).loc b) := StableHlo.after hostOps0 (fun b => m (c, b)) b

theorem hostOps0_fresh : (hostOps0 : List (HloOp τ sig (Elt F))).Forall fun op => op.fresh = ∅ := by
  simp only [List.Forall]; repeat' constructor

/-- A buffer that neither reshape writes is as launched. -/
theorem V_kept (c : Dev nD) (b : Ref sig .tc) (h0 : b ≠ main_v0) (h1 : b ≠ main_v1) : V m c b = m (c.tc.loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-- The table's words when the region is entered; the call runs on one device. -/
def tbl : pre0.Contents (Elt F) := fun k => V m (0 : Dev nD) (pre0.ref k)
abbrev words : Vec F S97 .i32 := V m (0 : Dev nD) main_arg0

theorem V_pre (c : Dev nD) (k : Fin 1) : V m c (pre0.ref k) = tbl m k := by
  obtain rfl : c = 0 := Subsingleton.elim _ _
  rfl

variable (hO : ok0 (tbl m))

abbrev adm : (p : Fin 1) → (pcfgs (F := F) p).Adm := fun _ => ⟨tbl m, hO⟩
abbrev cfgM : Pipeline.Cfg sig Λ₀ := cfg0 (⟨tbl m, hO⟩ : (pcfg0 (F := F)).Adm)

theorem tile_val : ∀ t : Fin grid0.N, (grid0.coords t 0).val = t.val := by decide

/-! ## The call's own semaphore, and the weights it copies itself -/

abbrev osem0 : Fin 1 → SemLoc sig := fun _ => SemLoc.dma 8
theorem ownSemFacts0 : Pipeline.OwnSemFacts spec0 osem0 := by decide
theorem ownSems00_eq (c : Dev nD) :
    (Pipeline.ownSems0 (Ix := Unit) (Name := ℕ) (U := UX) (Lvl := ℕ) (Val := Elt F) (τ := τ) osem0 c : sProp 𝕄) = iprop(semVal (thr c, pairSem) 0) := by
  rw [Pipeline.ownSems0_eq_of_list c osem0 [0] (by decide) (by decide)]; rfl

def H0 : Finset (Ref sig .tc) := {main_arg2, main_arg4}
theorem H0_sub : H0 ⊆ Pipeline.restRefsP sig pre0 spec0 := by decide
theorem weights_eq (c : Dev nD) : (bigSep H0 (fun b => (c.tc.loc b) ↦{fullShare} V m c b) : sProp 𝕄)
    = iprop((w1M.view.loc (thr c) ↦{fullShare} V m c main_arg2) ∗ (w2M.view.loc (thr c) ↦{fullShare} V m c main_arg4)) := by
  rw [BI.bigSep_eq_bigSepL_of_eq [main_arg2, main_arg4] (by decide) (by decide)]; rfl

/-- What the region hands the body, and what the body hands back: no copy in flight. -/
theorem rest_idle (c : Dev nD) : (Pipeline.ΦD osem0 spec0 H0 (V m) c : sProp 𝕄)
    ⊣⊢ iprop(Idle c (V m c main_arg2) (V m c main_arg4) ∗ ∃ r, prngReg c r) := by
  rw [Pipeline.ΦD_eq, scopedRest0_eq, ownSems00_eq, weights_eq]
  unfold Idle Still
  constructor
  · iintro ⟨⟨⟨%f1, H1⟩, ⟨%f2, H2⟩⟩, Hr, Hs, Hw1, Hw2⟩
    isplitr [Hr]
    · iexists f1, f2
      isplitl [Hs]; · iexact Hs
      isplitl [H1]; · iexact H1
      isplitl [H2]; · iexact H2
      isplitl [Hw1]; · iexact Hw1
      iexact Hw2
    · iexact Hr
  · iintro ⟨⟨%f1, %f2, Hs, H1, H2, Hw1, Hw2⟩, Hr⟩
    isplitl [H1 H2]
    · isplitl [H1]
      · iexists f1; iexact H1
      · iexists f2; iexact H2
    isplitl [Hr]; · iexact Hr
    isplitl [Hs]; · iexact Hs
    isplitl [Hw1]; · iexact Hw1
    iexact Hw2

theorem tables_eq (c : Dev nD) : (Pipeline.ΦT pre0 (tbl m) c : sProp 𝕄) = iprop((thr c).loc main_arg0 ↦{fullShare.right} words m) := by
  unfold Pipeline.ΦT Pipeline.prefHeld
  rw [show (Finset.univ : Finset (Fin 1)) = {(0 : Fin 1)} from by decide, bigSep_singleton]
  rfl

/-! ## What the body is handed -/

variable (T : Tiles (words m))

/-- The window's block at the tile. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The state of the weights before tile `t`, the first `t` tiles done. -/
def between (c : Dev nD) (t : Fin ((cfgM m hO).N + 1)) : sProp 𝕄 :=
  Fin.cases (motive := fun _ => sProp 𝕄) (Idle c (V m c main_arg2) (V m c main_arg4))
    (fun t => T.past c (V m c main_arg2) (V m c main_arg4) (grid0.coords t)) t

def dats (c : Dev nD) : Dat τ (Elt F) Unit ℕ UX ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => Dat.unnamed (cfg := cfgM m hO) 3 t
  Φ t := iprop(((thr c).loc main_arg0 ↦{fullShare.right} words m) ∗ between m hO T c t ∗ ∃ r, prngReg c r)
  q _ := fullShare
  owed _ := 0

theorem A_eq (c : Dev nD) (w : Fin (cfgM m hO).W) : (dats m hO T c).A w = V m c (Pipeline.arrRef spec0 w) := by dsimp only [dats]

theorem after_0 (c : Dev nD) (t : Fin (cfgM m hO).N) : (dats m hO T c).after 0 t = iblk m hO c 0 t := by dsimp only [dats]; rfl
theorem after_1 (c : Dev nD) (t : Fin (cfgM m hO).N) : (dats m hO T c).after 1 t = iblk m hO c 1 t := by dsimp only [dats]; rfl
theorem after_2 (c : Dev nD) (t : Fin (cfgM m hO).N) : (dats m hO T c).after 2 t = iblk m hO c 2 t := by dsimp only [dats]; rfl

/-- An input's staging buffer holds its block at every tile. -/
theorem before_0 (c : Dev nD) (t : Fin (cfgM m hO).N) (d) : (dats m hO T c).before 0 t d = iblk m hO c 0 t :=
  ((dats m hO T c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin (cfgM m hO).N) (d) : (dats m hO T c).before 1 t d = iblk m hO c 1 t :=
  ((dats m hO T c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin (cfgM m hO).N) (d) : (dats m hO T c).before 2 t d = iblk m hO c 2 t :=
  ((dats m hO T c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)

/-- The result's window is the one whose contents are not named at every tile. -/
def loose : Fin 4 → Bool := ![false, false, false, true]

/-- What a tile in use leaves in the result's window: the product of its rows. -/
def Product (c : Dev nD) (t : Fin (cfgM m hO).N) (X : Vec F S256x1024 .f32) : Prop :=
  ∀ h : Live (grid0.coords t) (usedW (words m)),
    X = (T.use (grid0.coords t) h).product (V m c main_arg2) (V m c main_arg4) (iblk m hO c 0 t) (iblk m hO c 1 t) (iblk m hO c 2 t)

def Left (c : Dev nD) (w : Fin (cfgM m hO).W) (t : Fin (cfgM m hO).N) : (((cfgM m hO).win w).block.Idx → Elt F ((cfgM m hO).win w).elt) → Prop :=
  match w with
  | ⟨3, _⟩ => fun X => Product m hO T c t X
  | _ => fun _ => True

/-! ## The body at a tile -/

theorem between_succ (c : Dev nD) (t : Fin (cfgM m hO).N) :
    between m hO T c t.succ = T.past c (V m c main_arg2) (V m c main_arg4) (grid0.coords t) := rfl

theorem between_live (c : Dev nD) (t : Fin (cfgM m hO).N) (h : Live (grid0.coords t) (usedW (words m))) :
    between m hO T c t.castSucc ⊢ (T.use (grid0.coords t) h).before c (V m c main_arg2) (V m c main_arg4) := by
  obtain ⟨k, hk⟩ := t
  cases k with
  | zero =>
    rw [T.before_first c _ _ (tile_val ⟨0, hk⟩) h]
    exact .rfl
  | succ k =>
    exact T.past_next c _ _ (i := grid0.coords ⟨k, Nat.lt_of_succ_lt hk⟩) ((tile_val ⟨k + 1, hk⟩).trans (by rw [tile_val])) h

theorem between_dead (c : Dev nD) (t : Fin (cfgM m hO).N) (h : ¬ Live (grid0.coords t) (usedW (words m))) :
    between m hO T c t.castSucc ⊢ Idle c (V m c main_arg2) (V m c main_arg4) := by
  obtain ⟨k, hk⟩ := t
  cases k with
  | zero => exact .rfl
  | succ k =>
    exact T.past_stop c _ _ (i := grid0.coords ⟨k, Nat.lt_of_succ_lt hk⟩) ((tile_val ⟨k + 1, hk⟩).trans (by rw [tile_val])) h

abbrev st0 (t : Fin (cfgM m hO).N) : Memref sig .tc .vmem S256x1024 .f32 := ((cfgM m hO).win 0).stage ((cfgM m hO).slots t 0)
abbrev st1 (t : Fin (cfgM m hO).N) : Memref sig .tc .vmem S1x1x2048 .f32 := ((cfgM m hO).win 1).stage ((cfgM m hO).slots t 1)
abbrev st2 (t : Fin (cfgM m hO).N) : Memref sig .tc .vmem S1x1x1024 .f32 := ((cfgM m hO).win 2).stage ((cfgM m hO).slots t 2)
abbrev st3 (t : Fin (cfgM m hO).N) : Memref sig .tc .vmem S256x1024 .f32 := ((cfgM m hO).win 3).stage ((cfgM m hO).slots t 3)

abbrev bodyAt (t : Fin (cfgM m hO).N) : Prog (TpuEff nD τ sig (Elt F) Λ₀ .tc) PUnit :=
  cc0__ffn_kernel_skel (grid0.coords t) (Memref.whole main_arg0) (Memref.isWhole_whole _) (st0 m hO t) (hstage0_0 (((cfgM m hO).slots t 0).cast nbuf0_0))
    w1M (Memref.isWhole_whole _) (st1 m hO t) (hstage0_1 (((cfgM m hO).slots t 1).cast nbuf0_1)) w2M (Memref.isWhole_whole _) (st2 m hO t)
    (hstage0_2 (((cfgM m hO).slots t 2).cast nbuf0_2)) (st3 m hO t) (hstage0_3 (((cfgM m hO).slots t 3).cast nbuf0_3)) b1M (Memref.isWhole_whole _)
    b2M (Memref.isWhole_whole _) cc0_scratch2

theorem body_row (t : Fin (cfgM m hO).N) : defs₀ (F := F) .tc (cfgM m hO).body ((cfgM m hO).bodyArgs t ((cfgM m hO).slots t)) = bodyAt m hO t := by
  unfold defs₀; rw [Defs.onTc_tc]
  rw [cc0__ffn_kernel_eq_skeleton]; rfl

/-- The body at a tile, between the states before and after it. -/
theorem body_at (c : Dev nD) (t : Fin (cfgM m hO).N) :
    iprop((dats m hO T c).Φ t.castSucc ∗ (dats m hO T c).owesAt () t.castSucc
        ∗ (∃ d, owns (thr c) (st0 m hO t) fullShare ((dats m hO T c).before 0 t d)) ∗ (∃ d, owns (thr c) (st1 m hO t) fullShare ((dats m hO T c).before 1 t d))
        ∗ (∃ d, owns (thr c) (st2 m hO t) fullShare ((dats m hO T c).before 2 t d))
        ∗ (∃ Y, ⌜((dats m hO T c).toRRel loose (Left m hO T c)).Finds 3 t Y⌝ ∗ owns (thr c) (st3 m hO t) fullShare Y))
      ⊢ wpX c (bodyAt m hO t) fun _ =>
        iprop((dats m hO T c).Φ t.succ ∗ (dats m hO T c).owesAt () t.succ
          ∗ owns (thr c) (st0 m hO t) fullShare ((dats m hO T c).after 0 t) ∗ owns (thr c) (st1 m hO t) fullShare ((dats m hO T c).after 1 t)
          ∗ owns (thr c) (st2 m hO t) fullShare ((dats m hO T c).after 2 t)
          ∗ (∃ X, ⌜Left m hO T c 3 t X⌝ ∗ owns (thr c) (st3 m hO t) fullShare X)) := by
  simp only [before_0, before_1, before_2]
  rw [after_0, after_1, after_2,
    show (dats m hO T c).Φ t.castSucc = iprop(((thr c).loc main_arg0 ↦{fullShare.right} words m) ∗ between m hO T c t.castSucc ∗ ∃ r, prngReg c r) from rfl,
    show (dats m hO T c).Φ t.succ = iprop(((thr c).loc main_arg0 ↦{fullShare.right} words m)
      ∗ T.past c (V m c main_arg2) (V m c main_arg4) (grid0.coords t) ∗ ∃ r, prngReg c r) from rfl]
  unfold Dat.owesAt Pipeline.owesWithin
  rw [show (dats m hO T c).owed t.castSucc = 0 from rfl, show (dats m hO T c).owed t.succ = 0 from rfl]
  by_cases h : Live (grid0.coords t) (usedW (words m))
  · rw [T.past_live c _ _ h]
    iintro ⟨⟨HT, HB, HP⟩, ⟨%W, -, HO⟩, ⟨%d0, H0⟩, ⟨%d1, H1⟩, ⟨%d2, H2⟩, ⟨%Y, -, H3⟩⟩
    iapply (wp_wand_r frame _ _)
    isplitl [HT HB HO H0 H1 H2 H3]
    · iapply (body_used c (V m c main_arg2) (V m c main_arg4) (T.use (grid0.coords t) h) (q := fullShare.right)
        (st0 m hO t) (hstage0_0 (((cfgM m hO).slots t 0).cast nbuf0_0)) (st1 m hO t) (hstage0_1 (((cfgM m hO).slots t 1).cast nbuf0_1))
        (st2 m hO t) (hstage0_2 (((cfgM m hO).slots t 2).cast nbuf0_2)) (st3 m hO t) (hstage0_3 (((cfgM m hO).slots t 3).cast nbuf0_3))
        (g0 := Memref.isWhole_whole _) (g1 := Memref.isWhole_whole _) (g2 := Memref.isWhole_whole _) (g3 := Memref.isWhole_whole _)
        (g4 := Memref.isWhole_whole _) (iblk m hO c 0 t) Y (iblk m hO c 1 t) (iblk m hO c 2 t))
      isplitl [HT]; · iexact HT
      isplitl [HB]; · iapply (between_live m hO T c t h); iexact HB
      isplitl [HO]; · iexists W; iexact HO
      isplitl [H0]; · iexact H0
      isplitl [H1]; · iexact H1
      isplitl [H2]; · iexact H2
      iexact H3
    iintro %_ ⟨HT, HB, ⟨%W', HO⟩, H0, H1, H2, H3⟩
    isplitl [HT HB HP]
    · isplitl [HT]; · iexact HT
      isplitl [HB]; · iexact HB
      iexact HP
    isplitl [HO]
    · iexists W'; isplitr; · ipureintro; exact fun _ _ => Or.inl trivial
      iexact HO
    isplitl [H0]; · iexact H0
    isplitl [H1]; · iexact H1
    isplitl [H2]; · iexact H2
    iexists _; isplitr
    swap; · iexact H3
    ipureintro; exact fun _ => rfl
  · rw [T.past_dead c _ _ h]
    iintro ⟨⟨HT, HB, HP⟩, ⟨%W, -, HO⟩, ⟨%d0, H0⟩, ⟨%d1, H1⟩, ⟨%d2, H2⟩, ⟨%Y, -, H3⟩⟩
    iapply (wp_wand_r frame _ _)
    isplitl [HT]
    · iapply (body_unused c h (q := fullShare.right) (R := iprop(emp))
        (st0 m hO t) (hstage0_0 (((cfgM m hO).slots t 0).cast nbuf0_0)) (st1 m hO t) (hstage0_1 (((cfgM m hO).slots t 1).cast nbuf0_1))
        (st2 m hO t) (hstage0_2 (((cfgM m hO).slots t 2).cast nbuf0_2)) (st3 m hO t) (hstage0_3 (((cfgM m hO).slots t 3).cast nbuf0_3))
        (g0 := Memref.isWhole_whole _) (g1 := Memref.isWhole_whole _) (g2 := Memref.isWhole_whole _) (g3 := Memref.isWhole_whole _)
        (g4 := Memref.isWhole_whole _))
      isplitl [HT]; · iexact HT
      ipureintro; trivial
    iintro %_ ⟨HT, -⟩
    isplitl [HT HB HP]
    · isplitl [HT]; · iexact HT
      isplitl [HB]; · iapply (between_dead m hO T c t h); iexact HB
      iexact HP
    isplitl [HO]
    · iexists W; isplitr; · ipureintro; exact fun _ _ => Or.inl trivial
      iexact HO
    isplitl [H0]; · iexact H0
    isplitl [H1]; · iexact H1
    isplitl [H2]; · iexact H2
    iexists Y; isplitr
    · ipureintro; exact fun h' => absurd h' h
    iexact H3

/-- The pipeline's body obligation, the result's window held to the product at the tiles in use. -/
theorem body_obligation (c : Dev nD) :
    BodyObligationRel (dats m hO T c) (defs₀ (F := F)) Variants.none () Set.univ loose (Left m hO T c) := fun t => by
  rw [bigSep_W0, bigSep_W0, body_row]
  exact triple_restated (body_at m hO T c t) rfl .rfl fun _ => .rfl

/-! ## The launch -/

theorem hmain : Pipeline.HMainP (Ix := Unit) (Name := ℕ) (U := UX) (Lvl := ℕ) (pcfgs (F := F)) 0 defs₀ Variants.none m (main (F := F)) (V m) :=
  Pipeline.hmainP_prefix pcfgs 0 defs₀ Variants.none m main hostOps0 hostOps0_sub hostOps0_fresh main_chain

/-- The data of the run: the result's window held to the product. -/
abbrev rdats (c : Dev nD) : RDat τ (Elt F) Unit ℕ UX ℕ (cfgM m hO) c := (dats m hO T c).toRRel loose (Left m hO T c)

theorem phi_in (c : Dev nD) : iprop(Pipeline.ΦD osem0 spec0 H0 (V m) c ∗ Pipeline.ΦT pre0 (tbl m) c) ⊢ (rdats m hO T c).Φ 0 := by
  have e : (rdats m hO T c).Φ 0 = iprop(((thr c).loc main_arg0 ↦{fullShare.right} words m)
      ∗ Idle c (V m c main_arg2) (V m c main_arg4) ∗ ∃ r, prngReg c r) := rfl
  rw [e, tables_eq]
  iintro ⟨HD, HT⟩
  ihave HD := (rest_idle m c).1 $$ HD
  icases HD with ⟨HI, HP⟩
  isplitl [HT]; · iexact HT
  isplitl [HI]; · iexact HI
  iexact HP

theorem phi_out (c : Dev nD) : (rdats m hO T c).Φ (Fin.last (cfgM m hO).N) ⊢ Pipeline.ΦD osem0 spec0 H0 (V m) c := by
  refine .trans ?_ (rest_idle m c).2
  have e : (rdats m hO T c).Φ (Fin.last (cfgM m hO).N) = iprop(((thr c).loc main_arg0 ↦{fullShare.right} words m)
      ∗ T.past c (V m c main_arg2) (V m c main_arg4) (grid0.coords ⟨23, by decide⟩) ∗ ∃ r, prngReg c r) := rfl
  rw [e]
  iintro ⟨-, HB, HP⟩
  isplitl [HB]
  · iapply (T.past_last c (V m c main_arg2) (V m c main_arg4) (tile_val ⟨23, by decide⟩)); iexact HB
  iexact HP

set_option backward.isDefEq.respectTransparency.types false in
theorem run_main : θ_run defs (onTc (τ := τ) (main (F := F))) ⟨m, fun _ => 0, ρ⟩
    (fun r => RDat.FramePost (cfgM m hO) (rdats m hO T) (V m) r ∧ r.2.sem = fun _ => 0) :=
  Pipeline.RDat.θ_run_frameP_dma (Q' := _) pcfgs (adm m hO) (0 : Fin 1) launch0 osem0 defs₀ Variants.none (rdats m hO T) ownSemFacts0 H0 H0_sub m ρ main
    (hbody := fun c => (body_obligation m hO T c).toRRel) (hshare := fun c => (dats m hO T c).share_full fun _ => rfl)
    (howed := fun _ _ => rfl) (V := V m) (hmain := hmain m) (hA := A_eq m hO T) (hpf := V_pre m)
    (hin := phi_in m hO T) (hout := phi_out m hO T)

end Cert.Proof.Experts

end
-- ==== Proof.ExpertsRun.lean ====
/-
  WHAT THE EXPERTS' LAUNCH LEAVES. A table of tiles names experts below 8, so the biases' blocks lie in their arrays and the launch
  may be run. It leaves every argument as it was, and in the result, at the rows of a tile in use, the product the tile computes,
  read of the arguments.
-/
module

public import proofs.«01_k».proof.Proof.ExpertsLaunch
public import Idealize.ShloMosaic.Lib.Pipeline.ArrRel
public import Idealize.ShloMosaic.Lib.IdealHost
public import Idealize.ShloMosaic.Lib.Pipeline.Value

@[expose] public section

noncomputable section

namespace Cert.Proof.Experts

open Cert.ExpertsIdeal Cert.ExpertsIdeal.Gen
open Idealize.ShloMosaic Idealize.ShloMosaic.TcCoe Idealize.ShloMosaic.ValueIdx Idealize.SL.Sem
open Idealize.ShloMosaic.Pipeline (Dat RDat)

variable {F : FTy → Type} [FloatOps F]

variable (m : (ℓ : Loc nD τ sig) → Buf (Elt F) ℓ) (ρ : Dev nD → PrngReg)

/-! ## The biases' blocks -/

/-- The word that places a tile's biases is its expert. -/
theorem bias1_at (i : grid0.Coords) : cc0_transform_2 k0_off1_inb numel1_S1 (tbl m) i = ![(expertW (words m) i).toNat, 0, 0] := by
  have h : (tbl m).at 0 (Rect.unit (s := S97) (k0_off1 i) S1.size (k0_off1_inb i)) numel1_S1 = expertW (words m) i :=
    congrArg (words m) (funext fun a => Fin.ext (by
      obtain rfl : a = (0 : Fin 1) := Subsingleton.elim (α := Fin 1) a 0
      show k0_off1 i 0 + 1 * (Shape.Idx.first (s := S1) (numel1_S1.symm ▸ Nat.one_pos) 0).val = (pos i 0).val
      have : (Shape.Idx.first (s := S1) (numel1_S1.symm ▸ Nat.one_pos) 0).val < 1 := Fin.isLt _
      rw [off1_at]; omega))
  exact congrArg (fun v : BitVec 32 => ![v.toNat, 0, 0]) h

theorem bias2_at (i : grid0.Coords) : cc0_transform_4 k0_off1_inb numel1_S1 (tbl m) i = ![(expertW (words m) i).toNat, 0, 0] :=
  bias1_at m i

theorem admits (T : Tiles (words m)) : ok0 (tbl m) := by
  refine ⟨fun i => ⟨fun a => ?_, Or.inl rfl⟩, fun i => ⟨fun a => ?_, Or.inl rfl⟩⟩
  · rw [bias1_at]
    have := T.expert i
    fin_cases a
    · show ((expertW (words m) i).toNat + 1) * 1 ≤ 8; omega
    · show (0 + 1) * 1 ≤ 1; omega
    · show (0 + 1) * 2048 ≤ 2048; omega
  · rw [bias2_at]
    have := T.expert i
    fin_cases a
    · show ((expertW (words m) i).toNat + 1) * 1 ≤ 8; omega
    · show (0 + 1) * 1 ≤ 1; omega
    · show (0 + 1) * 1024 ≤ 1024; omega

variable (hO : ok0 (tbl m)) (T : Tiles (words m))

/-! ## The arguments -/

variable {m hO T} in
/-- An argument after the run is as launched. -/
theorem kept {r : PUnit × MemSt nD τ sig (Elt F)} (h : RDat.FramePost (cfgM m hO) (rdats m hO T) (V m) r) (c : Dev nD) (b : Ref sig .tc)
    (hb : b ∈ Pipeline.restRefs sig spec0) (h0 : b ≠ main_v0) (h1 : b ≠ main_v1) : r.2.mem (c.tc.loc b) = m (c.tc.loc b) :=
  ((h c).2 b hb).trans (V_kept m c b h0 h1)

variable {m hO T} in
theorem args_kept {r : PUnit × MemSt nD τ sig (Elt F)} (h : RDat.FramePost (cfgM m hO) (rdats m hO T) (V m) r) (c : Dev nD) :
    r.2.mem (c.tc.loc main_arg0) = m (c.tc.loc main_arg0) ∧ r.2.mem (c.tc.loc main_arg1) = m (c.tc.loc main_arg1)
      ∧ r.2.mem (c.tc.loc main_arg2) = m (c.tc.loc main_arg2) ∧ r.2.mem (c.tc.loc main_arg3) = m (c.tc.loc main_arg3)
      ∧ r.2.mem (c.tc.loc main_arg4) = m (c.tc.loc main_arg4) ∧ r.2.mem (c.tc.loc main_arg5) = m (c.tc.loc main_arg5) := by
  refine ⟨kept h c main_arg0 ?_ ?_ ?_, (RDat.FramePost.arr_in h c 0 rfl).trans (V_kept m c main_arg1 ?_ ?_), kept h c main_arg2 ?_ ?_ ?_,
    kept h c main_arg3 ?_ ?_ ?_, kept h c main_arg4 ?_ ?_ ?_, kept h c main_arg5 ?_ ?_ ?_⟩
  all_goals first | decide | exact Pipeline.mem_restRefs_of _ (by decide) (by decide)

/-! ## The result at a tile in use -/

theorem out_index (t : Fin (cfgM m hO).N) : ((cfgM m hO).win 3).index t = ![t.val, 0] :=
  (by decide : ∀ t : Fin grid0.N, cc0_transform_5 (grid0.coords t) = ![t.val, 0]) t

theorem out_inj (t t' : Fin (cfgM m hO).N) (h : ((cfgM m hO).win 3).index t = ((cfgM m hO).win 3).index t') : t = t' := by
  rw [out_index, out_index] at h
  exact Fin.ext (congrFun h 0)

/-- Every tile writes its block back. -/
theorem out_flush (t : Fin (cfgM m hO).N) : ((cfgM m hO).win 3).flush t = true :=
  (by decide : ∀ t : Fin grid0.N, Pipeline.Window.flushOf grid0 true cc0_transform_5 t = true) t

theorem out_disjoint (t t' : Fin (cfgM m hO).N) (_ : ((cfgM m hO).win 3).flush t = true) (_ : ((cfgM m hO).win 3).flush t' = true) (hne : t ≠ t') :
    Disjoint (((cfgM m hO).win 3).blk t).view.set (((cfgM m hO).win 3).blk t').view.set :=
  ((cfgM m hO).win 3).disjoint_blk fun h => hne (out_inj m hO t t' h)

/-- Row `y` of tile `t`. -/
def rowOf (t : Fin grid0.N) (y : Fin 256) : Fin 6144 := ⟨t.val * 256 + y.val, by have : t.val < 24 := t.isLt; omega⟩

/-- A place of the tile's block, in the result. -/
theorem out_emb (t : Fin (cfgM m hO).N) (y : Fin 256) (z : Fin 1024) :
    (((cfgM m hO).win 3).blk t).view.emb (ix2 y z : S256x1024.Idx) = (ix2 (rowOf t y) z : S6144x1024.Idx) := by
  refine Shape.idx_ext₂ ?_ ?_
  · refine (((cfgM m hO).win 3).rect_emb_val_off t (ix2 y z : S256x1024.Idx) (0 : Fin 2)).trans ?_
    rw [out_index]; rfl
  · refine (((cfgM m hO).win 3).rect_emb_val_off t (ix2 y z : S256x1024.Idx) (1 : Fin 2)).trans ?_
    rw [out_index]; exact Nat.zero_add _

variable {m hO T} in
theorem result [∀ e, Nonempty (Elt F e)] {r : PUnit × MemSt nD τ sig (Elt F)} (h : RDat.FramePost (cfgM m hO) (rdats m hO T) (V m) r) (c : Dev nD)
    (t : Fin (cfgM m hO).N) (u : Live (grid0.coords t) (usedW (words m))) (y : Fin 256) (z : Fin 1024) :
    (r.2.mem (c.tc.loc main_v2) : Vec F S6144x1024 .f32) (ix2 (rowOf t y) z)
      = (T.use (grid0.coords t) u).product (V m c main_arg2) (V m c main_arg4) (iblk m hO c 0 t) (iblk m hO c 1 t) (iblk m hO c 2 t) (ix2 y z) := by
  obtain ⟨after, hl, hm⟩ := RDat.FramePost.exists_exact h c
  have hL : Product m hO T c t (after 3 t) := Dat.toRRel_leaves (dats m hO T c) (w := 3) rfl (hl 3 t (out_flush m hO t))
  have e := ((rdats m hO T c).withAfter after).arrAt_emb_eq_flushed 3 (out_disjoint m hO) t (out_flush m hO t) (ix2 y z : S256x1024.Idx)
  rw [← hm 3, out_emb] at e
  refine e.trans ?_
  rw [← hL u]
  rfl

/-! ## What the tile is handed, of the arguments -/

theorem rows_at (c : Dev nD) (t : Fin (cfgM m hO).N) (y : Fin 256) (k : Fin 1024) :
    (iblk m hO c 0 t : Vec F S256x1024 .f32) (ix2 y k) = (m (c.tc.loc main_arg1) : Vec F S6144x1024 .f32) (ix2 (rowOf t y) k) := by
  have hi : ((cfgM m hO).win 0).index t = ![t.val, 0] := out_index m hO t
  have he : (((cfgM m hO).win 0).blk t).view.emb (ix2 y k : S256x1024.Idx) = (ix2 (rowOf t y) k : S6144x1024.Idx) := by
    refine Shape.idx_ext₂ ?_ ?_
    · refine (((cfgM m hO).win 0).rect_emb_val_off t (ix2 y k : S256x1024.Idx) (0 : Fin 2)).trans ?_
      rw [hi]; rfl
    · refine (((cfgM m hO).win 0).rect_emb_val_off t (ix2 y k : S256x1024.Idx) (1 : Fin 2)).trans ?_
      rw [hi]; exact Nat.zero_add _
  show (V m c main_arg1 : Vec F S6144x1024 .f32) ((((cfgM m hO).win 0).blk t).view.emb (ix2 y k : S256x1024.Idx)) = _
  rw [he, V_kept m c main_arg1 (by decide) (by decide)]

/-- The biases, laid out one matrix of one row an expert before the launch. -/
theorem V_bias1 (c : Dev nD) : (V m c main_v0 : Vec F S8x1x2048 .f32) = shapeCast S8x1x2048 (m (c.tc.loc main_arg3) : Vec F S8x2048 .f32) shapeCasts_S8x2048_S8x1x2048 := by
  show StableHlo.after hostOps0 (fun b => m (c, b)) _ = _
  simp only [hostOps0]
  after_results_simp
  rfl

theorem V_bias2 (c : Dev nD) : (V m c main_v1 : Vec F S8x1x1024 .f32) = shapeCast S8x1x1024 (m (c.tc.loc main_arg5) : Vec F S8x1024 .f32) shapeCasts_S8x1024_S8x1x1024 := by
  show StableHlo.after hostOps0 (fun b => m (c, b)) _ = _
  simp only [hostOps0]
  after_results_simp
  rfl

/-- The expert of a tile. -/
def owner (i : grid0.Coords) : Fin 8 := ⟨(expertW (words m) i).toNat, T.expert i⟩

theorem bias1_row (c : Dev nD) (t : Fin (cfgM m hO).N) (j : Fin 2048) :
    (iblk m hO c 1 t : Vec F S1x1x2048 .f32) (ix3 (0 : Fin 1) (0 : Fin 1) j)
      = (m (c.tc.loc main_arg3) : Vec F S8x2048 .f32) (ix2 (owner m T (grid0.coords t)) j) := by
  have hi : ((cfgM m hO).win 1).index t = ![(expertW (words m) (grid0.coords t)).toNat, 0, 0] := bias1_at m (grid0.coords t)
  have he : (((cfgM m hO).win 1).blk t).view.emb (ix3 (0 : Fin 1) (0 : Fin 1) j : S1x1x2048.Idx)
      = (ix3 (owner m T (grid0.coords t)) (0 : Fin 1) j : S8x1x2048.Idx) := funext fun a => Fin.ext (by
    refine (((cfgM m hO).win 1).rect_emb_val_off t (ix3 (0 : Fin 1) (0 : Fin 1) j : S1x1x2048.Idx) a).trans ?_
    rw [hi]
    match a with
    | ⟨0, _⟩ => exact Nat.mul_one _
    | ⟨1, _⟩ => rfl
    | ⟨2, _⟩ => exact Nat.zero_add _)
  show (V m c main_v0 : Vec F S8x1x2048 .f32) ((((cfgM m hO).win 1).blk t).view.emb (ix3 (0 : Fin 1) (0 : Fin 1) j : S1x1x2048.Idx)) = _
  rw [he, V_bias1]
  refine shapeCast_apply (s := S8x2048) _ _ _ (ix2 (owner m T (grid0.coords t)) j : S8x2048.Idx) ?_
  rw [Shape.rowMajor_val_three, Shape.rowMajor_val_two]
  show (owner m T (grid0.coords t)).val * 2048 + j.val = ((owner m T (grid0.coords t)).val * 1 + 0) * 2048 + j.val
  omega

theorem bias2_row (c : Dev nD) (t : Fin (cfgM m hO).N) (z : Fin 1024) :
    (iblk m hO c 2 t : Vec F S1x1x1024 .f32) (ix3 (0 : Fin 1) (0 : Fin 1) z)
      = (m (c.tc.loc main_arg5) : Vec F S8x1024 .f32) (ix2 (owner m T (grid0.coords t)) z) := by
  have hi : ((cfgM m hO).win 2).index t = ![(expertW (words m) (grid0.coords t)).toNat, 0, 0] := bias2_at m (grid0.coords t)
  have he : (((cfgM m hO).win 2).blk t).view.emb (ix3 (0 : Fin 1) (0 : Fin 1) z : S1x1x1024.Idx)
      = (ix3 (owner m T (grid0.coords t)) (0 : Fin 1) z : S8x1x1024.Idx) := funext fun a => Fin.ext (by
    refine (((cfgM m hO).win 2).rect_emb_val_off t (ix3 (0 : Fin 1) (0 : Fin 1) z : S1x1x1024.Idx) a).trans ?_
    rw [hi]
    match a with
    | ⟨0, _⟩ => exact Nat.mul_one _
    | ⟨1, _⟩ => rfl
    | ⟨2, _⟩ => exact Nat.zero_add _)
  show (V m c main_v1 : Vec F S8x1x1024 .f32) ((((cfgM m hO).win 2).blk t).view.emb (ix3 (0 : Fin 1) (0 : Fin 1) z : S1x1x1024.Idx)) = _
  rw [he, V_bias2]
  refine shapeCast_apply (s := S8x1024) _ _ _ (ix2 (owner m T (grid0.coords t)) z : S8x1024.Idx) ?_
  rw [Shape.rowMajor_val_three, Shape.rowMajor_val_two]
  show (owner m T (grid0.coords t)).val * 1024 + z.val = ((owner m T (grid0.coords t)).val * 1 + 0) * 1024 + z.val
  omega

/-- The matrix the tile multiplies its rows by is its expert's. -/
theorem matrix1_at (w : Vec F S8x1024x2048 .f32) (e : Fin 8) (k : Fin 1024) (j : Fin 2048) :
    ((w1M.access (matR1 e)).read (Elt F) w : Vec F S1x1024x2048 .f32) (ix3 (0 : Fin 1) k j) = w (ix3 e k j) :=
  congrArg w (funext fun a => Fin.ext (by
    match a with
    | ⟨0, _⟩ => show e.val + 1 * 0 = e.val; omega
    | ⟨1, _⟩ => show 0 + 1 * k.val = k.val; omega
    | ⟨2, _⟩ => show 0 + 1 * j.val = j.val; omega))

theorem matrix2_at (w : Vec F S8x2048x1024 .f32) (e : Fin 8) (j : Fin 2048) (z : Fin 1024) :
    ((w2M.access (matR2 e)).read (Elt F) w : Vec F S1x2048x1024 .f32) (ix3 (0 : Fin 1) j z) = w (ix3 e j z) :=
  congrArg w (funext fun a => Fin.ext (by
    match a with
    | ⟨0, _⟩ => show e.val + 1 * 0 = e.val; omega
    | ⟨1, _⟩ => show 0 + 1 * j.val = j.val; omega
    | ⟨2, _⟩ => show 0 + 1 * z.val = z.val; omega))

end Cert.Proof.Experts

end
-- ==== Proof.ExpertsPay.lean ====
/-
  A TILE'S PRODUCT AND THE REFERENCE'S, AT A ROW AND A COLUMN: the two layers of one expert, the first cut off below zero, as sums of
  products.
-/
module

public import proofs.«01_k».proof.Proof.ExpertsRun
public import Idealize.ShloMosaic.Lib.ValueLayout
public import Idealize.ShloMosaic.Lib.MatmulPlain

@[expose] public section

noncomputable section

namespace Cert.Proof.Experts

open Cert.ExpertsIdeal Cert.ExpertsIdeal.Gen
open Idealize.ShloMosaic Idealize.ShloMosaic.TcCoe Idealize.ShloMosaic.ValueIdx Idealize.SL.Sem
open Idealize.ShloMosaic.Pipeline (Dat RDat)
open scoped BigOperators

/-- The two layers of expert `e` on a row, at column `z`. -/
def layers (x : FVec Ideal S6144x1024 .f32) (w1 : FVec Ideal S8x1024x2048 .f32) (c1 : FVec Ideal S8x2048 .f32) (w2 : FVec Ideal S8x2048x1024 .f32)
    (c2 : FVec Ideal S8x1024 .f32) (e : Fin 8) (p : Fin 6144) (z : Fin 1024) : EReal :=
  (∑ j : Fin 2048, max ((∑ k : Fin 1024, x (ix2 p k) * w1 (ix3 e k j)) + c1 (ix2 e j)) 0 * w2 (ix3 e j z)) + c2 (ix2 e z)

theorem shapeCast_row {n : ℕ} (v : FVec Ideal ⟨3, ![1, 1, n]⟩ .f32) (h : (⟨3, ![1, 1, n]⟩ : Shape).ShapeCasts ⟨2, ![1, n]⟩) (j : Fin n) :
    shapeCast ⟨2, ![1, n]⟩ v h (ix2 (0 : Fin 1) j) = v (ix3 (0 : Fin 1) (0 : Fin 1) j) :=
  shapeCast_1ab_ab_apply v h (0 : Fin 1) j

/-- The tile's stored value at a place. -/
theorem stored_at (X : FVec Ideal S256x1024 .f32) (A : FVec Ideal S1x1024x2048 .f32) (b : FVec Ideal S1x1x2048 .f32) (B : FVec Ideal S1x2048x1024 .f32)
    (d : FVec Ideal S1x1x1024 .f32) (y : Fin 256) (z : Fin 1024) :
    k0_pay1 (F := Ideal) X A b B d (ix2 y z)
      = (∑ j : Fin 2048, max ((∑ k : Fin 1024, X (ix2 y k) * A (ix3 (0 : Fin 1) k j)) + b (ix3 (0 : Fin 1) (0 : Fin 1) j)) 0 * B (ix3 (0 : Fin 1) j z))
        + d (ix3 (0 : Fin 1) (0 : Fin 1) z) := by
  dsimp only [k0_pay1]
  rw [addf_apply, broadcastTo_1b_ab_apply, shapeCast_row]
  refine congrArg (· + d (ix3 (0 : Fin 1) (0 : Fin 1) z)) ?_
  refine (Ideal.matmul_plain_apply none _ _ _ y z).trans ?_
  rw [show constant (F := Ideal) S256x1024 .f32 0x00000000#32 (ix2 y z) = 0 from Ideal.ofBits_zero_f32, zero_add]
  refine Finset.sum_congr rfl fun j _ => ?_
  rw [shapeCast_1ab_ab_apply, maximumf_apply, addf_apply, broadcastTo_1b_ab_apply, shapeCast_row,
    show broadcast S256x2048 (Scalar.ofBits (F := Ideal) .f32 0x00000000#32) (ix2 y j) = (0 : EReal) from Ideal.ofBits_zero_f32]
  refine congrArg (fun v : EReal => max (v + b (ix3 (0 : Fin 1) (0 : Fin 1) j)) 0 * B (ix3 (0 : Fin 1) j z)) ?_
  refine (Ideal.matmul_plain_apply none _ _ _ y j).trans ?_
  rw [show constant (F := Ideal) S256x2048 .f32 0x00000000#32 (ix2 y j) = 0 from Ideal.ofBits_zero_f32, zero_add]
  refine Finset.sum_congr rfl fun k _ => ?_
  rw [shapeCast_1ab_ab_apply]

variable (m : (ℓ : Loc nD τ sig) → Buf (Elt Ideal) ℓ) {hO : ok0 (tbl m)} {T : Tiles (words m)}

/-- The result, at the rows of a tile in use, is its expert's two layers of those rows. -/
theorem result_layers {r : PUnit × MemSt nD τ sig (Elt Ideal)} (h : RDat.FramePost (cfgM m hO) (rdats m hO T) (V m) r) (c : Dev nD)
    (t : Fin (cfgM m hO).N) (u : Live (grid0.coords t) (usedW (words m))) (y : Fin 256) (z : Fin 1024) :
    (r.2.mem (c.tc.loc main_v2) : FVec Ideal S6144x1024 .f32) (ix2 (rowOf t y) z)
      = layers (m (c.tc.loc main_arg1)) (m (c.tc.loc main_arg2)) (m (c.tc.loc main_arg3)) (m (c.tc.loc main_arg4)) (m (c.tc.loc main_arg5))
          (owner m T (grid0.coords t)) (rowOf t y) z := by
  rw [result h c t u y z]
  unfold InUse.product
  refine (stored_at _ _ _ _ _ y z).trans ?_
  unfold layers
  rw [bias2_row m hO T]
  refine congrArg (· + _) (Finset.sum_congr rfl fun j _ => ?_)
  rw [bias1_row m hO T, matrix2_at, V_kept m c main_arg4 (by decide) (by decide)]
  refine congrArg (fun v : EReal => max (v + _) 0 * _) (Finset.sum_congr rfl fun k _ => ?_)
  rw [rows_at, matrix1_at, V_kept m c main_arg2 (by decide) (by decide)]
  rfl

end Cert.Proof.Experts

end
-- ==== Proof.ExpertsTable.lean ====
/-
  THE EXPERTS' PRECONDITION, READ. `table_of_tiles` cuts the table's first 96 words into four rows of 24 (each tile's expert, its
  slot, whether it is its expert's first, and the next expert) and takes five conjuncts over them. Where it holds, the table is
  one of `Tiles`.
-/
module

public import proofs.«01_k».proof.Pre_table_of_tiles
public import proofs.«01_k».proof.Proof.Gen.Pre_table_of_tiles
public import proofs.«01_k».proof.Proof.ExpertsTiles
public import Idealize.ShloMosaic.Lib.IdealHost
public import Idealize.ShloMosaic.Lib.Pipeline.Value
public import Idealize.ShloMosaic.Lib.ReduceAll

@[expose] public section

noncomputable section

namespace Cert.Proof.ExpertsTable

open Cert.Pre_table_of_tiles Cert.Pre_table_of_tiles.Facts
open Idealize.ShloMosaic Idealize.ShloMosaic.ValueIdx
open Cert.Proof.Experts (Tiles Live word pos expertW slotW firstW nextW usedW)

variable {F : FTy → Type} [FloatOps F]

instance : Subsingleton S_.Idx := ⟨fun a b => funext fun i => i.elim0⟩

/-- Row `o` of the table's first 96 words, as the precondition cuts it out. -/
def row (sp : IVec S97 32) (o : ℕ) (hs : S4x24.Slices ![o, 0] S1x24) : IVec S24 32 :=
  shapeCast S24 (extractStridedSlice S1x24 ![o, 0] (shapeCast S4x24 (extractStridedSlice S96 ![0] sp slices_S97_S96_0) shapeCasts_S96_S4x24) hs)
    shapeCasts_S1x24_S24

theorem row_apply (sp : IVec S97 32) (o : ℕ) (hs : S4x24.Slices ![o, 0] S1x24) (k : Fin 24) (n : Fin 97) (ho : o < 4) (hn : n.val = 24 * o + k.val) :
    row sp o hs (ix1 k) = word (F := F) sp n := by
  unfold row
  refine (shapeCast_apply _ _ (ix1 k) (ix2 (0 : Fin 1) k) ?_).trans ?_
  · rw [Shape.rowMajor_val_two, Shape.rowMajor_val_one]; show 0 * 24 + k.val = k.val; omega
  refine (extractStridedSlice_apply _ _ _ _ (ix2 (⟨o, ho⟩ : Fin 4) k) fun a => ?_).trans ?_
  · match a with | ⟨0, _⟩ => rfl | ⟨1, _⟩ => exact (Nat.zero_add _).symm
  refine (shapeCast_apply _ _ _ (ix1 (⟨24 * o + k.val, by omega⟩ : Fin 96)) ?_).trans ?_
  · rw [Shape.rowMajor_val_two, Shape.rowMajor_val_one]; show 24 * o + k.val = o * 24 + k.val; omega
  refine (extractStridedSlice_apply _ _ _ _ (ix1 n) fun a => ?_).trans ?_
  · match a with | ⟨0, _⟩ => show n.val = 0 + (24 * o + k.val); omega
  · exact congrArg sp (funext fun a => by match a with | ⟨0, _⟩ => rfl)

/-- The last word of the table. -/
def total (sp : IVec S97 32) : IVec S_ 32 := shapeCast S_ (extractStridedSlice S1 ![96] sp slices_S97_S1_96) shapeCasts_S1_S_

theorem total_apply (sp : IVec S97 32) (i : S_.Idx) : total sp i = usedW (F := F) sp := by
  unfold total
  refine (shapeCast_apply _ _ i (ix1 (0 : Fin 1)) ?_).trans ?_
  · rw [Shape.rowMajor_val_one]; exact (Nat.lt_one_iff.1 ((⟨0, ![]⟩ : Shape).rowMajor i).isLt).symm
  refine (extractStridedSlice_apply _ _ _ _ (ix1 (96 : Fin 97)) fun a => ?_).trans ?_
  · match a with | ⟨0, _⟩ => rfl
  · exact congrArg sp (funext fun a => by match a with | ⟨0, _⟩ => rfl)

/-- Which tiles are in use. -/
def used (sp : IVec S97 32) : IVec S24 1 :=
  cmpi .slt (muli (iotaInDim S24 32 0) (broadcastInDim S24 ![] bcast_S_S24 (constantI S_ 32 256#32))) (broadcastInDim S24 ![] bcast_S_S24 (total sp))

theorem used_apply (sp : IVec S97 32) (k : Fin 24) (i : Cert.ExpertsIdeal.grid0.Coords) (hi : (i 0).val = k.val) :
    used sp (ix1 k) = 1#1 ↔ Live i (usedW (F := F) sp) := by
  have e : used sp (ix1 k) = Scalar.cmpi .slt (Scalar.muli (BitVec.ofNat 32 (i 0).val) 256#32) (usedW (F := F) sp) := by
    show IntOp.cmpi .slt (IntOp.muli (iotaInDim S24 32 0 (ix1 k)) _) (broadcastInDim S24 ![] bcast_S_S24 (total sp) (ix1 k)) = _
    rw [broadcastInDim_scalar_apply, broadcastInDim_scalar_apply, total_apply (F := F), hi]
    rfl
  rw [e]
  exact Iff.rfl

section Read
variable {α : Type} (v : S24.Idx → α)

/-- The list without its first entry, the list without its last one, and one entry of it. -/
def later : S23.Idx → α := extractStridedSlice S23 ![1] v slices_S24_S23_1
def earlier : S23.Idx → α := extractStridedSlice S23 ![0] v slices_S24_S23_0
def entry (o : ℕ) (h : S24.Slices ![o] S1) : S_.Idx → α := shapeCast S_ (extractStridedSlice S1 ![o] v h) shapeCasts_S1_S_

theorem later_apply (k : Fin 23) : later v (ix1 k) = v (ix1 k.succ) :=
  extractStridedSlice_apply _ _ _ _ _ fun a => by match a with | ⟨0, _⟩ => show k.val + 1 = 1 + k.val; omega

theorem earlier_apply (k : Fin 23) : earlier v (ix1 k) = v (ix1 k.castSucc) :=
  extractStridedSlice_apply _ _ _ _ _ fun a => by match a with | ⟨0, _⟩ => exact (Nat.zero_add _).symm

theorem entry_apply (o : ℕ) (h : S24.Slices ![o] S1) (i : S_.Idx) (k : Fin 24) (hk : k.val = o) : entry v o h i = v (ix1 k) := by
  refine (shapeCast_apply _ _ i (ix1 (0 : Fin 1)) ?_).trans (extractStridedSlice_apply _ _ _ _ _ fun a => ?_)
  · rw [Shape.rowMajor_val_one]; exact (Nat.lt_one_iff.1 ((⟨0, ![]⟩ : Shape).rowMajor i).isLt).symm
  · match a with | ⟨0, _⟩ => exact hk

end Read

theorem zero_or_one : ∀ x : BitVec 1, x = 0#1 ∨ x = 1#1 := by decide

/-- A word between 0 and 8 as a signed number is below 8 as a plain one. -/
theorem lt_of_bits {w : BitVec 32} (h0 : IntOp.cmpi .sge w 0#32 = 1#1) (h1 : IntOp.cmpi .slt w 8#32 = 1#1) : w.toNat < 8 := by
  have a := IntOp.cmpi_sge.1 h0
  have b := IntOp.cmpi_slt.1 h1
  have e0 : (0#32 : BitVec 32).toInt = 0 := by decide
  have e1 : (8#32 : BitVec 32).toInt = 8 := by decide
  rw [e0, BitVec.toInt_eq_toNat_cond] at a
  rw [e1, BitVec.toInt_eq_toNat_cond] at b
  omega

theorem tiles (sp : IVec S97 32) (xs : FVec F S6144x1024 .f32) (w1 : FVec F S8x1024x2048 .f32) (b1 : FVec F S8x2048 .f32)
    (w2 : FVec F S8x2048x1024 .f32) (b2 : FVec F S8x1024 .f32) (h : fn sp xs w1 b1 w2 b2 = fun _ => 1#1) : Tiles (F := F) sp := by
  have e := congrFun h ix0
  dsimp only [fn, fn_part1, fn_part2, fn_part3, fn_part4, fn_where] at e
  obtain ⟨e, last⟩ := IntOp.andi_eq_one.1 e
  obtain ⟨e, steps⟩ := IntOp.andi_eq_one.1 e
  obtain ⟨e, start⟩ := IntOp.andi_eq_one.1 e
  obtain ⟨ranges, slots⟩ := IntOp.andi_eq_one.1 e
  have ranges := fun k : Fin 24 => Host.reduce_andi_all _ _ _ _ _ ranges (ix1 k)
  have slots := fun k : Fin 24 => Host.reduce_andi_all _ _ _ _ _ slots (ix1 k)
  have steps := fun k : Fin 23 => Host.reduce_andi_all _ _ _ _ _ steps (ix1 k)
  have hn : ∀ (r : Fin 4) (hs : S4x24.Slices ![r.val, 0] S1x24) (i : Cert.ExpertsIdeal.grid0.Coords) (k : Fin 24), (i 0).val = k.val →
      row sp r.val hs (ix1 k) = word (F := F) sp (pos i r) := fun r hs i k hi =>
    row_apply sp r.val hs k (pos i r) r.isLt (by show 24 * r.val + (i 0).val = _; rw [hi])
  obtain ⟨te, hte⟩ : ∃ v, v = row sp 0 slices_S4x24_S1x24_0_0 := ⟨_, rfl⟩
  obtain ⟨sl, hsl⟩ : ∃ v, v = row sp 1 slices_S4x24_S1x24_1_0 := ⟨_, rfl⟩
  obtain ⟨fi, hfi⟩ : ∃ v, v = row sp 2 slices_S4x24_S1x24_2_0 := ⟨_, rfl⟩
  obtain ⟨nx, hnx⟩ : ∃ v, v = row sp 3 slices_S4x24_S1x24_3_0 := ⟨_, rfl⟩
  have ranges : ∀ k, IntOp.andi (IntOp.andi (IntOp.andi (IntOp.cmpi .sge (te (ix1 k)) 0#32) (IntOp.cmpi .slt (te (ix1 k)) 8#32))
      (IntOp.cmpi .sge (nx (ix1 k)) 0#32)) (IntOp.cmpi .slt (nx (ix1 k)) 8#32) = 1#1 := by rw [hte, hnx]; exact ranges
  have slots : ∀ k, IntOp.ori (IntOp.cmpi .eq (sl (ix1 k)) 0#32) (IntOp.cmpi .eq (sl (ix1 k)) 1#32) = 1#1 := by rw [hsl]; exact slots
  have start : IntOp.ori (~~~(entry (used sp) 0 slices_S24_S1_0 ix0)) (IntOp.cmpi .eq (entry fi 0 slices_S24_S1_0 ix0) 1#32) = 1#1 := by
    rw [hfi]; exact start
  have last : IntOp.ori (~~~(entry (used sp) 23 slices_S24_S1_23 ix0)) (entry (cmpi .eq nx te) 23 slices_S24_S1_23 ix0) = 1#1 := by
    rw [hnx, hte]; exact last
  have steps : ∀ k, Scalar.select (later (used sp) (ix1 k))
      (IntOp.ori
        (IntOp.andi (IntOp.andi (IntOp.andi (IntOp.cmpi .ne (later fi (ix1 k)) 1#32) (IntOp.cmpi .eq (later te (ix1 k)) (earlier te (ix1 k))))
          (IntOp.cmpi .eq (later sl (ix1 k)) (earlier sl (ix1 k)))) (IntOp.cmpi .eq (later nx (ix1 k)) (earlier nx (ix1 k))))
        (IntOp.andi (IntOp.andi (IntOp.andi (IntOp.cmpi .eq (later fi (ix1 k)) 1#32) (IntOp.cmpi .eq (later te (ix1 k)) (earlier nx (ix1 k))))
          (IntOp.cmpi .eq (later sl (ix1 k)) (Scalar.subi 1#32 (earlier sl (ix1 k))))) (IntOp.cmpi .ne (earlier nx (ix1 k)) (earlier te (ix1 k)))))
      (IntOp.ori (~~~(earlier (used sp) (ix1 k))) (earlier (cmpi .eq nx te) (ix1 k))) = 1#1 := by rw [hte, hsl, hfi, hnx]; exact steps
  simp only [later_apply, earlier_apply] at steps
  simp only [fun (v : IVec S24 1) h i => entry_apply v 0 h i (0 : Fin 24) rfl, fun (v : IVec S24 32) h i => entry_apply v 0 h i (0 : Fin 24) rfl, IntOp.ori_eq_one, IntOp.not_eq_one] at start
  simp only [fun (v : IVec S24 1) h i => entry_apply v 23 h i (23 : Fin 24) rfl, fun (v : IVec S24 32) h i => entry_apply v 23 h i (23 : Fin 24) rfl, IntOp.ori_eq_one, IntOp.not_eq_one] at last
  have ete := fun i k hi => (congrFun hte (ix1 k)).trans (hn 0 slices_S4x24_S1x24_0_0 i k hi)
  have esl := fun i k hi => (congrFun hsl (ix1 k)).trans (hn 1 slices_S4x24_S1x24_1_0 i k hi)
  have efi := fun i k hi => (congrFun hfi (ix1 k)).trans (hn 2 slices_S4x24_S1x24_2_0 i k hi)
  have enx := fun i k hi => (congrFun hnx (ix1 k)).trans (hn 3 slices_S4x24_S1x24_3_0 i k hi)
  have eus := fun k i hi => used_apply (F := F) sp k i hi
  clear hn hte hsl hfi hnx
  -- the entry of a tile's number, and of two numbers of which one follows the other
  have num : ∀ i : Cert.ExpertsIdeal.grid0.Coords, ∃ k : Fin 24, (i 0).val = k.val := fun i => ⟨⟨(i 0).val, (i 0).isLt⟩, rfl⟩
  have next : ∀ i j : Cert.ExpertsIdeal.grid0.Coords, (j 0).val = (i 0).val + 1 → ∃ k : Fin 23, (i 0).val = k.castSucc.val ∧ (j 0).val = k.succ.val :=
    fun i j hij => ⟨⟨(i 0).val, by have : (j 0).val < 24 := (j 0).isLt; omega⟩, rfl, hij⟩
  exact
    { expert := fun i => by
        obtain ⟨k, hk⟩ := num i
        have a := IntOp.andi_eq_one.1 (IntOp.andi_eq_one.1 (IntOp.andi_eq_one.1 (ranges k)).1).1
        rw [ete i k hk] at a
        exact lt_of_bits a.1 a.2
      next := fun i => by
        obtain ⟨k, hk⟩ := num i
        have b := IntOp.andi_eq_one.1 (ranges k)
        have a := (IntOp.andi_eq_one.1 b.1).2
        have b := b.2
        rw [enx i k hk] at a b
        exact lt_of_bits a b
      slot := fun i => by
        obtain ⟨k, hk⟩ := num i
        have a := slots k
        rw [IntOp.ori_eq_one, IntOp.cmpi_eq, IntOp.cmpi_eq, esl i k hk] at a
        exact a
      start := fun i hi hl => by
        rw [eus 0 i hi, IntOp.cmpi_eq, efi i 0 hi] at start
        exact start.resolve_left (not_not_intro hl)
      step := fun i j hij hl => by
        obtain ⟨k, hi, hj⟩ := next i j hij
        have a := steps k
        rw [(eus _ j hj).2 hl, select_one, IntOp.ori_eq_one, ete j _ hj, esl j _ hj, efi j _ hj, enx j _ hj, ete i _ hi, esl i _ hi, enx i _ hi] at a
        simp only [IntOp.andi_eq_one, IntOp.cmpi_eq, IntOp.cmpi_ne] at a
        rcases a with ⟨⟨⟨a, b⟩, c⟩, d⟩ | ⟨⟨⟨a, b⟩, c⟩, d⟩
        · exact Or.inl ⟨a, b, c, d⟩
        · exact Or.inr ⟨a, b, c, d⟩
      stop := fun i j hij hl hd => by
        obtain ⟨k, hi, hj⟩ := next i j hij
        have a := steps k
        rw [show used sp (ix1 k.succ) = 0#1 from (zero_or_one _).resolve_right fun e => hd ((eus _ j hj).1 e), select_zero, IntOp.ori_eq_one,
          IntOp.not_eq_one, eus _ i hi] at a
        have a : IntOp.cmpi .eq (nx (ix1 k.castSucc)) (te (ix1 k.castSucc)) = 1#1 := a.resolve_left (not_not_intro hl)
        rw [enx i _ hi, ete i _ hi, IntOp.cmpi_eq] at a
        exact a
      last := fun i hi hl => by
        rw [eus 23 i hi] at last
        have a : IntOp.cmpi .eq (nx (ix1 23)) (te (ix1 23)) = 1#1 := last.resolve_left (not_not_intro hl)
        rw [enx i _ hi, ete i _ hi, IntOp.cmpi_eq] at a
        exact a }

end Cert.Proof.ExpertsTable

end
-- ==== Proof.ExpertsRef.lean ====
/-
  THE EXPERTS' REFERENCE, READ AT A ROW AND A COLUMN. It takes every expert's two layers of every row and sums, over the experts, those
  of the row's own one, the others' replaced by zero: at a row whose tile names expert `e`, the layers of `e`. The mask `rows_used` is
  set at the rows of the tiles in use.
-/
module

public import proofs.«01_k».proof.Proof.ExpertsPay
public import proofs.«01_k».proof.Proof.ExpertsTable
public import proofs.«01_k».proof.Proof.Gen.ExpertsReferenceIdeal.Run
public import proofs.«01_k».proof.On_rows_used
public import Idealize.ShloMosaic.Lib.StackMember
public import Idealize.ShloMosaic.Lib.Pointwise.Contract

@[expose] public section

noncomputable section

namespace Cert.On_rows_used

/-- The shape relations the mask states. -/
instance facts : Facts where
  bcast_S_S24 := by decide
  slices_S97_S1_96 := by decide
  shapeCasts_S1_S_ := by decide
  bcast_S24_S24x1x1_0 := by decide
  bcast_S24x1x1_S24x256x1024_0_1_2 := by decide
  shapeCasts_S24x256x1024_S6144x1024 := by decide

end Cert.On_rows_used

namespace Cert.Proof.ExpertsRef

open Cert.ExpertsReferenceIdeal Cert.ExpertsReferenceIdeal.Gen
open Idealize.ShloMosaic hiding ix0 ix1 ix2 ix3
open Idealize.ShloMosaic.ValueIdx
open Cert.Proof.Experts (Tiles Live word pos expertW usedW rowOf tile_val layers)
open Cert.Proof.ExpertsTable (used used_apply zero_or_one)
open scoped BigOperators

/-! ## The mask -/

theorem mask_live {F : FTy → Type} [FloatOps F] (sp : IVec S97 32) (xs : FVec F S6144x1024 .f32) (w1 : FVec F S8x1024x2048 .f32) (b1 : FVec F S8x2048 .f32)
    (w2 : FVec F S8x2048x1024 .f32) (b2 : FVec F S8x1024 .f32) (t : Fin Cert.ExpertsIdeal.grid0.N) (y : Fin 256) (z : Fin 1024)
    (h : Cert.On_rows_used.fn sp xs w1 b1 w2 b2 (ix2 (rowOf t y) z) = 1#1) : Live (Cert.ExpertsIdeal.grid0.coords t) (usedW (F := F) sp) := by
  refine (used_apply (F := F) sp (⟨t.val, t.isLt⟩ : Fin 24) (Cert.ExpertsIdeal.grid0.coords t) (tile_val t)).1 (Eq.trans ?_ h)
  symm
  show shapeCast S6144x1024 (broadcastInDim Cert.On_rows_used.S24x256x1024 ![0, 1, 2] Cert.On_rows_used.Facts.bcast_S24x1x1_S24x256x1024_0_1_2
    (broadcastInDim Cert.On_rows_used.S24x1x1 ![0] Cert.On_rows_used.Facts.bcast_S24_S24x1x1_0 (used sp)))
    Cert.On_rows_used.Facts.shapeCasts_S24x256x1024_S6144x1024 (ix2 (rowOf t y) z) = _
  refine (shapeCast_apply _ _ _ (ix3 (⟨t.val, t.isLt⟩ : Fin 24) y z) ?_).trans ?_
  · rw [Shape.rowMajor_val_three, Shape.rowMajor_val_two]; rfl
  refine (broadcastInDim_apply _ _ _ _ (ix3 (⟨t.val, t.isLt⟩ : Fin 24) (0 : Fin 1) (0 : Fin 1)) fun a => ?_).trans
    (broadcastInDim_apply _ _ _ _ (ix1 (⟨t.val, t.isLt⟩ : Fin 24)) fun a => ?_)
  · match a with | ⟨0, _⟩ => rfl | ⟨1, _⟩ => rfl | ⟨2, _⟩ => rfl
  · match a with | ⟨0, _⟩ => rfl

/-! ## The reference's arrays -/

section Arrays
variable (sp : IVec S97 32) (xs : FVec Ideal S6144x1024 .f32) (w1 : FVec Ideal S8x1024x2048 .f32) (b1 : FVec Ideal S8x2048 .f32)
  (w2 : FVec Ideal S8x2048x1024 .f32) (b2 : FVec Ideal S8x1024 .f32)

/-- The expert of each row. -/
def owners : IVec S6144 32 :=
  shapeCast _ (broadcastInDim S24x256 ![0] bcast_S24_S24x256_0 (extractStridedSlice S24 ![0] sp slices_S97_S24_0)) shapeCasts_S24x256_S6144

/-- Where an expert is the row's own. -/
def own : IVec S8x6144x1024 1 :=
  broadcastInDim S8x6144x1024 ![0, 1, 2] bcast_S8x6144x1_S8x6144x1024_0_1_2 (broadcastInDim S8x6144x1 ![0, 1] bcast_S8x6144_S8x6144x1_0_1
    (cmpi .eq (broadcastInDim S8x6144 ![0, 1] bcast_S1x6144_S8x6144_0_1 (broadcastInDim S1x6144 ![1] bcast_S6144_S1x6144_1 (owners sp)))
      (broadcastInDim S8x6144 ![0, 1] bcast_S8x1_S8x6144_0_1 (broadcastInDim S8x1 ![0] bcast_S8_S8x1_0 (iotaInDim S8 32 0)))))

/-- Every expert's first layer of every row. -/
def hidden : FVec Ideal S8x6144x2048 .f32 :=
  maximumf (addf (transpose S8x6144x2048 [1, 0, 2] (Host.dotGeneral dot_S6144x1024_S8x1024x2048_S6144x8x2048_1_1_0_02_n_n none xs w1) transposes_S6144x8x2048_S8x6144x2048_1_0_2)
    (broadcastInDim S8x6144x2048 ![0, 1, 2] bcast_S8x1x2048_S8x6144x2048_0_1_2 (broadcastInDim S8x1x2048 ![0, 2] bcast_S8x2048_S8x1x2048_0_2 b1)))
    (broadcastInDim S8x6144x2048 ![] bcast_S_S8x6144x2048 (constant S_ .f32 0x00000000#32))

/-- Every expert's two layers of every row. -/
def every : FVec Ideal S8x6144x1024 .f32 :=
  addf (Host.dotGeneral dot_S8x6144x2048_S8x2048x1024_S8x6144x1024_2_1_1_2_0_0 none (hidden xs w1 b1) w2)
    (broadcastInDim S8x6144x1024 ![0, 1, 2] bcast_S8x1x1024_S8x6144x1024_0_1_2 (broadcastInDim S8x1x1024 ![0, 2] bcast_S8x1024_S8x1x1024_0_2 b2))

/-- The sum over the experts of the row's own one. -/
def summed : FVec Ideal S6144x1024 .f32 :=
  Host.reduceAdd (select (own sp) (every xs w1 b1 w2 b2) (broadcastInDim S8x6144x1024 ![] bcast_S_S8x6144x1024 (id (constant S_ .f32 0x00000000#32))))
    (constant S_ .f32 0x00000000#32) reducesTo_S8x6144x1024_S6144x1024_d0 h_S_

/-! ## At a place -/

theorem owners_apply (t : Fin Cert.ExpertsIdeal.grid0.N) (y : Fin 256) :
    owners sp (ix1 (rowOf t y)) = expertW (F := Ideal) sp (Cert.ExpertsIdeal.grid0.coords t) := by
  unfold owners
  refine (shapeCast_apply _ _ _ (ix2 (⟨t.val, t.isLt⟩ : Fin 24) y) ?_).trans ?_
  · rw [Shape.rowMajor_val_two, Shape.rowMajor_val_one]; rfl
  refine (broadcastInDim_apply _ _ _ _ (ix1 (⟨t.val, t.isLt⟩ : Fin 24)) fun a => ?_).trans ?_
  · match a with | ⟨0, _⟩ => rfl
  refine (extractStridedSlice_apply _ _ _ _ (ix1 (pos (Cert.ExpertsIdeal.grid0.coords t) 0)) fun a => ?_).trans ?_
  · match a with
    | ⟨0, _⟩ =>
      show 24 * 0 + (Cert.ExpertsIdeal.grid0.coords t 0).val = 0 + t.val
      rw [tile_val]
  · exact congrArg sp (funext fun a => by match a with | ⟨0, _⟩ => rfl)

theorem own_apply (e : Fin 8) (p : Fin 6144) (z : Fin 1024) :
    own sp (ix3 e p z) = IntOp.cmpi .eq (owners sp (ix1 p)) (BitVec.ofNat 32 e.val) := by
  unfold own
  refine (broadcastInDim_apply _ _ _ _ (ix3 e p (0 : Fin 1)) fun a => ?_).trans
    ((broadcastInDim_apply _ _ _ _ (ix2 e p) fun a => ?_).trans ?_)
  · match a with | ⟨0, _⟩ => rfl | ⟨1, _⟩ => rfl | ⟨2, _⟩ => rfl
  · match a with | ⟨0, _⟩ => rfl | ⟨1, _⟩ => rfl
  refine congrArg₂ (fun p q : BitVec 32 => IntOp.cmpi .eq p q) ?_ ?_
  · refine (broadcastInDim_apply _ _ _ _ (ix2 (0 : Fin 1) p) fun a => ?_).trans (broadcastInDim_apply _ _ _ _ (ix1 p) fun a => ?_)
    · match a with | ⟨0, _⟩ => rfl | ⟨1, _⟩ => rfl
    · match a with | ⟨0, _⟩ => rfl
  · refine (broadcastInDim_apply _ _ _ _ (ix2 e (0 : Fin 1)) fun a => ?_).trans ((broadcastInDim_apply _ _ _ _ (ix1 e) fun a => ?_).trans rfl)
    · match a with | ⟨0, _⟩ => rfl | ⟨1, _⟩ => rfl
    · match a with | ⟨0, _⟩ => rfl

theorem first_apply (e : Fin 8) (p : Fin 6144) (j : Fin 2048) :
    Host.dotGeneral dot_S6144x1024_S8x1024x2048_S6144x8x2048_1_1_0_02_n_n none xs w1 (ix3 p e j) = ∑ k : Fin 1024, xs (ix2 p k) * w1 (ix3 e k j) := by
  simp only [Host.dotGeneral]
  rw [Ideal.dotGeneral_apply, DotDims.sum_contr₁ dot_S6144x1024_S8x1024x2048_S6144x8x2048_1_1_0_02_n_n rfl (K := 1024) rfl]
  refine Finset.sum_congr rfl fun k _ => congrArg₂ (fun p q : EReal => p * q) (congrArg xs ?_) (congrArg w1 ?_)
  · exact Shape.idx_ext₂ rfl rfl
  · funext a; match a with | ⟨0, _⟩ => rfl | ⟨1, _⟩ => rfl | ⟨2, _⟩ => rfl

theorem hidden_apply (e : Fin 8) (p : Fin 6144) (j : Fin 2048) :
    hidden xs w1 b1 (ix3 e p j) = max ((∑ k : Fin 1024, xs (ix2 p k) * w1 (ix3 e k j)) + b1 (ix2 e j)) 0 := by
  unfold hidden
  rw [maximumf_apply, addf_apply, broadcastInDim_scalar_apply, show constant (F := Ideal) S_ .f32 0x00000000#32 ix0 = 0 from Ideal.ofBits_zero_f32]
  refine congrArg₂ (fun p q : EReal => max (p + q) 0) ?_ ?_
  · refine (transpose_apply _ _ _ _ (ix3 p e j) fun a => ?_).trans (first_apply xs w1 e p j)
    match a with | ⟨0, _⟩ => rfl | ⟨1, _⟩ => rfl | ⟨2, _⟩ => rfl
  · refine (broadcastInDim_apply _ _ _ _ (ix3 e (0 : Fin 1) j) fun a => ?_).trans (broadcastInDim_apply _ _ _ _ (ix2 e j) fun a => ?_)
    · match a with | ⟨0, _⟩ => rfl | ⟨1, _⟩ => rfl | ⟨2, _⟩ => rfl
    · match a with | ⟨0, _⟩ => rfl | ⟨1, _⟩ => rfl

theorem every_apply (e : Fin 8) (p : Fin 6144) (z : Fin 1024) : every xs w1 b1 w2 b2 (ix3 e p z) = layers xs w1 b1 w2 b2 e p z := by
  unfold every layers
  rw [addf_apply]
  refine congrArg₂ (fun p q : EReal => p + q) ?_ ?_
  · refine (StackMember.dotGeneral_stack_apply _ none (hidden xs w1 b1) w2 e p z).trans (Finset.sum_congr rfl fun j _ => ?_)
    rw [hidden_apply]
  · refine (broadcastInDim_apply _ _ _ _ (ix3 e (0 : Fin 1) z) fun a => ?_).trans (broadcastInDim_apply _ _ _ _ (ix2 e z) fun a => ?_)
    · match a with | ⟨0, _⟩ => rfl | ⟨1, _⟩ => rfl | ⟨2, _⟩ => rfl
    · match a with | ⟨0, _⟩ => rfl | ⟨1, _⟩ => rfl

theorem red : S8x6144x1024.Reduces [0] S6144x1024 := by decide

theorem lift_eq (e : Fin 8) (p : Fin 6144) (z : Fin 1024) : red.lift (ix2 p z) e = ix3 e p z :=
  funext fun a => by match a with | ⟨0, _⟩ => rfl | ⟨1, _⟩ => rfl | ⟨2, _⟩ => rfl

/-- At a row of a tile whose expert is below 8, the sum is that expert's layers of the row. -/
theorem summed_apply (t : Fin Cert.ExpertsIdeal.grid0.N) (y : Fin 256) (z : Fin 1024) (h : (expertW (F := Ideal) sp (Cert.ExpertsIdeal.grid0.coords t)).toNat < 8) :
    summed sp xs w1 b1 w2 b2 (ix2 (rowOf t y) z) = layers xs w1 b1 w2 b2 ⟨_, h⟩ (rowOf t y) z := by
  unfold summed
  rw [hostReduceAdd_apply, Ideal.hostReduceAdd_single _ red]
  show Ideal.ofBits .f32 0x00000000#32 + ∑ e : Fin 8, select (own sp) (every xs w1 b1 w2 b2) _ (red.lift (ix2 (rowOf t y) z) e) = _
  rw [Ideal.ofBits_zero_f32, zero_add]
  have hs : ∀ e : Fin 8, select (own sp) (every xs w1 b1 w2 b2)
      (broadcastInDim S8x6144x1024 ![] bcast_S_S8x6144x1024 (id (constant (F := Ideal) S_ .f32 0x00000000#32))) (red.lift (ix2 (rowOf t y) z) e)
      = Scalar.select (IntOp.cmpi .eq (expertW (F := Ideal) sp (Cert.ExpertsIdeal.grid0.coords t)) (BitVec.ofNat 32 e.val)) (layers xs w1 b1 w2 b2 e (rowOf t y) z) 0 := fun e => by
    rw [select_apply, lift_eq, own_apply, owners_apply, every_apply, broadcastInDim_scalar_apply]
    exact congrArg (Scalar.select _ _) Ideal.ofBits_zero_f32
  simp only [hs]
  refine (Finset.sum_eq_single (⟨_, h⟩ : Fin 8) (fun e _ hne => ?_) fun hn => absurd (Finset.mem_univ _) hn).trans ?_
  · have h0 : IntOp.cmpi .eq (expertW (F := Ideal) sp (Cert.ExpertsIdeal.grid0.coords t)) (BitVec.ofNat 32 e.val) = 0#1 :=
      (zero_or_one _).resolve_right fun h1 => hne (Fin.ext (by
        have := congrArg BitVec.toNat (IntOp.cmpi_eq.1 h1)
        rw [BitVec.toNat_ofNat] at this
        have := e.isLt
        show e.val = (expertW (F := Ideal) sp (Cert.ExpertsIdeal.grid0.coords t)).toNat
        omega))
    rw [h0, select_zero]
  · rw [IntOp.cmpi_eq.2 (BitVec.eq_of_toNat_eq (by rw [BitVec.toNat_ofNat]; exact (Nat.mod_eq_of_lt (lt_trans h (by decide))).symm)), select_one]

end Arrays

/-- Every place of the result is a row of some tile and a column. -/
theorem place (i : S6144x1024.Idx) : ∃ (t : Fin Cert.ExpertsIdeal.grid0.N) (y : Fin 256) (z : Fin 1024), i = ix2 (rowOf t y) z := by
  have h : (i 0).val < 6144 := (i 0).isLt
  refine ⟨⟨(i 0).val / 256, by show (i 0).val / 256 < 24; omega⟩, ⟨(i 0).val % 256, by omega⟩, i 1, Shape.idx_ext₂ ?_ rfl⟩
  show (i 0).val = (i 0).val / 256 * 256 + (i 0).val % 256
  omega

end Cert.Proof.ExpertsRef

end
-- ==== Proof.lean ====
/-
  The proof of `Cert.Claim`. For the call that combines the experts' rows, the kernel's run is `Combine.run_main`
  (Proof/Launch.lean) and the reference's is `Ref.run_main` (Proof/Ref.lean), both stated for any float values, so the claims at
  the bits and at the extended reals read the same two theorems; `Ref.refOut_eq` joins the two results. For the router's call,
  `RouterKernel` (Proof/RouterKernel.lean) says what the launch leaves and `RouterRef` (Proof/RouterRef.lean) that the reference's
  results are the same. For the experts' call, `Experts.run_main` (Proof/ExpertsLaunch.lean) is the kernel's run for any float values,
  `ExpertsTable.tiles` reads its precondition, `Experts.result_layers` (Proof/ExpertsPay.lean) says what the rows in use hold, and
  `ExpertsRef.summed_apply` that the reference has the same there.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Pre_slots_in_range
public import proofs.«01_k».proof.Proof.Gen.Router.Frame
public import proofs.«01_k».proof.Proof.Gen.Pre_finite_inputs
public import proofs.«01_k».proof.Proof.Gen.Experts
public import proofs.«01_k».proof.Proof.Launch
public import proofs.«01_k».proof.Proof.Ref
public import proofs.«01_k».proof.Proof.Range
public import proofs.«01_k».proof.Proof.RouterRef
public import proofs.«01_k».proof.Proof.Finite
public import proofs.«01_k».proof.Proof.ExpertsRef

@[expose] public section

noncomputable section

namespace Cert.Proof

open Idealize.ShloMosaic Idealize.SL.Sem

theorem frame_p : Cert.quiescent_Kernel := fun m g h =>
  (θ_run (Cert.KernelIdeal.defs (F := Bits)) _ _).mono (fun _ q => ⟨fun c => (q.1 c).2, q.2⟩)
    (Combine.run_main (F := Bits) m g fun d => Range.slots_lt _ _ _ _ _ (h d))

theorem frame_pi : Cert.quiescent_KernelIdeal := fun m g h =>
  (θ_run (Cert.KernelIdeal.defs (F := Ideal)) _ _).mono (fun _ q => ⟨fun c => (q.1 c).2, q.2⟩)
    (Combine.run_main (F := Ideal) m g fun d => Range.slots_lt _ _ _ _ _ (h d))

theorem frame_ri : Cert.quiescent_ReferenceIdeal := fun m g _ =>
  (θ_run (Cert.Reference.defs (F := Ideal)) _ _).mono (fun _ q => ⟨fun c => (q.1 c).2, q.2⟩) (Ref.run_main (F := Ideal) m g)

theorem frame_ri_pre : Cert.quiescent_ReferenceIdeal_pre_slots_in_range := fun m g _ => frame_ri m g trivial

theorem frame_r : Cert.quiescent_Reference := fun m g _ =>
  (θ_run (Cert.Reference.defs (F := Bits)) _ _).mono (fun _ q => ⟨fun c => (q.1 c).2, q.2⟩) (Ref.run_main (F := Bits) m g)

/-- Both programs end with the kernel's result, whatever the floats are. -/
theorem same {F : FTy → Type} [FloatOps F] [∀ e, Nonempty (Elt F e)]
    (m : (ℓ : Loc Cert.KernelIdeal.nD Cert.KernelIdeal.τ Cert.KernelIdeal.sig) → Buf (Elt F) ℓ) (g : Dev Cert.KernelIdeal.nD → PrngReg)
    (m' : (ℓ : Loc Cert.Reference.nD Cert.Reference.τ Cert.Reference.sig) → Buf (Elt F) ℓ) (g' : Dev Cert.Reference.nD → PrngReg)
    (hpre : Combine.PreOK m)
    (ha : ∀ c : Dev Cert.KernelIdeal.nD,
      m' ((c.tc : Thread Cert.Reference.nD Cert.Reference.τ).loc Cert.Reference.main_arg0) = m (Combine.yLoc c)
      ∧ m' ((c.tc : Thread Cert.Reference.nD Cert.Reference.τ).loc Cert.Reference.main_arg1) = m (Combine.p0Loc c)
      ∧ m' ((c.tc : Thread Cert.Reference.nD Cert.Reference.τ).loc Cert.Reference.main_arg2) = m (Combine.p1Loc c)
      ∧ m' ((c.tc : Thread Cert.Reference.nD Cert.Reference.τ).loc Cert.Reference.main_arg3) = m (Combine.g0Loc c)
      ∧ m' ((c.tc : Thread Cert.Reference.nD Cert.Reference.τ).loc Cert.Reference.main_arg4) = m (Combine.g1Loc c)) :
    θ_run (Cert.KernelIdeal.defs (F := F)) (Cert.KernelIdeal.threads (F := F)) ⟨m, fun _ => 0, g⟩ (fun r => ∀ c : Dev Cert.KernelIdeal.nD,
        r.2.mem (Combine.oLoc c) = Combine.result m c
        ∧ r.2.mem (Combine.yLoc c) = m (Combine.yLoc c) ∧ r.2.mem (Combine.p0Loc c) = m (Combine.p0Loc c)
        ∧ r.2.mem (Combine.p1Loc c) = m (Combine.p1Loc c) ∧ r.2.mem (Combine.g0Loc c) = m (Combine.g0Loc c)
        ∧ r.2.mem (Combine.g1Loc c) = m (Combine.g1Loc c))
    ∧ θ_run (Cert.Reference.defs (F := F)) (onTc (τ := Cert.Reference.τ) (Cert.Reference.main (F := F))) ⟨m', fun _ => 0, g'⟩
        (fun r => ∀ c : Dev Cert.Reference.nD,
        r.2.mem ((c.tc : Thread Cert.Reference.nD Cert.Reference.τ).loc Cert.Reference.main_v20) = Combine.result m c
        ∧ r.2.mem ((c.tc : Thread Cert.Reference.nD Cert.Reference.τ).loc Cert.Reference.main_arg0) = m' ((c.tc : Thread Cert.Reference.nD Cert.Reference.τ).loc Cert.Reference.main_arg0)
        ∧ r.2.mem ((c.tc : Thread Cert.Reference.nD Cert.Reference.τ).loc Cert.Reference.main_arg1) = m' ((c.tc : Thread Cert.Reference.nD Cert.Reference.τ).loc Cert.Reference.main_arg1)
        ∧ r.2.mem ((c.tc : Thread Cert.Reference.nD Cert.Reference.τ).loc Cert.Reference.main_arg2) = m' ((c.tc : Thread Cert.Reference.nD Cert.Reference.τ).loc Cert.Reference.main_arg2)
        ∧ r.2.mem ((c.tc : Thread Cert.Reference.nD Cert.Reference.τ).loc Cert.Reference.main_arg3) = m' ((c.tc : Thread Cert.Reference.nD Cert.Reference.τ).loc Cert.Reference.main_arg3)
        ∧ r.2.mem ((c.tc : Thread Cert.Reference.nD Cert.Reference.τ).loc Cert.Reference.main_arg4) = m' ((c.tc : Thread Cert.Reference.nD Cert.Reference.τ).loc Cert.Reference.main_arg4)) := by
  refine ⟨(θ_run (Cert.KernelIdeal.defs (F := F)) _ _).mono (fun _ q => q.1) (Combine.run_main m g hpre),
    (θ_run (Cert.Reference.defs (F := F)) _ _).mono (fun _ q c => ⟨(q.1 c).1.trans ?_, (q.1 c).2⟩) (Ref.run_main m' g')⟩
  obtain ⟨a0, a1, a2, a3, a4⟩ := ha c
  rw [a0, a1, a2, a3, a4]
  exact Ref.refOut_eq _ _ _ _ _ (hpre c).1 (hpre c).2

theorem algebraic : Cert.algebraic_KernelIdeal_ReferenceIdeal := fun m g m' g' h ha =>
  ⟨Combine.result m, same (F := Ideal) m g m' g' (fun d => Range.slots_lt _ _ _ _ _ (h d)) ha⟩

theorem bitexact : Cert.bitexact_Kernel_Reference := fun m g m' g' h ha =>
  ⟨Combine.result m, same (F := Bits) m g m' g' (fun d => Range.slots_lt _ _ _ _ _ (h d)) ha⟩

/-! ## The router -/

theorem frame_q : Cert.quiescent_Router := fun m g _ => Cert.Router.Gen.frame (F := Bits) m g

theorem frame_qi : Cert.quiescent_RouterIdeal := fun m g _ => Cert.RouterIdeal.Gen.frame (F := Ideal) m g

theorem frame_qi_pre : Cert.quiescent_RouterIdeal_pre_finite_inputs := fun m g _ => frame_qi m g trivial

theorem frame_si : Cert.quiescent_RouterReferenceIdeal := fun m g _ =>
  (θ_run (Cert.RouterReferenceIdeal.defs (F := Ideal)) _ _).mono
    (fun r h => ⟨fun c => (h c).2.2.2, sem_eq_zero_of_no_sems (by decide) r.2⟩)
    (Cert.RouterReferenceIdeal.Value.run (F := Ideal) m g)

theorem frame_si_pre : Cert.quiescent_RouterReferenceIdeal_pre_finite_inputs := fun m g _ => frame_si m g trivial

theorem algebraic_router : Cert.algebraic_RouterIdeal_RouterReferenceIdeal_pre_finite_inputs := fun m g m' g' h ha => by
  refine ⟨fun c => fun _ => RouterKernel.entropy (RouterKernel.X m c) (RouterKernel.W m c) (RouterKernel.B m c),
    fun c => fun i => RouterKernel.first (RouterKernel.X m c) (RouterKernel.W m c) (RouterKernel.B m c) (i 0),
    fun c => fun i => RouterKernel.second (RouterKernel.X m c) (RouterKernel.W m c) (RouterKernel.B m c) (i 0),
    (θ_run (Cert.RouterIdeal.defs (F := Ideal)) _ _).mono (fun _ q c => ?_) (Cert.RouterIdeal.Value.run_blocks (F := Ideal) m g),
    (θ_run (Cert.RouterReferenceIdeal.defs (F := Ideal)) _ _).mono (fun _ q c => ?_) (Cert.RouterReferenceIdeal.Value.run (F := Ideal) m' g')⟩
  · obtain ⟨_, _, e5, e6, _, e8, e⟩ := q c
    exact ⟨e8.trans (RouterKernel.arr8 m c), e5.trans (RouterKernel.arr5 m c), e6.trans (RouterKernel.arr6 m c), e⟩
  · obtain ⟨e22, e23, e24, e⟩ := q c
    obtain ⟨a0, a1, a2⟩ := ha c
    obtain ⟨hx, hw, hb⟩ := Finite.reals _ _ _ (h c)
    unfold Cert.RouterReferenceIdeal.Value.res_main_v22 at e22
    rw [a0, a1, a2] at e22 e23 e24
    exact ⟨e22.trans (RouterRef.entropy_eq _ _ _ hx hw hb), e23.trans (RouterRef.first_eq _ _ _ hx hw hb),
      e24.trans (RouterRef.second_eq _ _ _ hx hw hb), e⟩

/-! ## The experts -/

/-- The experts' launch leaves its arguments as they were and no semaphore raised, whatever the floats are. -/
theorem experts_kept {F : FTy → Type} [FloatOps F] [∀ e, Nonempty (Elt F e)]
    (m : (ℓ : Loc Cert.ExpertsIdeal.nD Cert.ExpertsIdeal.τ Cert.ExpertsIdeal.sig) → Buf (Elt F) ℓ) (g : Dev Cert.ExpertsIdeal.nD → PrngReg)
    (T : Experts.Tiles (Experts.words m)) :
    θ_run (Cert.ExpertsIdeal.defs (F := F)) (onTc (τ := Cert.ExpertsIdeal.τ) (Cert.ExpertsIdeal.main (F := F))) ⟨m, fun _ => 0, g⟩ (fun r =>
      (∀ c : Dev Cert.ExpertsIdeal.nD,
        r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
        ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
        ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
        ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
        ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
        ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0) :=
  (θ_run (Cert.ExpertsIdeal.defs (F := F)) _ _).mono (fun _ q => ⟨Experts.args_kept q.1, q.2⟩)
    (Experts.run_main m g (Experts.admits m T) T)

/-- The table when the region is entered is the argument, so the precondition makes it one of tiles. -/
theorem experts_tiles {F : FTy → Type} [FloatOps F] (m : (ℓ : Loc Cert.ExpertsIdeal.nD Cert.ExpertsIdeal.τ Cert.ExpertsIdeal.sig) → Buf (Elt F) ℓ)
    (T : Experts.Tiles (F := F) (m (((0 : Dev Cert.ExpertsIdeal.nD).tc : Thread Cert.ExpertsIdeal.nD Cert.ExpertsIdeal.τ).loc Cert.ExpertsIdeal.main_arg0))) :
    Experts.Tiles (Experts.words m) := by
  rw [Experts.words, Experts.V_kept m 0 Cert.ExpertsIdeal.main_arg0 (by decide) (by decide)]
  exact T

/-- The experts' procedures are the same in the program as printed and in its ideal copy, the floats being the same. -/
theorem procedures {F : FTy → Type} [FloatOps F] : Cert.Experts.defs (F := F) = Cert.ExpertsIdeal.defs (F := F) :=
  congrArg (Pipeline.defs Cert.ExpertsIdeal.pcfgs)
    (congrArg Defs.onTc (funext fun l => funext fun x => match l, x with | 0, (_, _) => rfl) :
      Cert.Experts.defs₀ (F := F) = Cert.ExpertsIdeal.defs₀ (F := F))

theorem frame_x : Cert.quiescent_Experts := fun m g h => by
  rw [procedures]
  exact experts_kept (F := Bits) m g (experts_tiles m (ExpertsTable.tiles _ _ _ _ _ _ (h 0)))

theorem frame_xi : Cert.quiescent_ExpertsIdeal := fun m g h =>
  experts_kept (F := Ideal) m g (experts_tiles m (ExpertsTable.tiles _ _ _ _ _ _ (h 0)))

theorem frame_yi : Cert.quiescent_ExpertsReferenceIdeal := fun m g _ =>
  (θ_run (Cert.ExpertsReferenceIdeal.defs (F := Ideal)) _ _).mono
    (fun r h => ⟨fun c => (h c).2, sem_eq_zero_of_no_sems (by decide) r.2⟩)
    (Cert.ExpertsReferenceIdeal.Value.run (F := Ideal) m g)

theorem frame_yi_pre : Cert.quiescent_ExpertsReferenceIdeal_pre_table_of_tiles := fun m g _ => frame_yi m g trivial

theorem algebraic_experts : Cert.algebraic_ExpertsIdeal_ExpertsReferenceIdeal_on_rows_used := fun m g m' g' h ha => by
  have T : Experts.Tiles (Experts.words m) := experts_tiles m (ExpertsTable.tiles _ _ _ _ _ _ (h 0))
  refine ⟨fun c => ExpertsRef.summed (m ((c.tc : Thread Cert.ExpertsIdeal.nD Cert.ExpertsIdeal.τ).loc Cert.ExpertsIdeal.main_arg0))
      (m ((c.tc : Thread Cert.ExpertsIdeal.nD Cert.ExpertsIdeal.τ).loc Cert.ExpertsIdeal.main_arg1))
      (m ((c.tc : Thread Cert.ExpertsIdeal.nD Cert.ExpertsIdeal.τ).loc Cert.ExpertsIdeal.main_arg2))
      (m ((c.tc : Thread Cert.ExpertsIdeal.nD Cert.ExpertsIdeal.τ).loc Cert.ExpertsIdeal.main_arg3))
      (m ((c.tc : Thread Cert.ExpertsIdeal.nD Cert.ExpertsIdeal.τ).loc Cert.ExpertsIdeal.main_arg4))
      (m ((c.tc : Thread Cert.ExpertsIdeal.nD Cert.ExpertsIdeal.τ).loc Cert.ExpertsIdeal.main_arg5)),
    (θ_run (Cert.ExpertsIdeal.defs (F := Ideal)) _ _).mono (fun _ q c => ⟨fun i hi => ?_, Experts.args_kept q.1 c⟩)
      (Experts.run_main (F := Ideal) m g (Experts.admits m T) T),
    (θ_run (Cert.ExpertsReferenceIdeal.defs (F := Ideal)) _ _).mono (fun _ q c => ⟨fun i _ => ?_, (q c).2⟩)
      (Cert.ExpertsReferenceIdeal.Value.run (F := Ideal) m' g')⟩
  · obtain ⟨t, y, z, rfl⟩ := ExpertsRef.place i
    obtain rfl : c = 0 := Subsingleton.elim _ _
    have hw : Experts.words m = m (((0 : Dev Cert.ExpertsIdeal.nD).tc : Thread Cert.ExpertsIdeal.nD Cert.ExpertsIdeal.τ).loc Cert.ExpertsIdeal.main_arg0) :=
      Experts.V_kept m 0 Cert.ExpertsIdeal.main_arg0 (by decide) (by decide)
    have hl := ExpertsRef.mask_live _ _ _ _ _ _ t y z hi
    rw [← hw] at hl
    show _ = ExpertsRef.summed (m (((0 : Dev Cert.ExpertsIdeal.nD).tc : Thread Cert.ExpertsIdeal.nD Cert.ExpertsIdeal.τ).loc Cert.ExpertsIdeal.main_arg0))
      _ _ _ _ _ _
    rw [← hw]
    exact (Experts.result_layers m q.1 0 t hl y z).trans (ExpertsRef.summed_apply _ _ _ _ _ _ t y z (T.expert _)).symm
  · obtain ⟨a0, a1, a2, a3, a4, a5⟩ := ha c
    have e := (q c).1
    rw [a0, a1, a2, a3, a4, a5] at e
    exact congrFun e i

theorem claim : Cert.Claim :=
  ⟨Cert.Kernel.Gen.facts, Cert.KernelIdeal.Gen.facts, Cert.ReferenceIdeal.Gen.facts, Cert.Reference.Gen.facts, Cert.Router.Gen.facts,
    Cert.RouterIdeal.Gen.facts, Cert.RouterReferenceIdeal.Gen.facts, Cert.Experts.Gen.facts, Cert.ExpertsIdeal.Gen.facts,
    Cert.ExpertsReferenceIdeal.Gen.facts, Cert.Pre_slots_in_range.Gen.facts, Cert.Pre_finite_inputs.Gen.facts, Cert.Pre_table_of_tiles.Gen.facts,
    Cert.On_rows_used.facts,
    frame_p, frame_pi, frame_ri, frame_ri_pre, frame_r, frame_q, frame_qi, frame_qi_pre, frame_si, frame_si_pre,
    frame_x, frame_xi, frame_yi, frame_yi_pre,
    trivial, algebraic, bitexact, trivial, algebraic_router, trivial, algebraic_experts⟩

end Cert.Proof

end
